-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "inv_width" .f32 0x3B2AAAAB#32 ((384⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_3)) (v4 : (c : Dev Cert.Kernel3Ideal.nD) → Buf (Elt Ideal) ((c.tc : Thread Cert.Kernel3Ideal.nD Cert.Kernel3Ideal.τ).loc Cert.Kernel3Ideal.main_v37_4)) (v5 : (c : Dev Cert.Kernel3Ideal.nD) → Buf (Elt Ideal) ((c.tc : Thread Cert.Kernel3Ideal.nD Cert.Kernel3Ideal.τ).loc Cert.Kernel3Ideal.main_v37_5)) (v6 : (c : Dev Cert.Kernel3Ideal.nD) → Buf (Elt Ideal) ((c.tc : Thread Cert.Kernel3Ideal.nD Cert.Kernel3Ideal.τ).loc Cert.Kernel3Ideal.main_v37_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_3) = v3 c
          ∧ r.2.mem ((c.tc : Thread Cert.Kernel3Ideal.nD Cert.Kernel3Ideal.τ).loc Cert.Kernel3Ideal.main_v37_4) = v4 c
          ∧ r.2.mem ((c.tc : Thread Cert.Kernel3Ideal.nD Cert.Kernel3Ideal.τ).loc Cert.Kernel3Ideal.main_v37_5) = v5 c
          ∧ r.2.mem ((c.tc : Thread Cert.Kernel3Ideal.nD Cert.Kernel3Ideal.τ).loc Cert.Kernel3Ideal.main_v37_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v200) = v0 c
          ∧ r.2.mem ((c.tc : Thread Cert.Reference3Ideal.nD Cert.Reference3Ideal.τ).loc Cert.Reference3Ideal.main_v201) = v1 c
          ∧ r.2.mem ((c.tc : Thread Cert.Reference3Ideal.nD Cert.Reference3Ideal.τ).loc Cert.Reference3Ideal.main_v202) = v2 c
          ∧ r.2.mem ((c.tc : Thread Cert.Reference3Ideal.nD Cert.Reference3Ideal.τ).loc Cert.Reference3Ideal.main_v203) = v3 c
          ∧ r.2.mem ((c.tc : Thread Cert.Reference3Ideal.nD Cert.Reference3Ideal.τ).loc Cert.Reference3Ideal.main_v204) = v4 c
          ∧ r.2.mem ((c.tc : Thread Cert.Reference3Ideal.nD Cert.Reference3Ideal.τ).loc Cert.Reference3Ideal.main_v205) = v5 c
          ∧ r.2.mem ((c.tc : Thread Cert.Reference3Ideal.nD Cert.Reference3Ideal.τ).loc Cert.Reference3Ideal.main_v206) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16896x384 : Shape := ⟨2, ![16896, 384]⟩
abbrev S16896x128 : Shape := ⟨2, ![16896, 128]⟩
abbrev S1x384 : Shape := ⟨2, ![1, 384]⟩
abbrev S16896x512 : Shape := ⟨2, ![16896, 512]⟩
abbrev S_ : Shape := ⟨0, ![]⟩

class Facts : Prop where
  concatenates_S16896x384_S16896x128_S16896x512_d1 : Shape.Concatenates [S16896x384, S16896x128] S16896x512 1
  bcast_S_S16896x512 : S_.BroadcastsInDim S16896x512 (![] : Fin 0 → Fin S16896x512.rank)

variable [Facts]

def fn {F : FTy → Type} [FloatOps F] (main_arg0 : FVec F S16896x384 .bf16) (main_arg1 : FVec F S16896x128 .bf16) (main_arg2 : FVec F S16896x128 .bf16) (main_arg3 : FVec F S1x384 .f32) : IVec S16896x512 1 :=
  let main_v0 : FVec F S16896x384 .bf16 := Host.absf main_arg0
  let main_v1 : FVec F S16896x128 .bf16 := Host.absf main_arg1
  let main_v2 : FVec F S16896x512 .bf16 := (fun a b => concatenate S16896x512 1 [⟨S16896x384, a⟩, ⟨S16896x128, b⟩] concatenates_S16896x384_S16896x128_S16896x512_d1) main_v0 main_v1
  let main_cst : FVec F S_ .bf16 := constant S_ .bf16 0x7F80#16
  let main_v3 : FVec F S16896x512 .bf16 := broadcastInDim S16896x512 ![] bcast_S_S16896x512 main_cst
  let main_v4 : IVec S16896x512 1 := cmpf .olt main_v2 main_v3
  main_v4
-- ==== Kernel.lean ====
abbrev S16896x384 : Shape := ⟨2, ![16896, 384]⟩
abbrev S16896x128 : Shape := ⟨2, ![16896, 128]⟩
abbrev S1x384 : Shape := ⟨2, ![1, 384]⟩
abbrev S256x384 : Shape := ⟨2, ![256, 384]⟩
abbrev S8192x128 : Shape := ⟨2, ![8192, 128]⟩
abbrev S256x128 : Shape := ⟨2, ![256, 128]⟩
abbrev S1536x128 : Shape := ⟨2, ![1536, 128]⟩
abbrev S1536x256 : Shape := ⟨2, ![1536, 256]⟩
abbrev S1536 : Shape := ⟨1, ![1536]⟩
abbrev S1536x1 : Shape := ⟨2, ![1536, 1]⟩
abbrev S512x128 : Shape := ⟨2, ![512, 128]⟩
abbrev S1536x512 : Shape := ⟨2, ![1536, 512]⟩
abbrev S256 : Shape := ⟨1, ![256]⟩
abbrev S256x1 : Shape := ⟨2, ![256, 1]⟩
abbrev S1x128 : Shape := ⟨2, ![1, 128]⟩

abbrev nBuf : Space → Nat
  | .hbm => 5
  | .vmem => 16
  | .smem => 0
  | _ => 0

abbrev bufTy : (tb : Table) → Fin (tcTables nBuf tb) → BufTy
  | .hbm, ⟨0, _⟩ => ⟨S16896x384, .bf16⟩
  | .hbm, ⟨1, _⟩ => ⟨S16896x128, .bf16⟩
  | .hbm, ⟨2, _⟩ => ⟨S16896x128, .bf16⟩
  | .hbm, ⟨3, _⟩ => ⟨S1x384, .f32⟩
  | .hbm, ⟨4, _⟩ => ⟨S16896x384, .bf16⟩
  | .local _ .vmem, ⟨0, _⟩ => ⟨S256x384, .bf16⟩
  | .local _ .vmem, ⟨1, _⟩ => ⟨S256x384, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x384, .f32⟩
  | .local _ .vmem, ⟨11, _⟩ => ⟨S256x384, .bf16⟩
  | .local _ .vmem, ⟨12, _⟩ => ⟨S256x384, .bf16⟩
  | .local _ .vmem, ⟨13, _⟩ => ⟨S1536x128, .f32⟩
  | .local _ .vmem, ⟨14, _⟩ => ⟨S1536x128, .f32⟩
  | .local _ .vmem, ⟨15, _⟩ => ⟨S1536x128, .f32⟩
  | _, _ => ⟨S16896x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c32_i32 : BitVec 32 := 32#32
  let v65 : BitVec 1 := Scalar.cmpi .slt arg1 c32_i32
  let v66 : BitVec 32 := Scalar.extui v65
  let c0_i32 : BitVec 32 := 0#32
  let v67 : BitVec 1 := Scalar.cmpi .ne v66 c0_i32
  v67

@[reducible] def k0_t1_loop : Scf.Loop 32 :=
  let c0_i32_57 : BitVec 32 := 0#32
  let c16_i32 : BitVec 32 := 16#32
  let v119 : BitVec 32 := Scalar.addi c0_i32_57 c16_i32
  let c1_i32 : BitVec 32 := 1#32
  ⟨c0_i32_57, v119, c1_i32⟩
def k0_mult1 (k0_t1 : Fin k0_t1_loop.trips) : BitVec 32 :=
  let c0_i32_57 : BitVec 32 := 0#32
  let c1_i32 : BitVec 32 := 1#32
  let arg12 : BitVec 32 := Scf.iv c0_i32_57 c1_i32 k0_t1
  let c512_i32 : BitVec 32 := 512#32
  let v120 : BitVec 32 := Scalar.muli arg12 c512_i32
  v120
def k0_off1 (k0_t1 : Fin k0_t1_loop.trips) : Fin 2 → Nat :=
  let c0_i32_57 : BitVec 32 := 0#32
  let c1_i32 : BitVec 32 := 1#32
  let arg12 : BitVec 32 := Scf.iv c0_i32_57 c1_i32 k0_t1
  let c512_i32 : BitVec 32 := 512#32
  let v120 : BitVec 32 := Scalar.muli arg12 c512_i32
  let v121 : BitVec 32 := v120
  let v122 : Index := Scalar.indexCast v121
  let c0_59 : Index := 0#32
  ![v122.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c32_i32_0 : BitVec 32 := 32#32
  let v1 : BitVec 32 := Scalar.muli arg0 c32_i32_0
  let v2 : BitVec 32 := Scalar.addi v1 arg1
  let c64_i32 : BitVec 32 := 64#32
  let v3 : BitVec 32 := Scalar.addi c64_i32 arg0
  let v4 : BitVec 32 := Scalar.select v0 v2 v3
  let c0_i32 : BitVec 32 := 0#32
  let c0_i32_1 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c32_i32_0 : BitVec 32 := 32#32
  let v1 : BitVec 32 := Scalar.muli arg0 c32_i32_0
  let v2 : BitVec 32 := Scalar.addi v1 arg1
  let c64_i32 : BitVec 32 := 64#32
  let v3 : BitVec 32 := Scalar.addi c64_i32 arg0
  let v4 : BitVec 32 := Scalar.select v0 v2 v3
  let c0_i32 : BitVec 32 := 0#32
  let c0_i32_1 : BitVec 32 := 0#32
  ![v4.toNat, c0_i32.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_width" => some ((384⁻¹ : ℝ) : EReal)
  | _ => none
-- ==== ReferenceIdeal.lean ====
abbrev S16896x384 : Shape := ⟨2, ![16896, 384]⟩
abbrev S16896x128 : Shape := ⟨2, ![16896, 128]⟩
abbrev S1x384 : Shape := ⟨2, ![1, 384]⟩
abbrev S16384x384 : Shape := ⟨2, ![16384, 384]⟩
abbrev S2x8192x3x2x64 : Shape := ⟨5, ![2, 8192, 3, 2, 64]⟩
abbrev S512x384 : Shape := ⟨2, ![512, 384]⟩
abbrev S2x256x3x2x64 : Shape := ⟨5, ![2, 256, 3, 2, 64]⟩
abbrev S16384x128 : Shape := ⟨2, ![16384, 128]⟩
abbrev S2x8192x2x64 : Shape := ⟨4, ![2, 8192, 2, 64]⟩
abbrev S512x128 : Shape := ⟨2, ![512, 128]⟩
abbrev S2x256x2x64 : Shape := ⟨4, ![2, 256, 2, 64]⟩
abbrev S2x8448x2x64 : Shape := ⟨4, ![2, 8448, 2, 64]⟩
abbrev S2x2x8448x8192x3 : Shape := ⟨5, ![2, 2, 8448, 8192, 3]⟩
abbrev S2x2x3x8192x8448 : Shape := ⟨5, ![2, 2, 3, 8192, 8448]⟩
abbrev S_ : Shape := ⟨0, ![]⟩
abbrev S2x2x3x8192 : Shape := ⟨4, ![2, 2, 3, 8192]⟩
abbrev S2x2x3x8192x1 : Shape := ⟨5, ![2, 2, 3, 8192, 1]⟩
abbrev S2x2x64x3x8192 : Shape := ⟨5, ![2, 2, 64, 3, 8192]⟩
abbrev S2x2x256x256x3 : Shape := ⟨5, ![2, 2, 256, 256, 3]⟩
abbrev S2x2x3x256x256 : Shape := ⟨5, ![2, 2, 3, 256, 256]⟩
abbrev S2x2x3x256 : Shape := ⟨4, ![2, 2, 3, 256]⟩
abbrev S2x2x3x256x1 : Shape := ⟨5, ![2, 2, 3, 256, 1]⟩
abbrev S2x2x64x3x256 : Shape := ⟨5, ![2, 2, 64, 3, 256]⟩
abbrev S16896 : Shape := ⟨1, ![16896]⟩
abbrev S16896x1 : Shape := ⟨2, ![16896, 1]⟩

abbrev nBuf : Space → Nat
  | .hbm => 76
  | .vmem => 0
  | .smem => 0
  | _ => 0

abbrev bufTy : (tb : Table) → Fin (tcTables nBuf tb) → BufTy
  | .hbm, ⟨0, _⟩ => ⟨S16896x384, .bf16⟩
  | .hbm, ⟨1, _⟩ => ⟨S16896x128, .bf16⟩
  | .hbm, ⟨2, _⟩ => ⟨S16896x128, .bf16⟩
  | .hbm, ⟨3, _⟩ => ⟨S1x384, .f32⟩
  | .hbm, ⟨4, _⟩ => ⟨S16896x384, .f32⟩
  | .hbm, ⟨5, _⟩ => ⟨S16384x384, .f32⟩
  | .hbm, ⟨6, _⟩ => ⟨S2x8192x3x2x64, .f32⟩
  | .hbm, ⟨7, _⟩ => ⟨S512x384, .f32⟩
  | .hbm, ⟨8, _⟩ => ⟨S2x256x3x2x64, .f32⟩
  | .hbm, ⟨9, _⟩ => ⟨S16896x128, .f32⟩
  | .hbm, ⟨10, _⟩ => ⟨S16384x128, .f32⟩
  | .hbm, ⟨11, _⟩ => ⟨S2x8192x2x64, .f32⟩
  | .hbm, ⟨12, _⟩ => ⟨S512x128, .f32⟩
  | .hbm, ⟨13, _⟩ => ⟨S2x256x2x64, .f32⟩
  | .hbm, ⟨14, _⟩ => ⟨S16896x128, .f32⟩
  | .hbm, ⟨15, _⟩ => ⟨S16384x128, .f32⟩
  | .hbm, ⟨16, _⟩ => ⟨S2x8192x2x64, .f32⟩
  | .hbm, ⟨17, _⟩ => ⟨S512x128, .f32⟩
  | .hbm, ⟨18, _⟩ => ⟨S2x256x2x64, .f32⟩
  | .hbm, ⟨19, _⟩ => ⟨S2x8448x2x64, .f32⟩
  | .hbm, ⟨20, _⟩ => ⟨S2x8448x2x64, .f32⟩
  | .hbm, ⟨21, _⟩ => ⟨S2x2x8448x8192x3, .f32⟩
  | .hbm, ⟨22, _⟩ => ⟨S2x2x3x8192x8448, .f32⟩
  | .hbm, ⟨23, _⟩ => ⟨S_, .f32⟩
  | .hbm, ⟨24, _⟩ => ⟨S2x2x3x8192, .f32⟩
  | .hbm, ⟨25, _⟩ => ⟨S_, .f32⟩
  | .hbm, ⟨26, _⟩ => ⟨S2x2x3x8192, .f32⟩
  | .hbm, ⟨27, _⟩ => ⟨S2x2x3x8192, .f32⟩
  | .hbm, ⟨28, _⟩ => ⟨S2x2x3x8192x1, .f32⟩
  | .hbm, ⟨29, _⟩ => ⟨S2x2x3x8192x8448, .f32⟩
  | .hbm, ⟨30, _⟩ => ⟨S2x2x3x8192x8448, .f32⟩
  | .hbm, ⟨31, _⟩ => ⟨S2x2x3x8192x8448, .f32⟩
  | .hbm, ⟨32, _⟩ => ⟨S_, .f32⟩
  | .hbm, ⟨33, _⟩ => ⟨S2x2x3x8192, .f32⟩
  | .hbm, ⟨34, _⟩ => ⟨S2x2x3x8192x1, .f32⟩
  | .hbm, ⟨35, _⟩ => ⟨S2x2x3x8192x8448, .f32⟩
  | .hbm, ⟨36, _⟩ => ⟨S2x2x3x8192x8448, .f32⟩
  | .hbm, ⟨37, _⟩ => ⟨S2x2x64x3x8192, .f32⟩
  | .hbm, ⟨38, _⟩ => ⟨S2x8192x3x2x64, .f32⟩
  | .hbm, ⟨39, _⟩ => ⟨S2x2x256x256x3, .f32⟩
  | .hbm, ⟨40, _⟩ => ⟨S2x2x3x256x256, .f32⟩
  | .hbm, ⟨41, _⟩ => ⟨S_, .f32⟩
  | .hbm, ⟨42, _⟩ => ⟨S2x2x3x256, .f32⟩
  | .hbm, ⟨43, _⟩ => ⟨S_, .f32⟩
  | .hbm, ⟨44, _⟩ => ⟨S2x2x3x256, .f32⟩
  | .hbm, ⟨45, _⟩ => ⟨S2x2x3x256, .f32⟩
  | .hbm, ⟨46, _⟩ => ⟨S2x2x3x256x1, .f32⟩
  | .hbm, ⟨47, _⟩ => ⟨S2x2x3x256x256, .f32⟩
  | .hbm, ⟨48, _⟩ => ⟨S2x2x3x256x256, .f32⟩
  | .hbm, ⟨49, _⟩ => ⟨S2x2x3x256x256, .f32⟩
  | .hbm, ⟨50, _⟩ => ⟨S_, .f32⟩
  | .hbm, ⟨51, _⟩ => ⟨S2x2x3x256, .f32⟩
  | .hbm, ⟨52, _⟩ => ⟨S2x2x3x256x1, .f32⟩
  | .hbm, ⟨53, _⟩ => ⟨S2x2x3x256x256, .f32⟩
  | .hbm, ⟨54, _⟩ => ⟨S2x2x3x256x256, .f32⟩
  | .hbm, ⟨55, _⟩ => ⟨S2x2x64x3x256, .f32⟩
  | .hbm, ⟨56, _⟩ => ⟨S2x256x3x2x64, .f32⟩
  | .hbm, ⟨57, _⟩ => ⟨S16384x384, .f32⟩
  | .hbm, ⟨58, _⟩ => ⟨S512x384, .f32⟩
  | .hbm, ⟨59, _⟩ => ⟨S16896x384, .f32⟩
  | .hbm, ⟨60, _⟩ => ⟨S16896x384, .f32⟩
  | .hbm, ⟨61, _⟩ => ⟨S_, .f32⟩
  | .hbm, ⟨62, _⟩ => ⟨S16896, .f32⟩
  | .hbm, ⟨63, _⟩ => ⟨S16896x1, .f32⟩
  | .hbm, ⟨64, _⟩ => ⟨S_, .f32⟩
  | .hbm, ⟨65, _⟩ => ⟨S16896x1, .f32⟩
  | .hbm, ⟨66, _⟩ => ⟨S16896x1, .f32⟩
  | .hbm, ⟨67, _⟩ => ⟨S_, .f32⟩
  | .hbm, ⟨68, _⟩ => ⟨S16896x1, .f32⟩
  | .hbm, ⟨69, _⟩ => ⟨S16896x1, .f32⟩
  | .hbm, ⟨70, _⟩ => ⟨S16896x1, .f32⟩
  | .hbm, ⟨71, _⟩ => ⟨S16896x384, .f32⟩
  | .hbm, ⟨72, _⟩ => ⟨S16896x384, .f32⟩
  | .hbm, ⟨73, _⟩ => ⟨S16896x384, .f32⟩
  | .hbm, ⟨74, _⟩ => ⟨S16896x384, .f32⟩
  | .hbm, ⟨75, _⟩ => ⟨S16896x384, .bf16⟩
  | _, _ => ⟨S16896x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== Kernel2.lean ====
abbrev S16896x384 : Shape := ⟨2, ![16896, 384]⟩
abbrev S16896x256 : Shape := ⟨2, ![16896, 256]⟩
abbrev S16896x1024 : Shape := ⟨2, ![16896, 1024]⟩
abbrev S3x6144 : Shape := ⟨2, ![3, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S3x1x6144 : Shape := ⟨3, ![3, 1, 6144]⟩
abbrev S1x1024 : Shape := ⟨2, ![1, 1024]⟩
abbrev S512x384 : Shape := ⟨2, ![512, 384]⟩
abbrev S512x256 : Shape := ⟨2, ![512, 256]⟩
abbrev S512x1024 : Shape := ⟨2, ![512, 1024]⟩
abbrev S1x1x6144 : Shape := ⟨3, ![1, 1, 6144]⟩
abbrev S384x1024 : Shape := ⟨2, ![384, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x256x1024 : Shape := ⟨3, ![1, 256, 1024]⟩

abbrev nBuf : Space → Nat
  | .hbm => 29
  | .vmem => 22
  | .smem => 0
  | _ => 0

abbrev bufTy : (tb : Table) → Fin (tcTables nBuf tb) → BufTy
  | .hbm, ⟨0, _⟩ => ⟨S16896x384, .bf16⟩
  | .hbm, ⟨1, _⟩ => ⟨S16896x256, .bf16⟩
  | .hbm, ⟨2, _⟩ => ⟨S16896x384, .bf16⟩
  | .hbm, ⟨3, _⟩ => ⟨S16896x1024, .f32⟩
  | .hbm, ⟨4, _⟩ => ⟨S3x6144, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S1024x2816, .f32⟩
  | .hbm, ⟨13, _⟩ => ⟨S1024x11x256, .f32⟩
  | .hbm, ⟨14, _⟩ => ⟨S11x1024x256, .f32⟩
  | .hbm, ⟨15, _⟩ => ⟨S11x1024x256, .bf16⟩
  | .hbm, ⟨16, _⟩ => ⟨S1024x2816, .f32⟩
  | .hbm, ⟨17, _⟩ => ⟨S1024x11x256, .f32⟩
  | .hbm, ⟨18, _⟩ => ⟨S11x1024x256, .f32⟩
  | .hbm, ⟨19, _⟩ => ⟨S11x1024x256, .bf16⟩
  | .hbm, ⟨20, _⟩ => ⟨S11x256x1024, .f32⟩
  | .hbm, ⟨21, _⟩ => ⟨S11x256x1024, .bf16⟩
  | .hbm, ⟨22, _⟩ => ⟨S3x1x6144, .f32⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S16896x1024, .f32⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x1024, .f32⟩
  | .local _ .vmem, ⟨7, _⟩ => ⟨S512x1024, .f32⟩
  | .local _ .vmem, ⟨8, _⟩ => ⟨S1x1x6144, .f32⟩
  | .local _ .vmem, ⟨9, _⟩ => ⟨S1x1x6144, .f32⟩
  | .local _ .vmem, ⟨10, _⟩ => ⟨S1024x1024, .bf16⟩
  | .local _ .vmem, ⟨11, _⟩ => ⟨S11x1024x256, .bf16⟩
  | .local _ .vmem, ⟨12, _⟩ => ⟨S11x1024x256, .bf16⟩
  | .local _ .vmem, ⟨13, _⟩ => ⟨S11x256x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S16896x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32 : BitVec 32 := 0#32
  let c11_i32 : BitVec 32 := 11#32
  let v80 : BitVec 32 := Scalar.addi c0_i32 c11_i32
  let c1_i32 : BitVec 32 := 1#32
  ⟨c0_i32, v80, c1_i32⟩
def k0_off1 (k0_t1 : Fin k0_t1_loop.trips) : Fin 3 → Nat :=
  let c0_i32 : BitVec 32 := 0#32
  let c1_i32 : BitVec 32 := 1#32
  let arg17 : BitVec 32 := Scf.iv c0_i32 c1_i32 k0_t1
  let v115 : Index := Scalar.indexCast arg17
  let c0_59 : Index := 0#32
  let c0_60 : Index := 0#32
  ![v115.toNat, 0, 0]
def k0_off2 (k0_t1 : Fin k0_t1_loop.trips) : Fin 3 → Nat :=
  let c0_i32 : BitVec 32 := 0#32
  let c1_i32 : BitVec 32 := 1#32
  let arg17 : BitVec 32 := Scf.iv c0_i32 c1_i32 k0_t1
  let v134 : Index := Scalar.indexCast arg17
  let c0_70 : Index := 0#32
  let c0_71 : Index := 0#32
  ![v134.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16896x384 : Shape := ⟨2, ![16896, 384]⟩
abbrev S16896x256 : Shape := ⟨2, ![16896, 256]⟩
abbrev S16896x1024 : Shape := ⟨2, ![16896, 1024]⟩
abbrev S3x6144 : Shape := ⟨2, ![3, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S3x1024 : Shape := ⟨2, ![3, 1024]⟩
abbrev S1x1024 : Shape := ⟨2, ![1, 1024]⟩
abbrev S512x1024 : Shape := ⟨2, ![512, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S_ : Shape := ⟨0, ![]⟩
abbrev S16896 : Shape := ⟨1, ![16896]⟩
abbrev S16896x1 : Shape := ⟨2, ![16896, 1]⟩
abbrev S1024x2816 : Shape := ⟨2, ![1024, 2816]⟩
abbrev S16896x2816 : Shape := ⟨2, ![16896, 2816]⟩

abbrev nBuf : Space → Nat
  | .hbm => 162
  | .vmem => 0
  | .smem => 0
  | _ => 0

abbrev hbmTy0_0 (i : Nat) : BufTy := match i % 128 with
  | 0 => ⟨S16896x384, .bf16⟩
  | 1 => ⟨S16896x256, .bf16⟩
  | 2 => ⟨S16896x384, .bf16⟩
  | 3 => ⟨S16896x1024, .f32⟩
  | 4 => ⟨S3x6144, .f32⟩
  | 5 => ⟨S1024x1024, .f32⟩
  | 6 => ⟨S1024, .f32⟩
  | 7 => ⟨S1024, .f32⟩
  | 8 => ⟨S1024x5632, .f32⟩
  | 9 => ⟨S2816x1024, .f32⟩
  | 10 => ⟨S1024, .f32⟩
  | 11 => ⟨S1024, .f32⟩
  | 12 => ⟨S3x1024, .f32⟩
  | 13 => ⟨S1x1024, .f32⟩
  | 14 => ⟨S1024, .f32⟩
  | 15 => ⟨S512x1024, .f32⟩
  | 16 => ⟨S2x1024, .f32⟩
  | 17 => ⟨S2x1x1024, .f32⟩
  | 18 => ⟨S2x8192x1024, .f32⟩
  | 19 => ⟨S16384x1024, .f32⟩
  | 20 => ⟨S16896x1024, .f32⟩
  | 21 => ⟨S3x1024, .f32⟩
  | 22 => ⟨S1x1024, .f32⟩
  | 23 => ⟨S1024, .f32⟩
  | 24 => ⟨S512x1024, .f32⟩
  | 25 => ⟨S2x1024, .f32⟩
  | 26 => ⟨S2x1x1024, .f32⟩
  | 27 => ⟨S2x8192x1024, .f32⟩
  | 28 => ⟨S16384x1024, .f32⟩
  | 29 => ⟨S16896x1024, .f32⟩
  | 30 => ⟨S3x1024, .f32⟩
  | 31 => ⟨S1x1024, .f32⟩
  | 32 => ⟨S1024, .f32⟩
  | 33 => ⟨S512x1024, .f32⟩
  | 34 => ⟨S2x1024, .f32⟩
  | 35 => ⟨S2x1x1024, .f32⟩
  | 36 => ⟨S2x8192x1024, .f32⟩
  | 37 => ⟨S16384x1024, .f32⟩
  | 38 => ⟨S16896x1024, .f32⟩
  | 39 => ⟨S3x1024, .f32⟩
  | 40 => ⟨S1x1024, .f32⟩
  | 41 => ⟨S1024, .f32⟩
  | 42 => ⟨S512x1024, .f32⟩
  | 43 => ⟨S2x1024, .f32⟩
  | 44 => ⟨S2x1x1024, .f32⟩
  | 45 => ⟨S2x8192x1024, .f32⟩
  | 46 => ⟨S16384x1024, .f32⟩
  | 47 => ⟨S16896x1024, .f32⟩
  | 48 => ⟨S16896x1024, .bf16⟩
  | 49 => ⟨S16896x1024, .f32⟩
  | 50 => ⟨S16896x1024, .f32⟩
  | 51 => ⟨S_, .f32⟩
  | 52 => ⟨S16896x1024, .f32⟩
  | 53 => ⟨S16896x1024, .f32⟩
  | 54 => ⟨S16896x1024, .f32⟩
  | 55 => ⟨S16896x1024, .f32⟩
  | 56 => ⟨S_, .f32⟩
  | 57 => ⟨S16896, .f32⟩
  | 58 => ⟨S16896x1, .f32⟩
  | 59 => ⟨S_, .f32⟩
  | 60 => ⟨S16896x1, .f32⟩
  | 61 => ⟨S16896x1, .f32⟩
  | 62 => ⟨S16896x1024, .f32⟩
  | 63 => ⟨S16896x1024, .f32⟩
  | 64 => ⟨S16896x1024, .f32⟩
  | 65 => ⟨S_, .f32⟩
  | 66 => ⟨S16896, .f32⟩
  | 67 => ⟨S16896x1, .f32⟩
  | 68 => ⟨S_, .f32⟩
  | 69 => ⟨S16896x1, .f32⟩
  | 70 => ⟨S16896x1, .f32⟩
  | 71 => ⟨S16896x1024, .f32⟩
  | 72 => ⟨S16896x1024, .f32⟩
  | 73 => ⟨S_, .f32⟩
  | 74 => ⟨S16896x1, .f32⟩
  | 75 => ⟨S16896x1, .f32⟩
  | 76 => ⟨S16896x1, .f32⟩
  | 77 => ⟨S16896x1024, .f32⟩
  | 78 => ⟨S16896x1024, .f32⟩
  | 79 => ⟨S1x1024, .f32⟩
  | 80 => ⟨S16896x1024, .f32⟩
  | 81 => ⟨S16896x1024, .f32⟩
  | 82 => ⟨S1x1024, .f32⟩
  | 83 => ⟨S16896x1024, .f32⟩
  | 84 => ⟨S16896x1024, .f32⟩
  | 85 => ⟨S_, .f32⟩
  | 86 => ⟨S16896, .f32⟩
  | 87 => ⟨S16896x1, .f32⟩
  | 88 => ⟨S_, .f32⟩
  | 89 => ⟨S16896x1, .f32⟩
  | 90 => ⟨S16896x1, .f32⟩
  | 91 => ⟨S16896x1024, .f32⟩
  | 92 => ⟨S16896x1024, .f32⟩
  | 93 => ⟨S16896x1024, .f32⟩
  | 94 => ⟨S_, .f32⟩
  | 95 => ⟨S16896, .f32⟩
  | 96 => ⟨S16896x1, .f32⟩
  | 97 => ⟨S_, .f32⟩
  | 98 => ⟨S16896x1, .f32⟩
  | 99 => ⟨S16896x1, .f32⟩
  | 100 => ⟨S16896x1024, .f32⟩
  | 101 => ⟨S16896x1024, .f32⟩
  | 102 => ⟨S_, .f32⟩
  | 103 => ⟨S16896x1, .f32⟩
  | 104 => ⟨S16896x1, .f32⟩
  | 105 => ⟨S16896x1, .f32⟩
  | 106 => ⟨S16896x1024, .f32⟩
  | 107 => ⟨S16896x1024, .f32⟩
  | 108 => ⟨S_, .f32⟩
  | 109 => ⟨S16896x1024, .f32⟩
  | 110 => ⟨S16896x1024, .f32⟩
  | 111 => ⟨S16896x1024, .f32⟩
  | 112 => ⟨S16896x1024, .f32⟩
  | 113 => ⟨S_, .f32⟩
  | 114 => ⟨S16896x1024, .f32⟩
  | 115 => ⟨S16896x1024, .f32⟩
  | 116 => ⟨S1024x2816, .f32⟩
  | 117 => ⟨S16896x2816, .f32⟩
  | 118 => ⟨S1024x2816, .f32⟩
  | 119 => ⟨S16896x2816, .f32⟩
  | 120 => ⟨S16896x2816, .f32⟩
  | 121 => ⟨S16896x2816, .f32⟩
  | 122 => ⟨S_, .f32⟩
  | 123 => ⟨S16896x2816, .f32⟩
  | 124 => ⟨S16896x2816, .f32⟩
  | 125 => ⟨S_, .f32⟩
  | 126 => ⟨S16896x2816, .f32⟩
  | 127 => ⟨S16896x2816, .f32⟩
  | _ => ⟨S16896x384, .bf16⟩

abbrev hbmTy0_1 (i : Nat) : BufTy := match i % 128 with
  | 0 => ⟨S16896x2816, .f32⟩
  | 1 => ⟨S16896x2816, .f32⟩
  | 2 => ⟨S16896x1024, .f32⟩
  | 3 => ⟨S16896x1024, .f32⟩
  | 4 => ⟨S16896x1024, .f32⟩
  | 5 => ⟨S_, .f32⟩
  | 6 => ⟨S16896, .f32⟩
  | 7 => ⟨S16896x1, .f32⟩
  | 8 => ⟨S_, .f32⟩
  | 9 => ⟨S16896x1, .f32⟩
  | 10 => ⟨S16896x1, .f32⟩
  | 11 => ⟨S16896x1024, .f32⟩
  | 12 => ⟨S16896x1024, .f32⟩
  | 13 => ⟨S16896x1024, .f32⟩
  | 14 => ⟨S_, .f32⟩
  | 15 => ⟨S16896, .f32⟩
  | 16 => ⟨S16896x1, .f32⟩
  | 17 => ⟨S_, .f32⟩
  | 18 => ⟨S16896x1, .f32⟩
  | 19 => ⟨S16896x1, .f32⟩
  | 20 => ⟨S16896x1024, .f32⟩
  | 21 => ⟨S16896x1024, .f32⟩
  | 22 => ⟨S_, .f32⟩
  | 23 => ⟨S16896x1, .f32⟩
  | 24 => ⟨S16896x1, .f32⟩
  | 25 => ⟨S16896x1, .f32⟩
  | 26 => ⟨S16896x1024, .f32⟩
  | 27 => ⟨S16896x1024, .f32⟩
  | 28 => ⟨S1x1024, .f32⟩
  | 29 => ⟨S16896x1024, .f32⟩
  | 30 => ⟨S16896x1024, .f32⟩
  | 31 => ⟨S1x1024, .f32⟩
  | 32 => ⟨S16896x1024, .f32⟩
  | 33 => ⟨S16896x1024, .f32⟩
  | _ => ⟨S16896x384, .bf16⟩

abbrev hbmTy (i : Nat) : BufTy := match i / 128 with
  | 0 => hbmTy0_0 i
  | 1 => hbmTy0_1 i
  | _ => ⟨S16896x384, .bf16⟩

abbrev bufTy : (tb : Table) → Fin (tcTables nBuf tb) → BufTy
  | .hbm, ⟨i, _⟩ => hbmTy i
  | _, _ => ⟨S16896x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_0 : Ref sig .tc := ⟨.hbm, 56, rfl⟩
abbrev main_v43 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_2 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_4 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_5 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_cst_8 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_9 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_11 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_call0_v0 : Ref sig .tc := ⟨.hbm, 120, rfl⟩
abbrev main_call0_v1 : Ref sig .tc := ⟨.hbm, 121, rfl⟩
abbrev main_call0_cst : Ref sig .tc := ⟨.hbm, 122, rfl⟩
abbrev main_call0_v2 : Ref sig .tc := ⟨.hbm, 123, rfl⟩
abbrev main_call0_v3 : Ref sig .tc := ⟨.hbm, 124, rfl⟩
abbrev main_call0_cst_0 : Ref sig .tc := ⟨.hbm, 125, rfl⟩
abbrev main_call0_v4 : Ref sig .tc := ⟨.hbm, 126, rfl⟩
abbrev main_call0_v5 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_12 : Ref sig .tc := ⟨.hbm, 133, rfl⟩
abbrev main_v100 : Ref sig .tc := ⟨.hbm, 134, rfl⟩
abbrev main_v101 : Ref sig .tc := ⟨.hbm, 135, rfl⟩
abbrev main_cst_13 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_14 : Ref sig .tc := ⟨.hbm, 142, rfl⟩
abbrev main_v107 : Ref sig .tc := ⟨.hbm, 143, rfl⟩
abbrev main_v108 : Ref sig .tc := ⟨.hbm, 144, rfl⟩
abbrev main_cst_15 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_16 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩

abbrev nD : Nat := 1
abbrev τ : Topo := Topo.v7x

variable {F : FTy → Type} [FloatOps F]
-- ==== Kernel3.lean ====
abbrev S16896x1024 : Shape := ⟨2, ![16896, 1024]⟩
abbrev S3x6144 : Shape := ⟨2, ![3, 6144]⟩
abbrev S1024x2304 : Shape := ⟨2, ![1024, 2304]⟩
abbrev S8192x2x16 : Shape := ⟨3, ![8192, 2, 16]⟩
abbrev S4x128x128 : Shape := ⟨3, ![4, 128, 128]⟩
abbrev S4x128 : Shape := ⟨2, ![4, 128]⟩
abbrev S256 : Shape := ⟨1, ![256]⟩
abbrev S64 : Shape := ⟨1, ![64]⟩
abbrev S2 : Shape := ⟨1, ![2]⟩
abbrev S128x4x128 : Shape := ⟨3, ![128, 4, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8192x2x1x16 : Shape := ⟨4, ![8192, 2, 1, 16]⟩
abbrev S8192x2x2x16 : Shape := ⟨4, ![8192, 2, 2, 16]⟩
abbrev S8192x64 : Shape := ⟨2, ![8192, 64]⟩
abbrev S1x1x2x1 : Shape := ⟨4, ![1, 1, 2, 1]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S_ : Shape := ⟨0, ![]⟩
abbrev S512x128 : Shape := ⟨2, ![512, 128]⟩
abbrev S8704x128 : Shape := ⟨2, ![8704, 128]⟩
abbrev S3x1x6144 : Shape := ⟨3, ![3, 1, 6144]⟩
abbrev S1x256 : Shape := ⟨2, ![1, 256]⟩
abbrev S16896x384 : Shape := ⟨2, ![16896, 384]⟩
abbrev S16896x256 : Shape := ⟨2, ![16896, 256]⟩
abbrev S16896x128 : Shape := ⟨2, ![16896, 128]⟩
abbrev S512x1024 : Shape := ⟨2, ![512, 1024]⟩
abbrev S1x1x6144 : Shape := ⟨3, ![1, 1, 6144]⟩
abbrev S512x384 : Shape := ⟨2, ![512, 384]⟩
abbrev S512x256 : Shape := ⟨2, ![512, 256]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x384 : Shape := ⟨2, ![1024, 384]⟩
abbrev S1024x256 : Shape := ⟨2, ![1024, 256]⟩
abbrev S128x1 : Shape := ⟨2, ![128, 1]⟩
abbrev S1024x128 : Shape := ⟨2, ![1024, 128]⟩

abbrev nBuf : Space → Nat
  | .hbm => 58
  | .vmem => 29
  | .smem => 0
  | _ => 0

abbrev bufTy : (tb : Table) → Fin (tcTables nBuf tb) → BufTy
  | .hbm, ⟨0, _⟩ => ⟨S16896x1024, .f32⟩
  | .hbm, ⟨1, _⟩ => ⟨S3x6144, .f32⟩
  | .hbm, ⟨2, _⟩ => ⟨S1024x2304, .f32⟩
  | .hbm, ⟨3, _⟩ => ⟨S8192x2x16, .f32⟩
  | .hbm, ⟨4, _⟩ => ⟨S8192x2x16, .f32⟩
  | .hbm, ⟨5, _⟩ => ⟨S4x128x128, .f32⟩
  | .hbm, ⟨6, _⟩ => ⟨S4x128, .f32⟩
  | .hbm, ⟨7, _⟩ => ⟨S256, .f32⟩
  | .hbm, ⟨8, _⟩ => ⟨S64, .f32⟩
  | .hbm, ⟨9, _⟩ => ⟨S64, .f32⟩
  | .hbm, ⟨10, _⟩ => ⟨S256, .f32⟩
  | .hbm, ⟨11, _⟩ => ⟨S2, .f32⟩
  | .hbm, ⟨12, _⟩ => ⟨S128x4x128, .f32⟩
  | .hbm, ⟨13, _⟩ => ⟨S128x512, .f32⟩
  | .hbm, ⟨14, _⟩ => ⟨S128x512, .bf16⟩
  | .hbm, ⟨15, _⟩ => ⟨S128x4, .f32⟩
  | .hbm, ⟨16, _⟩ => ⟨S128x4x64, .f32⟩
  | .hbm, ⟨17, _⟩ => ⟨S128x256, .f32⟩
  | .hbm, ⟨18, _⟩ => ⟨S1x64, .f32⟩
  | .hbm, ⟨19, _⟩ => ⟨S2x64, .f32⟩
  | .hbm, ⟨20, _⟩ => ⟨S128, .f32⟩
  | .hbm, ⟨21, _⟩ => ⟨S1x128, .f32⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S1x128, .f32⟩
  | .hbm, ⟨26, _⟩ => ⟨S8192x2x1x16, .f32⟩
  | .hbm, ⟨27, _⟩ => ⟨S8192x2x1x16, .f32⟩
  | .hbm, ⟨28, _⟩ => ⟨S8192x2x2x16, .f32⟩
  | .hbm, ⟨29, _⟩ => ⟨S8192x64, .f32⟩
  | .hbm, ⟨30, _⟩ => ⟨S1x1x2x1, .f32⟩
  | .hbm, ⟨31, _⟩ => ⟨S8192x2x2x16, .f32⟩
  | .hbm, ⟨32, _⟩ => ⟨S8192x2x2x16, .f32⟩
  | .hbm, ⟨33, _⟩ => ⟨S8192x2x2x16, .f32⟩
  | .hbm, ⟨34, _⟩ => ⟨S8192x64, .f32⟩
  | .hbm, ⟨35, _⟩ => ⟨S1x8192x1x64, .f32⟩
  | .hbm, ⟨36, _⟩ => ⟨S1x8192x2x64, .f32⟩
  | .hbm, ⟨37, _⟩ => ⟨S8192x128, .f32⟩
  | .hbm, ⟨38, _⟩ => ⟨S_, .f32⟩
  | .hbm, ⟨39, _⟩ => ⟨S512x128, .f32⟩
  | .hbm, ⟨40, _⟩ => ⟨S8704x128, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S_, .f32⟩
  | .hbm, ⟨45, _⟩ => ⟨S512x128, .f32⟩
  | .hbm, ⟨46, _⟩ => ⟨S8704x128, .f32⟩
  | .hbm, ⟨47, _⟩ => ⟨S3x1x6144, .f32⟩
  | .hbm, ⟨48, _⟩ => ⟨S1024x2304, .bf16⟩
  | .hbm, ⟨49, _⟩ => ⟨S1x256, .f32⟩
  | .hbm, ⟨50, _⟩ => ⟨S1x256, .f32⟩
  | .hbm, ⟨51, _⟩ => ⟨S16896x384, .bf16⟩
  | .hbm, ⟨52, _⟩ => ⟨S16896x384, .bf16⟩
  | .hbm, ⟨53, _⟩ => ⟨S16896x384, .bf16⟩
  | .hbm, ⟨54, _⟩ => ⟨S16896x256, .bf16⟩
  | .hbm, ⟨55, _⟩ => ⟨S16896x384, .bf16⟩
  | .hbm, ⟨56, _⟩ => ⟨S16896x128, .bf16⟩
  | .hbm, ⟨57, _⟩ => ⟨S16896x128, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x2304, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S128x512, .bf16⟩
  | .local _ .vmem, ⟨10, _⟩ => ⟨S128x256, .f32⟩
  | .local _ .vmem, ⟨11, _⟩ => ⟨S1x256, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S512x384, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S512x256, .bf16⟩
  | .local _ .vmem, ⟨22, _⟩ => ⟨S512x256, .bf16⟩
  | .local _ .vmem, ⟨23, _⟩ => ⟨S512x384, .bf16⟩
  | .local _ .vmem, ⟨24, _⟩ => ⟨S512x384, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_v37_3 : Ref sig .tc := ⟨.hbm, 54, rfl⟩
abbrev main_v37_4 : Ref sig .tc := ⟨.hbm, 55, rfl⟩
abbrev main_v37_5 : Ref sig .tc := ⟨.hbm, 56, rfl⟩
abbrev main_v37_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16896x1024 : Shape := ⟨2, ![16896, 1024]⟩
abbrev S3x6144 : Shape := ⟨2, ![3, 6144]⟩
abbrev S1024x2304 : Shape := ⟨2, ![1024, 2304]⟩
abbrev S8192x2x16 : Shape := ⟨3, ![8192, 2, 16]⟩
abbrev S4x128x128 : Shape := ⟨3, ![4, 128, 128]⟩
abbrev S4x128 : Shape := ⟨2, ![4, 128]⟩
abbrev S256 : Shape := ⟨1, ![256]⟩
abbrev S64 : Shape := ⟨1, ![64]⟩
abbrev S_ : Shape := ⟨0, ![]⟩
abbrev S16896 : Shape := ⟨1, ![16896]⟩
abbrev S16896x1 : Shape := ⟨2, ![16896, 1]⟩
abbrev S3x1024 : Shape := ⟨2, ![3, 1024]⟩
abbrev S1x1024 : Shape := ⟨2, ![1, 1024]⟩
abbrev S1024 : Shape := ⟨1, ![1024]⟩
abbrev S512x1024 : Shape := ⟨2, ![512, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S16896x2304 : Shape := ⟨2, ![16896, 2304]⟩
abbrev S16896x384 : Shape := ⟨2, ![16896, 384]⟩
abbrev S16896x512 : Shape := ⟨2, ![16896, 512]⟩
abbrev S16896x128 : Shape := ⟨2, ![16896, 128]⟩
abbrev S16896x256 : Shape := ⟨2, ![16896, 256]⟩
abbrev S1x256 : Shape := ⟨2, ![1, 256]⟩
abbrev S132x128x4x64 : Shape := ⟨4, ![132, 128, 4, 64]⟩
abbrev S4x132x64x128 : Shape := ⟨4, ![4, 132, 64, 128]⟩
abbrev S128x4 : Shape := ⟨2, ![128, 4]⟩
abbrev S1x128x4x1 : Shape := ⟨4, ![1, 128, 4, 1]⟩
abbrev S16896x6x64 : Shape := ⟨3, ![16896, 6, 64]⟩
abbrev S16896x6 : Shape := ⟨2, ![16896, 6]⟩
abbrev S16896x6x1 : Shape := ⟨3, ![16896, 6, 1]⟩
abbrev S1x1x64 : Shape := ⟨3, ![1, 1, 64]⟩
abbrev S16384x6x64 : Shape := ⟨3, ![16384, 6, 64]⟩
abbrev S2x8192x6x64 : Shape := ⟨4, ![2, 8192, 6, 64]⟩
abbrev S2x8192x6x2x2x16 : Shape := ⟨6, ![2, 8192, 6, 2, 2, 16]⟩
abbrev S2x8192x6x2x1x16 : Shape := ⟨6, ![2, 8192, 6, 2, 1, 16]⟩
abbrev S2x8192x6x2x16 : Shape := ⟨5, ![2, 8192, 6, 2, 16]⟩
abbrev S8192x1x2x16 : Shape := ⟨4, ![8192, 1, 2, 16]⟩
abbrev S1x8192x1x2x16 : Shape := ⟨5, ![1, 8192, 1, 2, 16]⟩
abbrev S512x6x64 : Shape := ⟨3, ![512, 6, 64]⟩
abbrev S16896x2x64 : Shape := ⟨3, ![16896, 2, 64]⟩
abbrev S16896x2 : Shape := ⟨2, ![16896, 2]⟩
abbrev S16896x2x1 : Shape := ⟨3, ![16896, 2, 1]⟩
abbrev S16384x2x64 : Shape := ⟨3, ![16384, 2, 64]⟩
abbrev S2x8192x2x64 : Shape := ⟨4, ![2, 8192, 2, 64]⟩
abbrev S2x8192x2x2x2x16 : Shape := ⟨6, ![2, 8192, 2, 2, 2, 16]⟩
abbrev S2x8192x2x2x1x16 : Shape := ⟨6, ![2, 8192, 2, 2, 1, 16]⟩
abbrev S2x8192x2x2x16 : Shape := ⟨5, ![2, 8192, 2, 2, 16]⟩
abbrev S512x2x64 : Shape := ⟨3, ![512, 2, 64]⟩

abbrev nBuf : Space → Nat
  | .hbm => 244
  | .vmem => 0
  | .smem => 0
  | _ => 0

abbrev hbmTy0_0 (i : Nat) : BufTy := match i % 128 with
  | 0 => ⟨S16896x1024, .f32⟩
  | 1 => ⟨S3x6144, .f32⟩
  | 2 => ⟨S1024x2304, .f32⟩
  | 3 => ⟨S8192x2x16, .f32⟩
  | 4 => ⟨S8192x2x16, .f32⟩
  | 5 => ⟨S4x128x128, .f32⟩
  | 6 => ⟨S4x128, .f32⟩
  | 7 => ⟨S256, .f32⟩
  | 8 => ⟨S64, .f32⟩
  | 9 => ⟨S64, .f32⟩
  | 10 => ⟨S256, .f32⟩
  | 11 => ⟨S_, .f32⟩
  | 12 => ⟨S16896, .f32⟩
  | 13 => ⟨S16896x1, .f32⟩
  | 14 => ⟨S_, .f32⟩
  | 15 => ⟨S16896x1, .f32⟩
  | 16 => ⟨S16896x1, .f32⟩
  | 17 => ⟨S16896x1024, .f32⟩
  | 18 => ⟨S16896x1024, .f32⟩
  | 19 => ⟨S16896x1024, .f32⟩
  | 20 => ⟨S_, .f32⟩
  | 21 => ⟨S16896, .f32⟩
  | 22 => ⟨S16896x1, .f32⟩
  | 23 => ⟨S_, .f32⟩
  | 24 => ⟨S16896x1, .f32⟩
  | 25 => ⟨S16896x1, .f32⟩
  | 26 => ⟨S16896x1024, .f32⟩
  | 27 => ⟨S16896x1024, .f32⟩
  | 28 => ⟨S_, .f32⟩
  | 29 => ⟨S16896x1, .f32⟩
  | 30 => ⟨S16896x1, .f32⟩
  | 31 => ⟨S16896x1, .f32⟩
  | 32 => ⟨S16896x1024, .f32⟩
  | 33 => ⟨S16896x1024, .f32⟩
  | 34 => ⟨S3x1024, .f32⟩
  | 35 => ⟨S1x1024, .f32⟩
  | 36 => ⟨S1024, .f32⟩
  | 37 => ⟨S512x1024, .f32⟩
  | 38 => ⟨S2x1024, .f32⟩
  | 39 => ⟨S2x1x1024, .f32⟩
  | 40 => ⟨S2x8192x1024, .f32⟩
  | 41 => ⟨S16384x1024, .f32⟩
  | 42 => ⟨S16896x1024, .f32⟩
  | 43 => ⟨S_, .f32⟩
  | 44 => ⟨S16896x1024, .f32⟩
  | 45 => ⟨S16896x1024, .f32⟩
  | 46 => ⟨S16896x1024, .f32⟩
  | 47 => ⟨S3x1024, .f32⟩
  | 48 => ⟨S1x1024, .f32⟩
  | 49 => ⟨S1024, .f32⟩
  | 50 => ⟨S512x1024, .f32⟩
  | 51 => ⟨S2x1024, .f32⟩
  | 52 => ⟨S2x1x1024, .f32⟩
  | 53 => ⟨S2x8192x1024, .f32⟩
  | 54 => ⟨S16384x1024, .f32⟩
  | 55 => ⟨S16896x1024, .f32⟩
  | 56 => ⟨S16896x1024, .f32⟩
  | 57 => ⟨S16896x2304, .f32⟩
  | 58 => ⟨S16896x384, .f32⟩
  | 59 => ⟨S16896x384, .f32⟩
  | 60 => ⟨S16896x384, .f32⟩
  | 61 => ⟨S16896x512, .f32⟩
  | 62 => ⟨S16896x384, .f32⟩
  | 63 => ⟨S16896x128, .f32⟩
  | 64 => ⟨S16896x128, .f32⟩
  | 65 => ⟨S16896x512, .f32⟩
  | 66 => ⟨S16896x512, .f32⟩
  | 67 => ⟨S_, .f32⟩
  | 68 => ⟨S16896x512, .f32⟩
  | 69 => ⟨S16896x512, .f32⟩
  | 70 => ⟨S16896x512, .f32⟩
  | 71 => ⟨S_, .f32⟩
  | 72 => ⟨S16896x512, .f32⟩
  | 73 => ⟨S16896x512, .f32⟩
  | 74 => ⟨S16896x512, .f32⟩
  | 75 => ⟨S_, .f32⟩
  | 76 => ⟨S16896x512, .f32⟩
  | 77 => ⟨S16896x512, .f32⟩
  | 78 => ⟨S_, .f32⟩
  | 79 => ⟨S16896x512, .f32⟩
  | 80 => ⟨S16896x512, .f32⟩
  | 81 => ⟨S16896x512, .f32⟩
  | 82 => ⟨S16896x256, .f32⟩
  | 83 => ⟨S16896x256, .f32⟩
  | 84 => ⟨S_, .f32⟩
  | 85 => ⟨S16896, .f32⟩
  | 86 => ⟨S16896x1, .f32⟩
  | 87 => ⟨S_, .f32⟩
  | 88 => ⟨S16896x1, .f32⟩
  | 89 => ⟨S16896x1, .f32⟩
  | 90 => ⟨S16896x256, .f32⟩
  | 91 => ⟨S16896x256, .f32⟩
  | 92 => ⟨S16896x256, .f32⟩
  | 93 => ⟨S_, .f32⟩
  | 94 => ⟨S16896, .f32⟩
  | 95 => ⟨S16896x1, .f32⟩
  | 96 => ⟨S_, .f32⟩
  | 97 => ⟨S16896x1, .f32⟩
  | 98 => ⟨S16896x1, .f32⟩
  | 99 => ⟨S16896x256, .f32⟩
  | 100 => ⟨S16896x256, .f32⟩
  | 101 => ⟨S_, .f32⟩
  | 102 => ⟨S16896x1, .f32⟩
  | 103 => ⟨S16896x1, .f32⟩
  | 104 => ⟨S16896x1, .f32⟩
  | 105 => ⟨S16896x256, .f32⟩
  | 106 => ⟨S16896x256, .f32⟩
  | 107 => ⟨S1x256, .f32⟩
  | 108 => ⟨S16896x256, .f32⟩
  | 109 => ⟨S16896x256, .f32⟩
  | 110 => ⟨S132x128x4x64, .f32⟩
  | 111 => ⟨S4x132x64x128, .f32⟩
  | 112 => ⟨S132x128x4x64, .f32⟩
  | 113 => ⟨S128x4, .f32⟩
  | 114 => ⟨S1x128x4x1, .f32⟩
  | 115 => ⟨S132x128x4x64, .f32⟩
  | 116 => ⟨S132x128x4x64, .f32⟩
  | 117 => ⟨S16896x256, .f32⟩
  | 118 => ⟨S16896x256, .f32⟩
  | 119 => ⟨S16896x256, .f32⟩
  | 120 => ⟨S_, .f32⟩
  | 121 => ⟨S16896, .f32⟩
  | 122 => ⟨S16896x1, .f32⟩
  | 123 => ⟨S_, .f32⟩
  | 124 => ⟨S16896x1, .f32⟩
  | 125 => ⟨S16896x1, .f32⟩
  | 126 => ⟨S_, .f32⟩
  | 127 => ⟨S16896x1, .f32⟩
  | _ => ⟨S16896x1024, .f32⟩

abbrev hbmTy0_1 (i : Nat) : BufTy := match i % 128 with
  | 0 => ⟨S16896x1, .f32⟩
  | 1 => ⟨S16896x1, .f32⟩
  | 2 => ⟨S16896x256, .f32⟩
  | 3 => ⟨S16896x256, .f32⟩
  | 4 => ⟨S1x256, .f32⟩
  | 5 => ⟨S16896x256, .f32⟩
  | 6 => ⟨S16896x256, .f32⟩
  | 7 => ⟨S_, .f32⟩
  | 8 => ⟨S16896x384, .f32⟩
  | 9 => ⟨S16896x384, .f32⟩
  | 10 => ⟨S16896x6x64, .f32⟩
  | 11 => ⟨S16896x6x64, .f32⟩
  | 12 => ⟨S_, .f32⟩
  | 13 => ⟨S16896x6, .f32⟩
  | 14 => ⟨S16896x6x1, .f32⟩
  | 15 => ⟨S_, .f32⟩
  | 16 => ⟨S16896x6x1, .f32⟩
  | 17 => ⟨S16896x6x1, .f32⟩
  | 18 => ⟨S_, .f32⟩
  | 19 => ⟨S16896x6x1, .f32⟩
  | 20 => ⟨S16896x6x1, .f32⟩
  | 21 => ⟨S16896x6x1, .f32⟩
  | 22 => ⟨S16896x6x64, .f32⟩
  | 23 => ⟨S16896x6x64, .f32⟩
  | 24 => ⟨S1x1x64, .f32⟩
  | 25 => ⟨S16896x6x64, .f32⟩
  | 26 => ⟨S16896x6x64, .f32⟩
  | 27 => ⟨S16384x6x64, .f32⟩
  | 28 => ⟨S2x8192x6x64, .f32⟩
  | 29 => ⟨S2x8192x6x2x2x16, .f32⟩
  | 30 => ⟨S2x8192x6x2x1x16, .f32⟩
  | 31 => ⟨S2x8192x6x2x16, .f32⟩
  | 32 => ⟨S2x8192x6x2x1x16, .f32⟩
  | 33 => ⟨S2x8192x6x2x16, .f32⟩
  | 34 => ⟨S8192x1x2x16, .f32⟩
  | 35 => ⟨S8192x1x2x16, .f32⟩
  | 36 => ⟨S1x8192x1x2x16, .f32⟩
  | 37 => ⟨S2x8192x6x2x16, .f32⟩
  | 38 => ⟨S2x8192x6x2x16, .f32⟩
  | 39 => ⟨S1x8192x1x2x16, .f32⟩
  | 40 => ⟨S2x8192x6x2x16, .f32⟩
  | 41 => ⟨S2x8192x6x2x16, .f32⟩
  | 42 => ⟨S2x8192x6x2x16, .f32⟩
  | 43 => ⟨S1x8192x1x2x16, .f32⟩
  | 44 => ⟨S2x8192x6x2x16, .f32⟩
  | 45 => ⟨S2x8192x6x2x16, .f32⟩
  | 46 => ⟨S1x8192x1x2x16, .f32⟩
  | 47 => ⟨S2x8192x6x2x16, .f32⟩
  | 48 => ⟨S2x8192x6x2x16, .f32⟩
  | 49 => ⟨S2x8192x6x2x16, .f32⟩
  | 50 => ⟨S2x8192x6x2x1x16, .f32⟩
  | 51 => ⟨S2x8192x6x2x1x16, .f32⟩
  | 52 => ⟨S2x8192x6x2x2x16, .f32⟩
  | 53 => ⟨S2x8192x6x64, .f32⟩
  | 54 => ⟨S16384x6x64, .f32⟩
  | 55 => ⟨S512x6x64, .f32⟩
  | 56 => ⟨S16896x6x64, .f32⟩
  | 57 => ⟨S16896x384, .f32⟩
  | 58 => ⟨S_, .f32⟩
  | 59 => ⟨S16896x384, .f32⟩
  | 60 => ⟨S16896x384, .f32⟩
  | 61 => ⟨S16896x2x64, .f32⟩
  | 62 => ⟨S16896x2x64, .f32⟩
  | 63 => ⟨S_, .f32⟩
  | 64 => ⟨S16896x2, .f32⟩
  | 65 => ⟨S16896x2x1, .f32⟩
  | 66 => ⟨S_, .f32⟩
  | 67 => ⟨S16896x2x1, .f32⟩
  | 68 => ⟨S16896x2x1, .f32⟩
  | 69 => ⟨S_, .f32⟩
  | 70 => ⟨S16896x2x1, .f32⟩
  | 71 => ⟨S16896x2x1, .f32⟩
  | 72 => ⟨S16896x2x1, .f32⟩
  | 73 => ⟨S16896x2x64, .f32⟩
  | 74 => ⟨S16896x2x64, .f32⟩
  | 75 => ⟨S1x1x64, .f32⟩
  | 76 => ⟨S16896x2x64, .f32⟩
  | 77 => ⟨S16896x2x64, .f32⟩
  | 78 => ⟨S16384x2x64, .f32⟩
  | 79 => ⟨S2x8192x2x64, .f32⟩
  | 80 => ⟨S2x8192x2x2x2x16, .f32⟩
  | 81 => ⟨S2x8192x2x2x1x16, .f32⟩
  | 82 => ⟨S2x8192x2x2x16, .f32⟩
  | 83 => ⟨S2x8192x2x2x1x16, .f32⟩
  | 84 => ⟨S2x8192x2x2x16, .f32⟩
  | 85 => ⟨S8192x1x2x16, .f32⟩
  | 86 => ⟨S8192x1x2x16, .f32⟩
  | 87 => ⟨S1x8192x1x2x16, .f32⟩
  | 88 => ⟨S2x8192x2x2x16, .f32⟩
  | 89 => ⟨S2x8192x2x2x16, .f32⟩
  | 90 => ⟨S1x8192x1x2x16, .f32⟩
  | 91 => ⟨S2x8192x2x2x16, .f32⟩
  | 92 => ⟨S2x8192x2x2x16, .f32⟩
  | 93 => ⟨S2x8192x2x2x16, .f32⟩
  | 94 => ⟨S1x8192x1x2x16, .f32⟩
  | 95 => ⟨S2x8192x2x2x16, .f32⟩
  | 96 => ⟨S2x8192x2x2x16, .f32⟩
  | 97 => ⟨S1x8192x1x2x16, .f32⟩
  | 98 => ⟨S2x8192x2x2x16, .f32⟩
  | 99 => ⟨S2x8192x2x2x16, .f32⟩
  | 100 => ⟨S2x8192x2x2x16, .f32⟩
  | 101 => ⟨S2x8192x2x2x1x16, .f32⟩
  | 102 => ⟨S2x8192x2x2x1x16, .f32⟩
  | 103 => ⟨S2x8192x2x2x2x16, .f32⟩
  | 104 => ⟨S2x8192x2x64, .f32⟩
  | 105 => ⟨S16384x2x64, .f32⟩
  | 106 => ⟨S512x2x64, .f32⟩
  | 107 => ⟨S16896x2x64, .f32⟩
  | 108 => ⟨S16896x128, .f32⟩
  | 109 => ⟨S16896x384, .bf16⟩
  | 110 => ⟨S16896x384, .bf16⟩
  | 111 => ⟨S16896x384, .bf16⟩
  | 112 => ⟨S16896x256, .bf16⟩
  | 113 => ⟨S16896x384, .bf16⟩
  | 114 => ⟨S16896x128, .bf16⟩
  | 115 => ⟨S16896x128, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_14 : Ref sig .tc := ⟨.hbm, 120, rfl⟩
abbrev main_v94 : Ref sig .tc := ⟨.hbm, 121, rfl⟩
abbrev main_v95 : Ref sig .tc := ⟨.hbm, 122, rfl⟩
abbrev main_cst_15 : Ref sig .tc := ⟨.hbm, 123, rfl⟩
abbrev main_v96 : Ref sig .tc := ⟨.hbm, 124, rfl⟩
abbrev main_v97 : Ref sig .tc := ⟨.hbm, 125, rfl⟩
abbrev main_cst_16 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_17 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_18 : Ref sig .tc := ⟨.hbm, 140, rfl⟩
abbrev main_v110 : Ref sig .tc := ⟨.hbm, 141, rfl⟩
abbrev main_v111 : Ref sig .tc := ⟨.hbm, 142, rfl⟩
abbrev main_cst_19 : Ref sig .tc := ⟨.hbm, 143, rfl⟩
abbrev main_v112 : Ref sig .tc := ⟨.hbm, 144, rfl⟩
abbrev main_v113 : Ref sig .tc := ⟨.hbm, 145, rfl⟩
abbrev main_cst_20 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_21 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_22 : Ref sig .tc := ⟨.hbm, 191, rfl⟩
abbrev main_v157 : Ref sig .tc := ⟨.hbm, 192, rfl⟩
abbrev main_v158 : Ref sig .tc := ⟨.hbm, 193, rfl⟩
abbrev main_cst_23 : Ref sig .tc := ⟨.hbm, 194, rfl⟩
abbrev main_v159 : Ref sig .tc := ⟨.hbm, 195, rfl⟩
abbrev main_v160 : Ref sig .tc := ⟨.hbm, 196, rfl⟩
abbrev main_cst_24 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩

abbrev nD : Nat := 1
abbrev τ : Topo := Topo.v7x

variable {F : FTy → Type} [FloatOps F]
-- ==== Proof.Online.lean ====
/- The mathematics of the running softmax, over the extended reals: a weighted sum of exponentials can be taken
   relative to any real shift, a change of shift is one factor, and the quotient of two such sums forgets the shift.
   Nothing here mentions the kernel. -/
module

public import Idealize.ShloMosaic.PureOps
public import Idealize.ShloMosaic.Lib.Pointwise

@[expose] public section

noncomputable section

namespace Online

open Idealize.ShloMosaic

/-- A nonnegative real factor goes inside a finite sum of extended reals. -/
theorem coe_mul_sum {ι : Type} (S : Finset ι) (f : ι → EReal) {c : ℝ} (hc : 0 ≤ c) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A finite sum of real numbers, read as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of reals. -/
theorem exp_coe_sub (a b : ℝ) : Ideal.exp ((a : EReal) - (b : EReal)) = ((Real.exp (a - b) : ℝ) : EReal) := by
  rw [← EReal.coe_sub]; rfl

/-- `∑ⱼ exp(sⱼ − M)·vⱼ` over the keys of `S`. -/
def W (s : ℕ → ℝ) (v : ℕ → EReal) (M : ℝ) (S : Finset ℕ) : EReal :=
  ∑ j ∈ S, ((Real.exp (s j - M) : ℝ) : EReal) * v j

/-- Changing the shift from `M` to `M'` is one factor. -/
theorem W_shift (s : ℕ → ℝ) (v : ℕ → EReal) (M M' : ℝ) (S : Finset ℕ) :
    ((Real.exp (M - M') : ℝ) : EReal) * W s v M S = W s v M' S := by
  unfold W
  rw [coe_mul_sum S _ (Real.exp_pos _).le]
  refine Finset.sum_congr rfl fun j _ => ?_
  rw [← mul_assoc, ← EReal.coe_mul, ← Real.exp_add]
  rw [show M - M' + (s j - M) = s j - M' by ring]

/-- The sum of the weights is a real. -/
theorem W_one (s : ℕ → ℝ) (M : ℝ) (S : Finset ℕ) :
    W s (fun _ => 1) M S = ((∑ j ∈ S, Real.exp (s j - M) : ℝ) : EReal) := by
  unfold W
  rw [coe_sum]
  exact Finset.sum_congr rfl fun j _ => mul_one _

/-- The quotient of the weighted sum by the sum of the weights is the softmax-weighted sum, whatever the two
    shifts are. -/
theorem W_quot (s : ℕ → ℝ) (v : ℕ → EReal) (M M' : ℝ) (S : Finset ℕ) (hS : S.Nonempty) :
    W s v M S * Ideal.div 1 (W s (fun _ => 1) M S)
      = ∑ j ∈ S, Ideal.div (((Real.exp (s j - M') : ℝ) : EReal)) (W s (fun _ => 1) M' S) * v j := by
  have hpos : ∀ K : ℝ, 0 < ∑ j ∈ S, Real.exp (s j - K) := fun K =>
    Finset.sum_pos (fun j _ => Real.exp_pos _) hS
  have hne : ∀ K : ℝ, ((∑ j ∈ S, Real.exp (s j - K) : ℝ) : EReal) ≠ 0 := fun K => by
    exact_mod_cast (hpos K).ne'
  have hsh : W s v M S = ((Real.exp (M' - M) : ℝ) : EReal) * W s v M' S := (W_shift s v M' M S).symm
  have hsum : ∑ j ∈ S, Real.exp (s j - M) = Real.exp (M' - M) * ∑ j ∈ S, Real.exp (s j - M') := by
    rw [Finset.mul_sum]
    refine Finset.sum_congr rfl fun j _ => ?_
    rw [← Real.exp_add]; congr 1; ring
  have hk : Ideal.div 1 (W s (fun _ => 1) M S) = (((∑ j ∈ S, Real.exp (s j - M))⁻¹ : ℝ) : EReal) := by
    rw [W_one, Ideal.div, if_neg (hne M), one_mul, EReal.coe_inv]
  rw [hk, hsh, hsum, mul_inv, EReal.coe_mul, mul_comm, ← mul_assoc]
  have hc : (((Real.exp (M' - M))⁻¹ : ℝ) : EReal) * ((((∑ j ∈ S, Real.exp (s j - M'))⁻¹ : ℝ) : EReal))
      * ((Real.exp (M' - M) : ℝ) : EReal) = (((∑ j ∈ S, Real.exp (s j - M'))⁻¹ : ℝ) : EReal) := by
    rw [← EReal.coe_mul, ← EReal.coe_mul]
    congr 1
    have := (Real.exp_pos (M' - M)).ne'
    field_simp
  rw [hc]
  unfold W
  rw [coe_mul_sum S _ (inv_nonneg.mpr (hpos M').le)]
  refine Finset.sum_congr rfl fun j _ => ?_
  have h1 : ∑ j ∈ S, ((Real.exp (s j - M') : ℝ) : EReal) * (fun _ : ℕ => (1 : EReal)) j
      = ((∑ j ∈ S, Real.exp (s j - M') : ℝ) : EReal) := W_one s M' S
  rw [h1, Ideal.div, if_neg (hne M'), ← EReal.coe_inv, ← mul_assoc,
    mul_comm ((((∑ j ∈ S, Real.exp (s j - M'))⁻¹ : ℝ) : EReal))]

/-- The softmax-weighted sum of the values over the keys of `S`. -/
def att (s : ℕ → ℝ) (v : ℕ → EReal) (S : Finset ℕ) : EReal :=
  ∑ j ∈ S, Ideal.div (((Real.exp (s j - 0) : ℝ) : EReal)) (W s (fun _ => 1) 0 S) * v j

/-- The weighted sum times the reciprocal of the sum of weights is `att`, whatever the shift. -/
theorem W_att (s : ℕ → ℝ) (v : ℕ → EReal) (M : ℝ) (S : Finset ℕ) (hS : S.Nonempty) :
    W s v M S * Ideal.div 1 (W s (fun _ => 1) M S) = att s v S := W_quot s v M 0 S hS

/-- The softmax-weighted sum taken relative to any shift is `att`. -/
theorem soft_att (s : ℕ → ℝ) (v : ℕ → EReal) (M : ℝ) (S : Finset ℕ) (hS : S.Nonempty) :
    ∑ j ∈ S, Ideal.div (((Real.exp (s j - M) : ℝ) : EReal)) (W s (fun _ => 1) M S) * v j = att s v S :=
  (W_quot s v M M S hS).symm.trans (W_quot s v M 0 S hS)

end Online

end
-- ==== Proof.Spec.lean ====
/- The function both programs compute, written once over whole arrays of extended reals: for every row the softmax of
   its scores over its keys, the weighted sum of the values, and the normalisation of the row. -/
module

public import proofs.«01_k».proof.Proof.Online

@[expose] public section

noncomputable section

namespace Spec

open Idealize.ShloMosaic

/-- An array read at natural numbers, zero outside. -/
def at2 {n m : ℕ} (a : (⟨2, ![n, m]⟩ : Shape).Idx → EReal) (r c : ℕ) : EReal :=
  if h : r < n ∧ c < m then a (ix2 ⟨r, h.1⟩ ⟨c, h.2⟩) else 0

/-- Inside the array it is the element. -/
theorem at2_eq {n m : ℕ} (a : (⟨2, ![n, m]⟩ : Shape).Idx → EReal) (r : Fin n) (c : Fin m) (r' c' : ℕ) (hr : r' = r.val) (hc : c' = c.val) :
    at2 a r' c' = a (ix2 r c) := by
  subst hr hc
  unfold at2
  rw [dif_pos ⟨r.isLt, c.isLt⟩]

/-- The row of key `j` of batch `b`: the latent keys first, then the context keys. -/
def keyRow (b j : ℕ) : ℕ := if j < 8192 then b * 8192 + j else 16384 + b * 256 + (j - 8192)

/-- The score of key `j` for a row's query of group `g` and head `h`, as a real. -/
def score (q : (⟨2, ![16896, 384]⟩ : Shape).Idx → EReal) (k : (⟨2, ![16896, 128]⟩ : Shape).Idx → EReal) (b row g h j : ℕ) : ℝ :=
  (∑ e : Fin 64, at2 q row (g * 128 + h * 64 + e.val) * at2 k (keyRow b j) (h * 64 + e.val)).toReal

/-- The batch of a row, and the keys it attends to. -/
def batch (row : ℕ) : ℕ := if row < 16384 then row / 8192 else (row - 16384) / 256
/-- The numbers of the keys a row attends to. -/
def keys (row : ℕ) : Finset ℕ := if row < 16384 then Finset.range 8448 else Finset.Ico 8192 8448

/-- The attention output at a row, group and lane. -/
def o (q : (⟨2, ![16896, 384]⟩ : Shape).Idx → EReal) (k v : (⟨2, ![16896, 128]⟩ : Shape).Idx → EReal) (row g d : ℕ) : EReal :=
  Online.att (score q k (batch row) row g (d / 64)) (fun j => at2 v (keyRow (batch row) j) d) (keys row)

/-- The normalised output. -/
def out (q : (⟨2, ![16896, 384]⟩ : Shape).Idx → EReal) (k v : (⟨2, ![16896, 128]⟩ : Shape).Idx → EReal) (gain : (⟨2, ![1, 384]⟩ : Shape).Idx → EReal)
    (row g d : ℕ) : EReal :=
  o q k v row g d
    * Ideal.rsqrt ((∑ x : Fin 128, (o q k v row 0 x * o q k v row 0 x + o q k v row 1 x * o q k v row 1 x + o q k v row 2 x * o q k v row 2 x))
        * ((384⁻¹ : ℝ) : EReal) + Ideal.ofBits FTy.f32 897988541#32)
    * at2 gain 0 (g * 128 + d)

/-- An array all of whose elements are reals. -/
def Fin2 {n m : ℕ} (a : (⟨2, ![n, m]⟩ : Shape).Idx → EReal) : Prop := ∀ i, ∃ x : ℝ, a i = (x : EReal)

/-- An array of reals is real everywhere. -/
theorem at2_real {n m : ℕ} {a : (⟨2, ![n, m]⟩ : Shape).Idx → EReal} (h : Fin2 a) (r c : ℕ) : ∃ x : ℝ, at2 a r c = (x : EReal) := by
  unfold at2
  split
  · exact h _
  · exact ⟨0, rfl⟩

/-- The score is the sum it is the real part of. -/
theorem score_eq {q : (⟨2, ![16896, 384]⟩ : Shape).Idx → EReal} {k : (⟨2, ![16896, 128]⟩ : Shape).Idx → EReal} (hq : Fin2 q) (hk : Fin2 k) (b row g h j : ℕ) :
    ∑ e : Fin 64, at2 q row (g * 128 + h * 64 + e.val) * at2 k (keyRow b j) (h * 64 + e.val) = (score q k b row g h j : EReal) := by
  unfold score
  have : ∃ x : ℝ, ∑ e : Fin 64, at2 q row (g * 128 + h * 64 + e.val) * at2 k (keyRow b j) (h * 64 + e.val) = (x : EReal) := by
    choose f hf using fun e : Fin 64 => at2_real hq row (g * 128 + h * 64 + e.val)
    choose f' hf' using fun e : Fin 64 => at2_real hk (keyRow b j) (h * 64 + e.val)
    refine ⟨∑ e, f e * f' e, ?_⟩
    rw [Online.coe_sum]
    exact Finset.sum_congr rfl fun e _ => by rw [hf, hf', EReal.coe_mul]
  obtain ⟨x, hx⟩ := this
  rw [hx, EReal.toReal_coe]

end Spec

end
-- ==== Proof.Reads.lean ====
/- What the windows' blocks hold at a grid point, read off the arguments by row and column. -/
module
public import proofs.«01_k».proof.Proof.Gen.KernelIdeal.Value
public import Idealize.ShloMosaic.Lib.Pipeline.ValueKit
public import Idealize.ShloMosaic.Lib.Pointwise
public import Idealize.ShloMosaic.Lib.VecWindow
public import proofs.«01_k».proof.Proof.Spec
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen
open Spec

variable (m : (ℓ : Loc nD τ sig) → Buf (Elt Ideal) ℓ)

/-- The block of rows a grid point works on: 32 blocks of latent rows per batch, then one of context rows. -/
def brow (t : ℕ) : ℕ := if t % 33 ≤ 31 then t / 33 * 32 + t % 33 else 64 + t / 33

/-- The windows' blocks, in the number of the grid point. -/
theorem idx : ∀ t : Fin cfg0.N, win0_0.index t = ![brow t.val, 0] ∧ win0_1.index t = ![t.val / 33, 0] ∧ win0_2.index t = ![t.val / 33, 0]
    ∧ win0_3.index t = ![64 + t.val / 33, 0] ∧ win0_4.index t = ![64 + t.val / 33, 0] ∧ win0_5.index t = ![0, 0] ∧ win0_6.index t = ![brow t.val, 0]
    ∧ t.val / 33 < 2 ∧ brow t.val < 66 :=
  (by decide +kernel : ∀ t : Fin grid0.N, _)

variable (c : Dev nD) (t : Fin cfg0.N)

/-- The queries of a block. -/
theorem rd0 (y : Fin 256) (l : Fin 384) : iblk m c 0 t (ix2 y l) = at2 (m ((c : Thread nD τ).loc main_arg0)) (brow t.val * 256 + y.val) l.val := by
  obtain ⟨h0, h1, h2, h3, h4, h5, h6, hb, hr⟩ := idx t
  refine Eq.trans ?_ (at2_eq (n := 16896) (m := 384) _ ⟨brow t.val * 256 + y.val, by omega⟩ l _ _ rfl rfl).symm
  blk_ext [iblk, V, h0]

/-- The context keys of a block. -/
theorem rd3 (x : Fin 256) (l : Fin 128) : iblk m c 3 t (ix2 x l) = at2 (m ((c : Thread nD τ).loc main_arg1)) ((64 + t.val / 33) * 256 + x.val) l.val := by
  obtain ⟨h0, h1, h2, h3, h4, h5, h6, hb, hr⟩ := idx t
  refine Eq.trans ?_ (at2_eq (n := 16896) (m := 128) _ ⟨(64 + t.val / 33) * 256 + x.val, by omega⟩ l _ _ rfl rfl).symm
  blk_ext [iblk, V, h3]

/-- The context values of a block. -/
theorem rd4 (x : Fin 256) (l : Fin 128) : iblk m c 4 t (ix2 x l) = at2 (m ((c : Thread nD τ).loc main_arg2)) ((64 + t.val / 33) * 256 + x.val) l.val := by
  obtain ⟨h0, h1, h2, h3, h4, h5, h6, hb, hr⟩ := idx t
  refine Eq.trans ?_ (at2_eq (n := 16896) (m := 128) _ ⟨(64 + t.val / 33) * 256 + x.val, by omega⟩ l _ _ rfl rfl).symm
  blk_ext [iblk, V, h4]

/-- The scale row. -/
theorem rd5 (x : Fin 1) (l : Fin 384) : iblk m c 5 t (ix2 x l) = at2 (m ((c : Thread nD τ).loc main_arg3)) 0 l.val := by
  obtain ⟨h0, h1, h2, h3, h4, h5, h6, hb, hr⟩ := idx t
  refine Eq.trans ?_ (at2_eq (n := 1) (m := 384) _ 0 l _ _ rfl rfl).symm
  blk_ext [iblk, V, h5]

/-- The latent keys of a block. -/
theorem rd1 (x : Fin 8192) (l : Fin 128) : X0_1 m c t (ix2 x l) = at2 (m ((c : Thread nD τ).loc main_arg1)) (t.val / 33 * 8192 + x.val) l.val := by
  obtain ⟨h0, h1, h2, h3, h4, h5, h6, hb, hr⟩ := idx t
  refine Eq.trans ?_ (at2_eq (n := 16896) (m := 128) _ ⟨t.val / 33 * 8192 + x.val, by omega⟩ l _ _ rfl rfl).symm
  have hm := moved0_1 t (ix2 x l)
  unfold X0_1 Pipeline.Window.fill
  rw [dif_pos hm]
  blk_ext [iblk, V, h1]

/-- The latent values of a block. -/
theorem rd2 (x : Fin 8192) (l : Fin 128) : X0_2 m c t (ix2 x l) = at2 (m ((c : Thread nD τ).loc main_arg2)) (t.val / 33 * 8192 + x.val) l.val := by
  obtain ⟨h0, h1, h2, h3, h4, h5, h6, hb, hr⟩ := idx t
  refine Eq.trans ?_ (at2_eq (n := 16896) (m := 128) _ ⟨t.val / 33 * 8192 + x.val, by omega⟩ l _ _ rfl rfl).symm
  have hm := moved0_2 t (ix2 x l)
  unfold X0_2 Pipeline.Window.fill
  rw [dif_pos hm]
  blk_ext [iblk, V, h2]

end Cert.KernelIdeal.Att
-- ==== Proof.Loop.lean ====
/- The loop over the latent keys: its trips as a recursion on the three running arrays. -/
module
public import proofs.«01_k».proof.Proof.Gen.KernelIdeal.Value
public import Idealize.ShloMosaic.Lib.Pipeline.ValueKit
public import Idealize.ShloMosaic.Lib.Pointwise
public import Idealize.ShloMosaic.Lib.VecWindow
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- The rows of keys (or values) that trip `k` of the loop reads: 512 rows from row `512·k`. -/
abbrev rows (i : grid0.Coords) (h : k0_cond1 i = 1#1) (k : Fin k0_t1_loop.trips) : Rect S8192x128 :=
  Rect.unit (s := S8192x128) (k0_off1 k) S512x128.size (k0_off1_inb i k h)

/-- The first column of a scratch array. -/
abbrev col0 : Rect S1536x128 := Rect.unit (s := S1536x128) ![0, 0] S1536x1.size inb_S1536x128_S1536x1_0_0

/-- The whole scratch array. -/
abbrev full : Rect S1536x128 := Rect.unit (s := S1536x128) ![0, 0] S1536x128.size inb_S1536x128_S1536x128_0_0

/-- What one trip of the loop stores, as functions of what it finds: the running maximum, the running sum of weights
    and the running weighted sum. -/
theorem trip_eq (𝒱 : Variants) (c : Dev nD) (bd : Option 𝒱.V) (i : grid0.Coords) (arg2 : Memref sig .tc .vmem S256x384 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x384 .f32) (harg7 : arg7.IsWhole) (arg8 : Memref sig .tc .vmem S256x384 .bf16) (harg8 : arg8.IsWhole) (arg9 : Memref sig .tc .vmem S1536x128 .f32) (harg9 : arg9.IsWhole) (arg10 : Memref sig .tc .vmem S1536x128 .f32) (harg10 : arg10.IsWhole) (arg11 : Memref sig .tc .vmem S1536x128 .f32) (harg11 : arg11.IsWhole) (arg1 : BitVec 32) (v5 : Vec Ideal S256x128 .bf16) (v11 : Vec Ideal S256x128 .bf16) (v17 : Vec Ideal S256x128 .bf16) (v24 : Vec Ideal S256x128 .bf16) (v31 : Vec Ideal S256x128 .bf16) (v32 : Vec Ideal S256x128 .bf16) (v33 : IVec S256x128 32) (k0_h1 : k0_cond1 i = 1#1) (X3 : BufTy.Contents (Elt Ideal) arg3.view.ty) (X4 : BufTy.Contents (Elt Ideal) arg4.view.ty) (k : Fin k0_t1_loop.trips)
    (f9 : BufTy.Contents (Elt Ideal) arg9.view.ty) (f10 : BufTy.Contents (Elt Ideal) arg10.view.ty) (f11 : BufTy.Contents (Elt Ideal) arg11.view.ty) :
    tripL_k0_t1 (F := Ideal) 𝒱 c bd i arg2 harg2 arg3 harg3 arg4 harg4 arg5 harg5 arg6 harg6 arg7 harg7 arg8 harg8 arg9 harg9 arg10 harg10 arg11 harg11 arg1 v5 v11 v17 v24 v31 v32 v33 k0_h1 X3 X4 k f9 f10 f11
      = ([⟨full, k0_pay7 (k0_pay14 v5 v11 v17 v24 v31 v32 v33) (View.ld (arg3.view.read (Elt Ideal) X3) (rows i k0_h1 k)) (View.ld (arg9.view.read (Elt Ideal) f9) col0)⟩],
         [⟨full, k0_pay21 (k0_pay8 (k0_pay14 v5 v11 v17 v24 v31 v32 v33) (View.ld (arg3.view.read (Elt Ideal) X3) (rows i k0_h1 k)) (View.ld (arg9.view.read (Elt Ideal) f9) col0) (View.ld (arg10.view.read (Elt Ideal) f10) col0))⟩],
         [⟨full, k0_pay6 (k0_pay14 v5 v11 v17 v24 v31 v32 v33) (View.ld (arg3.view.read (Elt Ideal) X3) (rows i k0_h1 k)) (View.ld (arg9.view.read (Elt Ideal) f9) col0) (View.ld (arg11.view.read (Elt Ideal) f11) full) (View.ld (arg4.view.read (Elt Ideal) X4) (rows i k0_h1 k))⟩]) := by
  unfold tripL_k0_t1 trip_k0_t1
  rfl

/-- The three running arrays (maximum, sum of weights, weighted sum) before trip `k`, from those at the loop's entry. -/
def state (i : grid0.Coords) (h : k0_cond1 i = 1#1) (lhs : FVec Ideal S1536x128 .bf16) (K V : Vec Ideal S8192x128 .bf16)
    (M₀ L₀ A₀ : Vec Ideal S1536x128 .f32) : ℕ → Vec Ideal S1536x128 .f32 × Vec Ideal S1536x128 .f32 × Vec Ideal S1536x128 .f32
  | 0 => (M₀, L₀, A₀)
  | k + 1 => if hk : k < k0_t1_loop.trips then
      let p := state i h lhs K V M₀ L₀ A₀ k
      (k0_pay7 lhs (View.ld K (rows i h ⟨k, hk⟩)) (View.ld p.1 col0),
       k0_pay21 (k0_pay8 lhs (View.ld K (rows i h ⟨k, hk⟩)) (View.ld p.1 col0) (View.ld p.2.1 col0)),
       k0_pay6 lhs (View.ld K (rows i h ⟨k, hk⟩)) (View.ld p.1 col0) p.2.2 (View.ld V (rows i h ⟨k, hk⟩)))
    else state i h lhs K V M₀ L₀ A₀ k

/-- What the three scratch arrays hold before trip `k` is `state`. -/
theorem pb_state (𝒱 : Variants) (c : Dev nD) (bd : Option 𝒱.V) (i : grid0.Coords) (arg2 : Memref sig .tc .vmem S256x384 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x384 .f32) (harg7 : arg7.IsWhole) (arg8 : Memref sig .tc .vmem S256x384 .bf16) (harg8 : arg8.IsWhole) (arg9 : Memref sig .tc .vmem S1536x128 .f32) (harg9 : arg9.IsWhole) (arg10 : Memref sig .tc .vmem S1536x128 .f32) (harg10 : arg10.IsWhole) (arg11 : Memref sig .tc .vmem S1536x128 .f32) (harg11 : arg11.IsWhole) (arg1 : BitVec 32) (v5 : Vec Ideal S256x128 .bf16) (v11 : Vec Ideal S256x128 .bf16) (v17 : Vec Ideal S256x128 .bf16) (v24 : Vec Ideal S256x128 .bf16) (v31 : Vec Ideal S256x128 .bf16) (v32 : Vec Ideal S256x128 .bf16) (v33 : IVec S256x128 32) (k0_h1 : k0_cond1 i = 1#1) (X3 : BufTy.Contents (Elt Ideal) arg3.view.ty) (X4 : BufTy.Contents (Elt Ideal) arg4.view.ty)
    (G9 : BufTy.Contents (Elt Ideal) arg9.view.ty) (G10 : BufTy.Contents (Elt Ideal) arg10.view.ty) (G11 : BufTy.Contents (Elt Ideal) arg11.view.ty) (k : ℕ) (hk : k ≤ k0_t1_loop.trips) :
    (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg1 v5 v11 v17 v24 v31 v32 v33 k0_h1 X3 X4 G9 G10 G11 k).1),
     arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg1 v5 v11 v17 v24 v31 v32 v33 k0_h1 X3 X4 G9 G10 G11 k).2.1),
     arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg1 v5 v11 v17 v24 v31 v32 v33 k0_h1 X3 X4 G9 G10 G11 k).2.2))
      = state i k0_h1 (k0_pay14 v5 v11 v17 v24 v31 v32 v33) (arg3.view.read (Elt Ideal) X3) (arg4.view.read (Elt Ideal) X4)
          (arg9.view.read (Elt Ideal) G9) (arg10.view.read (Elt Ideal) G10) (arg11.view.read (Elt Ideal) G11) k := by
  induction k with
  | zero => rfl
  | succ k ih =>
    have hk' : k < k0_t1_loop.trips := hk
    have ih := ih hk'.le
    rw [show k + 1 = (⟨k, hk'⟩ : Fin k0_t1_loop.trips).val + 1 from rfl, pb_k0_t1_succ, trip_eq]
    rw [state, dif_pos hk', ← ih]
    dsimp only
    rw [View.writes_append, View.writes_append, View.writes_append]
    refine Prod.ext ?_ (Prod.ext ?_ ?_)
    · exact View.read_writes_full _ _ _ _ _
    · exact View.read_writes_full _ _ _ _ _
    · refine (View.read_writes_full _ _ _ _ _).trans ?_
      rw [View.ld_unit_lit _ _ (by decide)]

end Cert.KernelIdeal.Att
-- ==== Proof.Block.lean ====
/- What a grid point leaves in its output block, as a function of the blocks it reads. -/
module
public import proofs.«01_k».proof.Proof.Gen.KernelIdeal.Value
public import Idealize.ShloMosaic.Lib.Pipeline.ValueKit
public import Idealize.ShloMosaic.Lib.Pointwise
public import Idealize.ShloMosaic.Lib.VecWindow
public import proofs.«01_k».proof.Proof.Loop
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen
variable (m : (ℓ : Loc nD τ sig) → Buf (Elt Ideal) ℓ)

/-- The left operand of the score product: the six masked 256-row parts, one on another. -/
abbrev lhsOf (q : Vec Ideal S256x384 .bf16) : FVec Ideal S1536x128 .bf16 :=
  k0_pay14 (k0_pay9 (View.ld q (Rect.unit ![0, 0] ![256, 128] inb_S256x384_S256x128_0_0)))
    (k0_pay10 (View.ld q (Rect.unit ![0, 128] ![256, 128] inb_S256x384_S256x128_0_128)))
    (k0_pay11 (View.ld q (Rect.unit ![0, 256] ![256, 128] inb_S256x384_S256x128_0_256)))
    (k0_pay12 (View.ld q (Rect.unit ![0, 0] ![256, 128] inb_S256x384_S256x128_0_0)))
    (k0_pay13 (View.ld q (Rect.unit ![0, 128] ![256, 128] inb_S256x384_S256x128_0_128)))
    (View.ld q (Rect.unit ![0, 256] ![256, 128] inb_S256x384_S256x128_0_256))
    (iota Kind.tc S256x128 32 [1] iota_S256x128_d1_w32)

/-- The running maximum after the context keys. -/
abbrev M₀ (q : Vec Ideal S256x384 .bf16) (kx : Vec Ideal S256x128 .bf16) : FVec Ideal S1536x128 .f32 :=
  k0_pay18 (k0_pay9 (View.ld q (Rect.unit ![0, 0] ![256, 128] inb_S256x384_S256x128_0_0)))
    (k0_pay10 (View.ld q (Rect.unit ![0, 128] ![256, 128] inb_S256x384_S256x128_0_128)))
    (k0_pay11 (View.ld q (Rect.unit ![0, 256] ![256, 128] inb_S256x384_S256x128_0_256)))
    (k0_pay12 (View.ld q (Rect.unit ![0, 0] ![256, 128] inb_S256x384_S256x128_0_0)))
    (k0_pay13 (View.ld q (Rect.unit ![0, 128] ![256, 128] inb_S256x384_S256x128_0_128)))
    (View.ld q (Rect.unit ![0, 256] ![256, 128] inb_S256x384_S256x128_0_256))
    (iota Kind.tc S256x128 32 [1] iota_S256x128_d1_w32) kx

/-- The running sum of weights after the context keys. -/
abbrev L₀ (q : Vec Ideal S256x384 .bf16) (kx : Vec Ideal S256x128 .bf16) : FVec Ideal S1536x128 .f32 :=
  k0_pay19 (k0_pay9 (View.ld q (Rect.unit ![0, 0] ![256, 128] inb_S256x384_S256x128_0_0)))
    (k0_pay10 (View.ld q (Rect.unit ![0, 128] ![256, 128] inb_S256x384_S256x128_0_128)))
    (k0_pay11 (View.ld q (Rect.unit ![0, 256] ![256, 128] inb_S256x384_S256x128_0_256)))
    (k0_pay12 (View.ld q (Rect.unit ![0, 0] ![256, 128] inb_S256x384_S256x128_0_0)))
    (k0_pay13 (View.ld q (Rect.unit ![0, 128] ![256, 128] inb_S256x384_S256x128_0_128)))
    (View.ld q (Rect.unit ![0, 256] ![256, 128] inb_S256x384_S256x128_0_256))
    (iota Kind.tc S256x128 32 [1] iota_S256x128_d1_w32) kx

/-- The running weighted sum of the values after the context keys. -/
abbrev A₀ (q : Vec Ideal S256x384 .bf16) (kx vx : Vec Ideal S256x128 .bf16) : FVec Ideal S1536x128 .f32 :=
  k0_pay20 (k0_pay9 (View.ld q (Rect.unit ![0, 0] ![256, 128] inb_S256x384_S256x128_0_0)))
    (k0_pay10 (View.ld q (Rect.unit ![0, 128] ![256, 128] inb_S256x384_S256x128_0_128)))
    (k0_pay11 (View.ld q (Rect.unit ![0, 256] ![256, 128] inb_S256x384_S256x128_0_256)))
    (k0_pay12 (View.ld q (Rect.unit ![0, 0] ![256, 128] inb_S256x384_S256x128_0_0)))
    (k0_pay13 (View.ld q (Rect.unit ![0, 128] ![256, 128] inb_S256x384_S256x128_0_128)))
    (View.ld q (Rect.unit ![0, 256] ![256, 128] inb_S256x384_S256x128_0_256))
    (iota Kind.tc S256x128 32 [1] iota_S256x128_d1_w32) kx vx

/-- The output block, from the weighted sums `A`, the sums of weights `L` and the scale row `g`: three stores of 128
    columns. -/
def blockOf (A : Vec Ideal S1536x128 .f32) (L : Vec Ideal S1536x1 .f32) (g : Vec Ideal S1x384 .f32) : Vec Ideal S256x384 .bf16 :=
  View.canon (Val := Elt Ideal) (s := S256x384) (e := .bf16)
    [⟨Rect.unit ![0, 256] ![256, 128] inb_S256x384_S256x128_0_256,
      k0_pay1 (k0_pay26 A L) (k0_pay27 A L) (View.ld g (Rect.unit ![0, 256] ![1, 128] inb_S1x384_S1x128_0_256))⟩,
     ⟨Rect.unit ![0, 128] ![256, 128] inb_S256x384_S256x128_0_128,
      k0_pay29 A L (View.ld g (Rect.unit ![0, 128] ![1, 128] inb_S1x384_S1x128_0_128))⟩,
     ⟨Rect.unit ![0, 0] ![256, 128] inb_S256x384_S256x128_0_0,
      k0_pay28 A L (View.ld g (Rect.unit ![0, 0] ![1, 128] inb_S1x384_S1x128_0_0))⟩]

/-- What a point of context queries leaves in the output block. -/
theorem out_B (c : Dev nD) (t : Fin cfg0.N) (h0 : ¬t.val % 33 ≤ 31) (y) : outsAt0 m c t.val t.isLt y
    = blockOf (A₀ (iblk m c 0 t) (iblk m c 3 t) (iblk m c 4 t)) (View.ld (L₀ (iblk m c 0 t) (iblk m c 3 t)) col0) (iblk m c 5 t) y := by
  rw [outsAt0_B m c t h0]
  frame_out
  have h : ∀ (w : FVec Ideal S1536x128 .f32), (View.whole cc0_scratch1).readCov (Val := Elt Ideal) [⟨Rect.unit ![0, 0] ![1536, 128] inb_S1536x128_S1536x128_0_0, w⟩]
      (Rect.unit ![0, 0] ![1536, 1] inb_S1536x128_S1536x1_0_0).toLoadRect = View.ld w col0 := fun w => by
    exact (View.readAt_eq_ld _ _ _).trans (congrArg (fun z => View.ld z col0) (View.read_writes_full _ _ _ _ _))
  rw [h]

/-- Equal arguments give equal running arrays. -/
theorem state_congr (i) (h) (lhs) {K K' V V'} {M M' L L' A A'} (hK : K = K') (hV : V = V') (hM : M = M') (hL : L = L') (hA : A = A') (n : ℕ) :
    state i h lhs K V M L A n = state i h lhs K' V' M' L' A' n := by
  subst hK hV hM hL hA; rfl

attribute [local irreducible] pb_k0_t1 state View.canon View.read View.writes k0_pay1 k0_pay26 k0_pay27 k0_pay28 k0_pay29 Scf.trips in
/-- What a point of latent queries leaves in the output block: the same, from the running arrays after the last trip. -/
theorem out_A (c : Dev nD) (t : Fin cfg0.N) (h0 : t.val % 33 ≤ 31) (y) : outsAt0 m c t.val t.isLt y
    = blockOf (state (grid0.coords t) ((hcond0_0 t).mpr h0) (lhsOf (iblk m c 0 t)) (X0_1 m c t) (X0_2 m c t) (M₀ (iblk m c 0 t) (iblk m c 3 t)) (L₀ (iblk m c 0 t) (iblk m c 3 t)) (A₀ (iblk m c 0 t) (iblk m c 3 t) (iblk m c 4 t)) k0_t1_loop.trips).2.2
       (View.ld (state (grid0.coords t) ((hcond0_0 t).mpr h0) (lhsOf (iblk m c 0 t)) (X0_1 m c t) (X0_2 m c t) (M₀ (iblk m c 0 t) (iblk m c 3 t)) (L₀ (iblk m c 0 t) (iblk m c 3 t)) (A₀ (iblk m c 0 t) (iblk m c 3 t) (iblk m c 4 t)) k0_t1_loop.trips).2.1 col0)
       (iblk m c 5 t) y := by
  rw [outsAt0_A m c t h0]
  frame_out
  have h : ∀ (P P' : List (View.Piece (Elt Ideal) S1536x128 .f32)), (View.whole cc0_scratch1).readCov (Val := Elt Ideal) (P ++ P')
      (Rect.unit ![0, 0] ![1536, 1] inb_S1536x128_S1536x1_0_0).toLoadRect
      = View.ld ((View.whole cc0_scratch1).read (Elt Ideal) ((View.whole cc0_scratch1).writes (Elt Ideal) ((View.whole cc0_scratch1).writes (Elt Ideal) (View.whole cc0_scratch1).junk P') P)) col0 := fun P P' => by
    refine (View.readAt_eq_ld _ _ _).trans ?_
    rw [View.writes_append]
  have h2 : ∀ (P P' : List (View.Piece (Elt Ideal) S1536x128 .f32)), (View.whole cc0_scratch2).readCov (Val := Elt Ideal) (P ++ P')
      (Rect.unit ![0, 0] ![1536, 128] inb_S1536x128_S1536x128_0_0).toLoadRect
      = (View.whole cc0_scratch2).read (Elt Ideal) ((View.whole cc0_scratch2).writes (Elt Ideal) ((View.whole cc0_scratch2).writes (Elt Ideal) (View.whole cc0_scratch2).junk P') P) := fun P P' => by
    refine (View.readAt_full _ _ _).trans ?_
    rw [View.writes_append]
  rw [h, h2]
  have key := pb_state Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
    (BitVec.ofNat 32 (grid0.coords t 1).val)
    (k0_pay9 (View.ld (iblk m c 0 t) (Rect.unit ![0, 0] ![256, 128] inb_S256x384_S256x128_0_0)))
    (k0_pay10 (View.ld (iblk m c 0 t) (Rect.unit ![0, 128] ![256, 128] inb_S256x384_S256x128_0_128)))
    (k0_pay11 (View.ld (iblk m c 0 t) (Rect.unit ![0, 256] ![256, 128] inb_S256x384_S256x128_0_256)))
    (k0_pay12 (View.ld (iblk m c 0 t) (Rect.unit ![0, 0] ![256, 128] inb_S256x384_S256x128_0_0)))
    (k0_pay13 (View.ld (iblk m c 0 t) (Rect.unit ![0, 128] ![256, 128] inb_S256x384_S256x128_0_128)))
    (View.ld (iblk m c 0 t) (Rect.unit ![0, 256] ![256, 128] inb_S256x384_S256x128_0_256))
    (iota Kind.tc S256x128 32 [1] iota_S256x128_d1_w32) ((hcond0_0 t).mpr h0)
    ((hs0_1 t).unread (X0_1 m c t)) ((hs0_2 t).unread (X0_2 m c t))
    ((View.whole cc0_scratch0).writes (Elt Ideal) (View.whole cc0_scratch0).junk [⟨full, M₀ (iblk m c 0 t) (iblk m c 3 t)⟩])
    ((View.whole cc0_scratch1).writes (Elt Ideal) (View.whole cc0_scratch1).junk [⟨full, L₀ (iblk m c 0 t) (iblk m c 3 t)⟩])
    ((View.whole cc0_scratch2).writes (Elt Ideal) (View.whole cc0_scratch2).junk [⟨full, A₀ (iblk m c 0 t) (iblk m c 3 t) (iblk m c 4 t)⟩])
    (Scf.trips 0#32 (Scalar.addi 0#32 16#32) 1#32) le_rfl
  have e9 : ∀ w : FVec Ideal S1536x128 .f32, scM0_0.view.read (Elt Ideal) ((View.whole cc0_scratch0).writes (Elt Ideal) (View.whole cc0_scratch0).junk [⟨full, w⟩]) = w := fun w => View.read_writes_full _ _ _ _ _
  have e10 : ∀ w : FVec Ideal S1536x128 .f32, scM0_1.view.read (Elt Ideal) ((View.whole cc0_scratch1).writes (Elt Ideal) (View.whole cc0_scratch1).junk [⟨full, w⟩]) = w := fun w => View.read_writes_full _ _ _ _ _
  have e11 : ∀ w : FVec Ideal S1536x128 .f32, scM0_2.view.read (Elt Ideal) ((View.whole cc0_scratch2).writes (Elt Ideal) (View.whole cc0_scratch2).junk [⟨full, w⟩]) = w := fun w => View.read_writes_full _ _ _ _ _
  have key' := key.trans (state_congr _ _ _ ((hs0_1 t).read_unread (X0_1 m c t)) ((hs0_2 t).read_unread (X0_2 m c t)) (e9 _) (e10 _) (e11 _) _)
  exact congrArg (fun s => blockOf s.2.2 (View.ld s.2.1 col0) (iblk m c 5 t) y) key'

end Cert.KernelIdeal.Att
-- ==== Proof.State.lean ====
/- The loop's invariant: before each trip a row holds the sums over the keys seen so far. -/
module
public import proofs.«01_k».proof.Proof.Gen.KernelIdeal.Value
public import Idealize.ShloMosaic.Lib.Pipeline.ValueKit
public import Idealize.ShloMosaic.Lib.Pointwise
public import Idealize.ShloMosaic.Lib.VecWindow
public import proofs.«01_k».proof.Proof.Block
public import proofs.«01_k».proof.Proof.Online
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- A maximum over finitely many reals, started from the bottom element, is `⊥` or a real. -/
theorem fold_real {ι : Type} (S : Finset ι) (f : ι → EReal) (hf : ∀ i, ∃ a : ℝ, f i = (a : EReal)) :
    (S = ∅ ∧ Finset.fold max (⊥ : EReal) f S = ⊥) ∨ ∃ a : ℝ, Finset.fold max (⊥ : EReal) f S = (a : EReal) := by
  classical
  induction S using Finset.induction_on with
  | empty => left; exact ⟨rfl, rfl⟩
  | insert i S hi ih =>
    right
    rw [Finset.fold_insert hi]
    obtain ⟨a, ha⟩ := hf i
    rcases ih with ⟨_, h⟩ | ⟨b, h⟩
    · exact ⟨a, by rw [h, ha]; exact max_eq_left bot_le⟩
    · exact ⟨max a b, by rw [h, ha]; exact (EReal.coe_strictMono.monotone.map_max).symm⟩

/-- The printed word of minus infinity. -/
theorem ninf : Ideal.ofBits FTy.f32 4286578688#32 = (⊥ : EReal) := by
  simp [Ideal.ofBits, Ideal.ieee]

/-- The maximum of a nonempty row of reals is a real. -/
theorem rowmax_real {n : ℕ} (f : Fin (n + 1) → EReal) (hf : ∀ i, ∃ a : ℝ, f i = (a : EReal)) :
    ∃ a : ℝ, Finset.fold max (Ideal.ofBits FTy.f32 4286578688#32) f Finset.univ = (a : EReal) := by
  rw [ninf]
  rcases fold_real Finset.univ f hf with ⟨h, _⟩ | h
  · exact absurd h (Finset.univ_nonempty.ne_empty)
  · exact h

/-- The loop has 16 trips. -/
theorem trips_eq : k0_t1_loop.trips = 16 := by decide +kernel

/-- Trip `k`'s rows start at row `512·k`. -/
theorem off1 : ∀ k : Fin k0_t1_loop.trips, k0_off1 k 0 = 512 * k.val := by decide +kernel

/-- Row `x` of trip `k`'s rows is row `512·k + x`. -/
theorem ld_rows (i : grid0.Coords) (h : k0_cond1 i = 1#1) (k : Fin k0_t1_loop.trips) (K : Vec Ideal S8192x128 .bf16) (x : Fin 512) (l : Fin 128)
    (hx : 512 * k.val + x.val < 8192) :
    View.ld K (rows i h k) (ix2 x l) = K (ix2 ⟨512 * k.val + x.val, hx⟩ l) := by
  refine View.ld_unit_apply_of (S := S8192x128) K (k0_off1 k) S512x128.size (k0_off1_inb i k h) (ix2 x l) (ix2 ⟨512 * k.val + x.val, hx⟩ l) fun a => ?_
  fin_cases a
  · exact (congrArg (· + x.val) (off1 k)).symm
  · exact (Nat.zero_add _).symm

/-- The first column, read at a row. -/
theorem ld_col0 (X : Vec Ideal S1536x128 .f32) (r : Fin 1536) : View.ld X col0 (ix2 r 0) = X (ix2 r 0) := by
  refine View.ld_unit_apply_of (S := S1536x128) X ![0, 0] S1536x1.size inb_S1536x128_S1536x1_0_0 (ix2 r 0) (ix2 r 0) fun a => ?_
  fin_cases a
  · exact (Nat.zero_add _).symm
  · rfl

section trip
variable (lhs : FVec Ideal S1536x128 .bf16) (K V : FVec Ideal S512x128 .bf16) (M L : FVec Ideal S1536x1 .f32) (A : FVec Ideal S1536x128 .f32)

/-- One trip's new maximum, read at a row. -/
theorem pay3_at (r : Fin 1536) : k0_pay3 (F := Ideal) lhs K M (ix2 r 0)
    = max (M (ix2 r 0)) (Finset.fold max (Ideal.ofBits FTy.f32 4286578688#32) (fun x => ∑ l : Fin 128, lhs (ix2 r l) * K (ix2 x l)) Finset.univ) := by
  have h : ∀ x : Fin 512, k0_pay2 (F := Ideal) lhs K (ix2 r x) = ∑ l : Fin 128, lhs (ix2 r l) * K (ix2 x l) := fun x => by
    pointwise [k0_pay2]
  refine Eq.trans (b := max (M (ix2 r 0)) (Finset.fold max (Ideal.ofBits FTy.f32 4286578688#32) (fun x : Fin 512 => k0_pay2 (F := Ideal) lhs K (ix2 r x)) Finset.univ)) ?_
    (congrArg (fun f => max (M (ix2 r 0)) (Finset.fold max (Ideal.ofBits FTy.f32 4286578688#32) f Finset.univ)) (funext h))
  pointwise [k0_pay3]

/-- It is stored in every column. -/
theorem pay7_at (r : Fin 1536) (d : Fin 128) : k0_pay7 (F := Ideal) lhs K M (ix2 r d) = k0_pay3 (F := Ideal) lhs K M (ix2 r 0) := by
  pointwise [k0_pay7]

/-- One trip's new sum of weights. -/
theorem pay8_at (r : Fin 1536) (d : Fin 128) : k0_pay21 (k0_pay8 (F := Ideal) lhs K M L) (ix2 r d)
    = Ideal.exp (M (ix2 r 0) - k0_pay3 lhs K M (ix2 r 0)) * L (ix2 r 0)
      + ∑ x : Fin 512, Ideal.exp (∑ l : Fin 128, lhs (ix2 r l) * K (ix2 x l) - k0_pay3 lhs K M (ix2 r 0)) := by
  pointwise [k0_pay21, k0_pay8, k0_pay4, k0_pay5, k0_pay2]

/-- One trip's new weighted sum. -/
theorem pay6_at (r : Fin 1536) (d : Fin 128) : k0_pay6 (F := Ideal) lhs K M A V (ix2 r d)
    = Ideal.exp (M (ix2 r 0) - k0_pay3 lhs K M (ix2 r 0)) * A (ix2 r d)
      + ∑ x : Fin 512, Ideal.exp (∑ l : Fin 128, lhs (ix2 r l) * K (ix2 x l) - k0_pay3 lhs K M (ix2 r 0)) * V (ix2 x d) := by
  pointwise [k0_pay6, k0_pay4, k0_pay5, k0_pay2]

end trip

open Online

/-- One more tile of 512 keys joins the weighted sum. -/
theorem W_tile (s : ℕ → ℝ) (v : ℕ → EReal) (M : ℝ) (k : ℕ) (hk : k < 16) :
    W s v M (Finset.range (512 * (k + 1)) ∪ Finset.Ico 8192 8448)
      = W s v M (Finset.range (512 * k) ∪ Finset.Ico 8192 8448) + ∑ x : Fin 512, ((Real.exp (s (512 * k + x) - M) : ℝ) : EReal) * v (512 * k + x) := by
  have hd : ∀ k ≤ 16, Disjoint (Finset.range (512 * k)) (Finset.Ico 8192 8448) := fun k hk => by
    rw [Finset.disjoint_left]; intro a ha hb
    rw [Finset.mem_range] at ha; rw [Finset.mem_Ico] at hb; omega
  unfold W
  rw [Finset.sum_union (hd _ (by omega)), Finset.sum_union (hd _ (by omega)), show 512 * (k + 1) = 512 * k + 512 by ring,
    Finset.sum_range_add, Finset.sum_range (n := 512), add_right_comm]

/-- What a row of the three running arrays holds: the sums over the keys seen so far, relative to some real. -/
def Holds (s : ℕ → ℝ) (v : Fin 128 → ℕ → EReal) (S : Finset ℕ) (r : Fin 1536)
    (p : Vec Ideal S1536x128 .f32 × Vec Ideal S1536x128 .f32 × Vec Ideal S1536x128 .f32) : Prop :=
  ∃ M : ℝ, ∀ d : Fin 128, p.1 (ix2 r d) = (M : EReal) ∧ p.2.1 (ix2 r d) = W s (fun _ => 1) M S ∧ p.2.2 (ix2 r d) = W s (v d) M S

/-- Before trip `k` a row holds the sums over the context keys and the first `512·k` latent keys. -/
theorem state_holds (i : grid0.Coords) (h : k0_cond1 i = 1#1) (lhs : FVec Ideal S1536x128 .bf16) (K V : Vec Ideal S8192x128 .bf16)
    (M₀ L₀ A₀ : Vec Ideal S1536x128 .f32) (s : ℕ → ℝ) (v : Fin 128 → ℕ → EReal) (r : Fin 1536)
    (hs : ∀ x : Fin 8192, ∑ l : Fin 128, lhs (ix2 r l) * (show EReal from K (ix2 x l)) = (s x : EReal))
    (hv : ∀ (x : Fin 8192) (d : Fin 128), V (ix2 x d) = v d x)
    (h0 : Holds s v (Finset.Ico 8192 8448) r (M₀, L₀, A₀)) (k : ℕ) (hk : k ≤ 16) :
    Holds s v (Finset.range (512 * k) ∪ Finset.Ico 8192 8448) r (state i h lhs K V M₀ L₀ A₀ k) := by
  induction k with
  | zero => simpa [state] using h0
  | succ k ih =>
    obtain ⟨M, hM⟩ := ih (by omega)
    have hkt : k < k0_t1_loop.trips := by rw [trips_eq]; omega
    have hx : ∀ x : Fin 512, 512 * k + x.val < 8192 := fun x => by have := x.isLt; omega
    unfold state
    rw [dif_pos hkt]
    generalize state i h lhs K V M₀ L₀ A₀ k = p at hM ⊢
    have hsc : ∀ x : Fin 512, ∑ l : Fin 128, lhs (ix2 r l) * (show EReal from View.ld K (rows i h ⟨k, hkt⟩) (ix2 x l)) = (s (512 * k + x) : EReal) := fun x => by
      rw [← hs ⟨512 * k + x.val, hx x⟩]
      exact Finset.sum_congr rfl fun l _ => congrArg _ (ld_rows i h ⟨k, hkt⟩ K x l (hx x))
    obtain ⟨a, ha⟩ := rowmax_real (n := 511) (fun x : Fin 512 => ∑ l : Fin 128, lhs (ix2 r l) * (show EReal from View.ld K (rows i h ⟨k, hkt⟩) (ix2 x l)))
      fun x => ⟨_, hsc x⟩
    have hm : (View.ld p.1 col0 (ix2 r 0) : EReal) = (M : EReal) := (ld_col0 p.1 r).trans (hM 0).1
    have hl : (View.ld p.2.1 col0 (ix2 r 0) : EReal) = W s (fun _ => 1) M _ := (ld_col0 p.2.1 r).trans (hM 0).2.1
    have hnew : k0_pay3 (F := Ideal) lhs (View.ld K (rows i h ⟨k, hkt⟩)) (View.ld p.1 col0) (ix2 r 0) = ((max M a : ℝ) : EReal) := by
      refine (pay3_at _ _ _ r).trans ?_
      refine (congrArg₂ max hm ha).trans ?_
      exact (EReal.coe_strictMono.monotone.map_max).symm
    refine ⟨max M a, fun d => ⟨(pay7_at _ _ _ r d).trans hnew, ?_, ?_⟩⟩
    · refine (pay8_at _ _ _ _ r d).trans ?_
      rw [hnew, W_tile _ _ _ _ (by omega), ← W_shift _ _ M (max M a)]
      refine congrArg₂ (· + ·) (congrArg₂ (· * ·) ((congrArg (fun z => Ideal.exp (z - _)) hm).trans (exp_coe_sub _ _)) hl) ?_
      refine Finset.sum_congr rfl fun x _ => ?_
      rw [mul_one]
      exact (congrArg (fun z => Ideal.exp (z - _)) (hsc x)).trans (exp_coe_sub _ _)
    · refine (pay6_at _ _ _ _ _ r d).trans ?_
      rw [hnew, W_tile _ _ _ _ (by omega), ← W_shift _ _ M (max M a)]
      refine congrArg₂ (· + ·) (congrArg₂ (· * ·) ((congrArg (fun z => Ideal.exp (z - _)) hm).trans (exp_coe_sub _ _)) (hM d).2.2) ?_
      refine Finset.sum_congr rfl fun x _ => ?_
      refine congrArg₂ (· * ·) ((congrArg (fun z => Ideal.exp (z - _)) (hsc x)).trans (exp_coe_sub _ _)) ?_
      exact (ld_rows i h ⟨k, hkt⟩ V x d (hx x)).trans (hv ⟨_, hx x⟩ d)

end Cert.KernelIdeal.Att
-- ==== Proof.Rows.lean ====
/- The masked queries and the context keys: what the running arrays hold before the loop. -/
module
public import proofs.«01_k».proof.Proof.Gen.KernelIdeal.Value
public import Idealize.ShloMosaic.Lib.Pipeline.ValueKit
public import Idealize.ShloMosaic.Lib.Pointwise
public import Idealize.ShloMosaic.Lib.VecWindow
public import proofs.«01_k».proof.Proof.State
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- The lane test of the masks. -/
theorem lane (l : Fin 128) (a b : EReal) :
    Scalar.select (IntOp.cmpi CmpIPredicate.slt (BitVec.ofNat 32 ↑l) 64#32) a b = if l.val < 64 then a else b := by
  have h : ∀ l : Fin 128, IntOp.cmpi CmpIPredicate.slt (BitVec.ofNat 32 l.val) 64#32 = if l.val < 64 then 1#1 else 0#1 := by decide +kernel
  rw [h]
  by_cases hl : l.val < 64
  · rw [if_pos hl, if_pos hl]; rfl
  · rw [if_neg hl, if_neg hl]; rfl

/-- The row of the score array that holds query `q` of group `g` against key head `j`. -/
abbrev rowOf (j : Fin 2) (g : Fin 3) (q : Fin 256) : Fin 1536 :=
  ⟨(j.val * 3 + g.val) * 256 + q.val, by have := j.isLt; have := g.isLt; have := q.isLt; omega⟩

/-- Column `l` of group `g`. -/
abbrev colOf (g : Fin 3) (l : Fin 128) : Fin 384 := ⟨g.val * 128 + l.val, by have := g.isLt; have := l.isLt; omega⟩

/-- Lane `e` of head `j`. -/
abbrev laneOf (j : Fin 2) (e : Fin 64) : Fin 128 := ⟨j.val * 64 + e.val, by have := j.isLt; have := e.isLt; omega⟩

variable (x0 : Vec Ideal S256x384 .bf16) (kx vx : Vec Ideal S256x128 .bf16)

/-- The opposite lane test. -/
theorem lane_not (l : Fin 128) (a b : EReal) :
    Scalar.select (IntOp.xori (IntOp.cmpi CmpIPredicate.slt (BitVec.ofNat 32 ↑l) 64#32) 1#1) a b = if l.val < 64 then b else a := by
  have h : ∀ l : Fin 128, IntOp.xori (IntOp.cmpi CmpIPredicate.slt (BitVec.ofNat 32 l.val) 64#32) 1#1 = if l.val < 64 then 0#1 else 1#1 := by decide +kernel
  rw [h]
  by_cases hl : l.val < 64
  · rw [if_pos hl, if_pos hl]; rfl
  · rw [if_neg hl, if_neg hl]; rfl

section parts
variable (p0 p1 p2 p3 p4 p5 : FVec Ideal S256x128 .bf16) (msk : IVec S256x128 32)

/-- The concatenation of the six parts, read at a row. -/
theorem pay14_at (r : Fin 1536) (l : Fin 128) : k0_pay14 (F := Ideal) p0 p1 p2 p3 p4 p5 (iota Kind.tc S256x128 32 [1] iota_S256x128_d1_w32) (ix2 r l)
    = if h : r.val < 256 then p0 (ix2 ⟨r.val, h⟩ l)
      else if h : r.val - 256 < 256 then p1 (ix2 ⟨r.val - 256, h⟩ l)
      else if h : r.val - 256 - 256 < 256 then p2 (ix2 ⟨r.val - 256 - 256, h⟩ l)
      else if h : r.val - 256 - 256 - 256 < 256 then p3 (ix2 ⟨r.val - 256 - 256 - 256, h⟩ l)
      else if h : r.val - 256 - 256 - 256 - 256 < 256 then p4 (ix2 ⟨r.val - 256 - 256 - 256 - 256, h⟩ l)
      else Scalar.select (IntOp.xori (IntOp.cmpi CmpIPredicate.slt (BitVec.ofNat 32 ↑l) 64#32) 1#1) (p5 (ix2 ⟨r.val - 256 - 256 - 256 - 256 - 256, by omega⟩ l)) 0 := by
  pointwise [k0_pay14]

/-- A masked part of the first head. -/
theorem pay9_at (q : Fin 256) (l : Fin 128) : k0_pay9 (F := Ideal) p0 (ix2 q l) = if l.val < 64 then p0 (ix2 q l) else 0 := by
  pointwise [k0_pay9]; exact lane _ _ _
/-- The same of the second group. -/
theorem pay10_at (q : Fin 256) (l : Fin 128) : k0_pay10 (F := Ideal) p0 (ix2 q l) = if l.val < 64 then p0 (ix2 q l) else 0 := by
  pointwise [k0_pay10]; exact lane _ _ _
/-- The same of the third group. -/
theorem pay11_at (q : Fin 256) (l : Fin 128) : k0_pay11 (F := Ideal) p0 (ix2 q l) = if l.val < 64 then p0 (ix2 q l) else 0 := by
  pointwise [k0_pay11]; exact lane _ _ _
/-- A masked part of the second head. -/
theorem pay12_at (q : Fin 256) (l : Fin 128) : k0_pay12 (F := Ideal) p0 (ix2 q l) = if l.val < 64 then 0 else p0 (ix2 q l) := by
  pointwise [k0_pay12]; exact lane_not _ _ _
/-- The same of the second group. -/
theorem pay13_at (q : Fin 256) (l : Fin 128) : k0_pay13 (F := Ideal) p0 (ix2 q l) = if l.val < 64 then 0 else p0 (ix2 q l) := by
  pointwise [k0_pay13]; exact lane_not _ _ _
end parts

/-- The three 128-column parts of the query block. -/
theorem ldq0 (q : Fin 256) (l : Fin 128) : (View.ld x0 (Rect.unit ![0, 0] ![256, 128] inb_S256x384_S256x128_0_0) (ix2 q l) : EReal) = x0 (ix2 q (colOf 0 l)) := by
  refine View.ld_unit_apply_of (S := S256x384) x0 ![0, 0] ![256, 128] inb_S256x384_S256x128_0_0 (ix2 q l) (ix2 q (colOf 0 l)) fun a => ?_
  fin_cases a
  · exact (Nat.zero_add _).symm
  · rfl
/-- The second group of 128 columns. -/
theorem ldq1 (q : Fin 256) (l : Fin 128) : (View.ld x0 (Rect.unit ![0, 128] ![256, 128] inb_S256x384_S256x128_0_128) (ix2 q l) : EReal) = x0 (ix2 q (colOf 1 l)) := by
  refine View.ld_unit_apply_of (S := S256x384) x0 ![0, 128] ![256, 128] inb_S256x384_S256x128_0_128 (ix2 q l) (ix2 q (colOf 1 l)) fun a => ?_
  fin_cases a
  · exact (Nat.zero_add _).symm
  · rfl
/-- The third group of 128 columns. -/
theorem ldq2 (q : Fin 256) (l : Fin 128) : (View.ld x0 (Rect.unit ![0, 256] ![256, 128] inb_S256x384_S256x128_0_256) (ix2 q l) : EReal) = x0 (ix2 q (colOf 2 l)) := by
  refine View.ld_unit_apply_of (S := S256x384) x0 ![0, 256] ![256, 128] inb_S256x384_S256x128_0_256 (ix2 q l) (ix2 q (colOf 2 l)) fun a => ?_
  fin_cases a
  · exact (Nat.zero_add _).symm
  · rfl

/-- A row of the left operand: the query's lanes of the row's head, zero in the other lanes. -/
theorem lhs_at (j : Fin 2) (g : Fin 3) (q : Fin 256) (l : Fin 128) :
    lhsOf x0 (ix2 (rowOf j g q) l) = if (l.val < 64 ↔ j.val = 0) then (x0 (ix2 q (colOf g l)) : EReal) else 0 := by
  have kc : ∀ (p : FVec Ideal S256x128 .bf16) (n : ℕ) (hn : n < 256), n = q.val → p (ix2 ⟨n, hn⟩ l) = p (ix2 q l) := fun p n _ e => by subst e; rfl
  have hq := q.isLt
  unfold lhsOf
  rw [pay14_at]
  obtain ⟨j, hj⟩ := j
  obtain ⟨g, hg⟩ := g
  simp only [rowOf]
  rcases (by omega : j = 0 ∨ j = 1) with rfl | rfl <;> rcases (by omega : g = 0 ∨ g = 1 ∨ g = 2) with rfl | rfl | rfl
  · rw [dif_pos (by omega)]
    refine (kc _ _ _ (by omega)).trans ?_
    rw [pay9_at, ldq0]
    simp only [iff_true]; rfl
  · rw [dif_neg (by omega), dif_pos (by omega)]
    refine (kc _ _ _ (by omega)).trans ?_
    rw [pay10_at, ldq1]
    simp only [iff_true]; rfl
  · rw [dif_neg (by omega), dif_neg (by omega), dif_pos (by omega)]
    refine (kc _ _ _ (by omega)).trans ?_
    rw [pay11_at, ldq2]
    simp only [iff_true]; rfl
  · rw [dif_neg (by omega), dif_neg (by omega), dif_neg (by omega), dif_pos (by omega)]
    refine (kc _ _ _ (by omega)).trans ?_
    rw [pay12_at, ldq0]
    simp only [one_ne_zero, iff_false, ite_not]; rfl
  · rw [dif_neg (by omega), dif_neg (by omega), dif_neg (by omega), dif_neg (by omega), dif_pos (by omega)]
    refine (kc _ _ _ (by omega)).trans ?_
    rw [pay13_at, ldq1]
    simp only [one_ne_zero, iff_false, ite_not]; rfl
  · rw [dif_neg (by omega), dif_neg (by omega), dif_neg (by omega), dif_neg (by omega), dif_neg (by omega), lane_not]
    simp only [one_ne_zero, iff_false, ite_not]
    exact if_congr Iff.rfl rfl ((kc _ _ _ (by omega)).trans (ldq2 x0 q l))

/-- The product of a row with a 128-lane key is the product of 64 lanes, those of the row's head. -/
theorem lhs_dot (j : Fin 2) (g : Fin 3) (q : Fin 256) (k : Fin 128 → EReal) :
    ∑ l : Fin 128, lhsOf x0 (ix2 (rowOf j g q) l) * k l
      = ∑ e : Fin 64, (x0 (ix2 q (colOf g (laneOf j e))) : EReal) * k (laneOf j e) := by
  rw [Fin.sum_univ_tiles 2 64 rfl, Fin.sum_univ_two]
  have hz : ∀ (i : Fin 2), i ≠ j → ∑ e : Fin 64, lhsOf x0 (ix2 (rowOf j g q) ⟨i.val * 64 + e.val, by omega⟩) * k ⟨i.val * 64 + e.val, by omega⟩ = 0 := fun i hi => by
    refine Finset.sum_eq_zero fun e _ => ?_
    rw [lhs_at, if_neg, zero_mul]
    have := i.isLt; have := j.isLt; have := e.isLt; have : i.val ≠ j.val := fun h => hi (Fin.ext h); simp only []; omega
  have hn : ∀ (i : Fin 2), i = j → ∑ e : Fin 64, lhsOf x0 (ix2 (rowOf j g q) ⟨i.val * 64 + e.val, by omega⟩) * k ⟨i.val * 64 + e.val, by omega⟩
      = ∑ e : Fin 64, (x0 (ix2 q (colOf g (laneOf j e))) : EReal) * k (laneOf j e) := fun i hi => by
    subst hi
    refine Finset.sum_congr rfl fun e _ => ?_
    rw [lhs_at, if_pos]
    have := i.isLt; have := e.isLt; simp only []; omega
  by_cases hj : j = 0
  · refine (congrArg₂ (· + ·) (hn 0 hj.symm) (hz 1 (by rw [hj]; decide))).trans (add_zero _)
  · have hj1 : j = 1 := by omega
    refine (congrArg₂ (· + ·) (hz 0 (by rw [hj1]; decide)) (hn 1 hj1.symm)).trans (zero_add _)

/-- The scores of the context keys. -/
theorem pay15_at (r : Fin 1536) (x : Fin 256) (v5 v11 v17 v24 v31 v32 : Vec Ideal S256x128 .bf16) (v33 : IVec S256x128 32) :
    k0_pay15 (F := Ideal) v5 v11 v17 v24 v31 v32 v33 kx (ix2 r x)
    = ∑ l : Fin 128, k0_pay14 (F := Ideal) v5 v11 v17 v24 v31 v32 v33 (ix2 r l) * (show EReal from kx (ix2 x l)) := by
  pointwise [k0_pay15]

/-- The row maximum of the context scores. -/
theorem pay16_at (r : Fin 1536) (v5 v11 v17 v24 v31 v32 : Vec Ideal S256x128 .bf16) (v33 : IVec S256x128 32) :
    k0_pay16 (F := Ideal) v5 v11 v17 v24 v31 v32 v33 kx (ix2 r 0)
    = Finset.fold max (Ideal.ofBits FTy.f32 4286578688#32) (fun x : Fin 256 => k0_pay15 (F := Ideal) v5 v11 v17 v24 v31 v32 v33 kx (ix2 r x)) Finset.univ := by
  pointwise [k0_pay16]

/-- The stored row maximum is the same in every lane. -/
theorem pay18_at (r : Fin 1536) (d : Fin 128) (v5 v11 v17 v24 v31 v32 : Vec Ideal S256x128 .bf16) (v33 : IVec S256x128 32) :
    k0_pay18 (F := Ideal) v5 v11 v17 v24 v31 v32 v33 kx (ix2 r d) = k0_pay16 (F := Ideal) v5 v11 v17 v24 v31 v32 v33 kx (ix2 r 0) := by
  pointwise [k0_pay18]

/-- The stored sum of weights, the same in every lane. -/
theorem pay19_at (r : Fin 1536) (d : Fin 128) (v5 v11 v17 v24 v31 v32 : Vec Ideal S256x128 .bf16) (v33 : IVec S256x128 32) :
    k0_pay19 (F := Ideal) v5 v11 v17 v24 v31 v32 v33 kx (ix2 r d)
      = ∑ x : Fin 256, Ideal.exp (k0_pay15 (F := Ideal) v5 v11 v17 v24 v31 v32 v33 kx (ix2 r x) - k0_pay16 (F := Ideal) v5 v11 v17 v24 v31 v32 v33 kx (ix2 r 0)) := by
  pointwise [k0_pay19, k0_pay17]

/-- The stored weighted sum of the context values. -/
theorem pay20_at (r : Fin 1536) (d : Fin 128) (v5 v11 v17 v24 v31 v32 : Vec Ideal S256x128 .bf16) (v33 : IVec S256x128 32) :
    k0_pay20 (F := Ideal) v5 v11 v17 v24 v31 v32 v33 kx vx (ix2 r d)
      = ∑ x : Fin 256, Ideal.exp (k0_pay15 (F := Ideal) v5 v11 v17 v24 v31 v32 v33 kx (ix2 r x) - k0_pay16 (F := Ideal) v5 v11 v17 v24 v31 v32 v33 kx (ix2 r 0)) * (show EReal from vx (ix2 x d)) := by
  pointwise [k0_pay20, k0_pay17]

/-- The scores of the context keys, and their row maxima. -/
def S₀ : FVec Ideal S1536x256 .f32 := k0_pay15 (k0_pay9 (View.ld x0 (Rect.unit ![0, 0] ![256, 128] inb_S256x384_S256x128_0_0)))
    (k0_pay10 (View.ld x0 (Rect.unit ![0, 128] ![256, 128] inb_S256x384_S256x128_0_128)))
    (k0_pay11 (View.ld x0 (Rect.unit ![0, 256] ![256, 128] inb_S256x384_S256x128_0_256)))
    (k0_pay12 (View.ld x0 (Rect.unit ![0, 0] ![256, 128] inb_S256x384_S256x128_0_0)))
    (k0_pay13 (View.ld x0 (Rect.unit ![0, 128] ![256, 128] inb_S256x384_S256x128_0_128)))
    (View.ld x0 (Rect.unit ![0, 256] ![256, 128] inb_S256x384_S256x128_0_256))
    (iota Kind.tc S256x128 32 [1] iota_S256x128_d1_w32) kx
/-- The row maxima of the context scores. -/
def X₀ : FVec Ideal S1536x1 .f32 := k0_pay16 (k0_pay9 (View.ld x0 (Rect.unit ![0, 0] ![256, 128] inb_S256x384_S256x128_0_0)))
    (k0_pay10 (View.ld x0 (Rect.unit ![0, 128] ![256, 128] inb_S256x384_S256x128_0_128)))
    (k0_pay11 (View.ld x0 (Rect.unit ![0, 256] ![256, 128] inb_S256x384_S256x128_0_256)))
    (k0_pay12 (View.ld x0 (Rect.unit ![0, 0] ![256, 128] inb_S256x384_S256x128_0_0)))
    (k0_pay13 (View.ld x0 (Rect.unit ![0, 128] ![256, 128] inb_S256x384_S256x128_0_128)))
    (View.ld x0 (Rect.unit ![0, 256] ![256, 128] inb_S256x384_S256x128_0_256))
    (iota Kind.tc S256x128 32 [1] iota_S256x128_d1_w32) kx

/-- A context score. -/
theorem S₀_at (r : Fin 1536) (x : Fin 256) : S₀ x0 kx (ix2 r x) = ∑ l : Fin 128, lhsOf x0 (ix2 r l) * (show EReal from kx (ix2 x l)) :=
  pay15_at kx r x _ _ _ _ _ _ _
/-- A row maximum. -/
theorem X₀_at (r : Fin 1536) : X₀ x0 kx (ix2 r 0) = Finset.fold max (Ideal.ofBits FTy.f32 4286578688#32) (fun x : Fin 256 => S₀ x0 kx (ix2 r x)) Finset.univ :=
  pay16_at kx r _ _ _ _ _ _ _
/-- The running maximum after the context keys. -/
theorem M₀_at (r : Fin 1536) (d : Fin 128) : M₀ x0 kx (ix2 r d) = X₀ x0 kx (ix2 r 0) := pay18_at kx r d _ _ _ _ _ _ _
/-- The running sum of weights after the context keys. -/
theorem L₀_at (r : Fin 1536) (d : Fin 128) : L₀ x0 kx (ix2 r d) = ∑ x : Fin 256, Ideal.exp (S₀ x0 kx (ix2 r x) - X₀ x0 kx (ix2 r 0)) :=
  pay19_at kx r d _ _ _ _ _ _ _
/-- The running weighted sum after the context keys. -/
theorem A₀_at (r : Fin 1536) (d : Fin 128) : A₀ x0 kx vx (ix2 r d) = ∑ x : Fin 256, Ideal.exp (S₀ x0 kx (ix2 r x) - X₀ x0 kx (ix2 r 0)) * (show EReal from vx (ix2 x d)) :=
  pay20_at kx vx r d _ _ _ _ _ _ _

open Online

/-- After the context keys a row holds the sums over them. -/
theorem init_holds (s : ℕ → ℝ) (v : Fin 128 → ℕ → EReal) (r : Fin 1536)
    (hs : ∀ x : Fin 256, ∑ l : Fin 128, lhsOf x0 (ix2 r l) * (show EReal from kx (ix2 x l)) = (s (8192 + x) : EReal))
    (hv : ∀ (x : Fin 256) (d : Fin 128), vx (ix2 x d) = v d (8192 + x)) :
    Holds s v (Finset.Ico 8192 8448) r (M₀ x0 kx, L₀ x0 kx, A₀ x0 kx vx) := by
  have hW : ∀ (v : ℕ → EReal) (M : ℝ), W s v M (Finset.Ico 8192 8448) = ∑ x : Fin 256, ((Real.exp (s (8192 + x) - M) : ℝ) : EReal) * v (8192 + x) := fun v M => by
    exact (Finset.sum_Ico_eq_sum_range _ 8192 8448).trans (Finset.sum_range (n := 256) _)
  have hsc : ∀ x : Fin 256, S₀ x0 kx (ix2 r x) = (s (8192 + x) : EReal) := fun x => (S₀_at x0 kx r x).trans (hs x)
  obtain ⟨a, ha⟩ := rowmax_real (n := 255) (fun x : Fin 256 => S₀ x0 kx (ix2 r x)) fun x => ⟨_, hsc x⟩
  have hm := (X₀_at x0 kx r).trans ha
  refine ⟨a, fun d => ?_⟩
  dsimp only
  refine ⟨(M₀_at x0 kx r d).trans hm, (L₀_at x0 kx r d).trans ?_, (A₀_at x0 kx vx r d).trans ?_⟩
  · rw [hW]
    refine Finset.sum_congr rfl fun x _ => ?_
    rw [mul_one]
    exact (congrArg₂ (fun y z => Ideal.exp (y - z)) (hsc x) hm).trans (exp_coe_sub _ _)
  · rw [hW]
    refine Finset.sum_congr rfl fun x _ => ?_
    exact congrArg₂ (· * ·) ((congrArg₂ (fun y z => Ideal.exp (y - z)) (hsc x) hm).trans (exp_coe_sub _ _)) (hv x d)

end Cert.KernelIdeal.Att
-- ==== Proof.Out.lean ====
/- The end of the body: the quotient, the norm and the three stores, read at an index. -/
module
public import proofs.«01_k».proof.Proof.Gen.KernelIdeal.Value
public import Idealize.ShloMosaic.Lib.Pipeline.ValueKit
public import Idealize.ShloMosaic.Lib.Pointwise
public import Idealize.ShloMosaic.Lib.VecWindow
public import proofs.«01_k».proof.Proof.Rows
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- The quotient of a row's weighted sum by its sum of weights, in the half of the rows the lane belongs to. -/
def quot (A : Vec Ideal S1536x128 .f32) (L : Vec Ideal S1536x1 .f32) (g : Fin 3) (q : Fin 256) (d : Fin 128) : EReal :=
  (show EReal from A (ix2 (rowOf (if d.val < 64 then 0 else 1) g q) d)) * Ideal.div 1 (L (ix2 (rowOf (if d.val < 64 then 0 else 1) g q) 0))

/-- The inverse root of a row's mean square. -/
def scale (A : Vec Ideal S1536x128 .f32) (L : Vec Ideal S1536x1 .f32) (q : Fin 256) : EReal :=
  Ideal.rsqrt ((∑ x : Fin 128, (quot A L 0 q x * quot A L 0 q x + quot A L 1 q x * quot A L 1 q x + quot A L 2 q x * quot A L 2 q x))
    * ((384⁻¹ : ℝ) : EReal) + Ideal.ofBits FTy.f32 897988541#32)

/-- The value of the named constant. -/
theorem named_val : Named.named (F := Ideal) κ "inv_width" (φ := .f32) 992651947#32 = ((384⁻¹ : ℝ) : EReal) :=
  IdealRules.named_const.ideal_named_scalar _ _ _ _ rfl

variable (A : Vec Ideal S1536x128 .f32) (L : Vec Ideal S1536x1 .f32)

/-- A row of a product of rows, taken by its number. -/
theorem pick (g : Fin 3) (q : Fin 256) (d : Fin 128) (n n' : ℕ) (hn : n < 1536) (hn' : n' < 1536) (e : n = g.val * 256 + q.val) (e' : n' = 768 + g.val * 256 + q.val) :
    Scalar.select (IntOp.cmpi CmpIPredicate.slt (BitVec.ofNat 32 ↑d) 64#32)
      ((show EReal from A (ix2 ⟨n, hn⟩ d)) * Ideal.div 1 (L (ix2 ⟨n, hn⟩ 0)))
      ((show EReal from A (ix2 ⟨n', hn'⟩ d)) * Ideal.div 1 (L (ix2 ⟨n', hn'⟩ 0))) = quot A L g q d := by
  rw [lane]
  unfold quot
  have h0 : (⟨n, hn⟩ : Fin 1536) = rowOf 0 g q := Fin.ext (by show n = _; rw [e]; simp)
  have h1 : (⟨n', hn'⟩ : Fin 1536) = rowOf 1 g q := Fin.ext (by show n' = _; rw [e']; simp; omega)
  by_cases h : d.val < 64
  · simp only [if_pos h]; rw [h0]
  · simp only [if_neg h]; rw [h1]

/-- The three 128-column groups of quotients. -/
theorem pay24_at (q : Fin 256) (d : Fin 128) : k0_pay24 (F := Ideal) A L (ix2 q d) = quot A L 0 q d := by
  refine Eq.trans ?_ (pick A L 0 q d q.val (768 + q.val) (by omega) (by omega) (by simp) (by simp))
  pointwise [k0_pay24, k0_pay22, k0_pay23]
/-- The quotient of the second group. -/
theorem pay25_at (q : Fin 256) (d : Fin 128) : k0_pay25 (F := Ideal) A L (ix2 q d) = quot A L 1 q d := by
  refine Eq.trans ?_ (pick A L 1 q d (256 + q.val) (1024 + q.val) (by omega) (by omega) (by simp) (by simp))
  pointwise [k0_pay25, k0_pay22, k0_pay23]
/-- The quotient of the third group. -/
theorem pay26_at (q : Fin 256) (d : Fin 128) : k0_pay26 (F := Ideal) A L (ix2 q d) = quot A L 2 q d := by
  refine Eq.trans ?_ (pick A L 2 q d (512 + q.val) (1280 + q.val) (by omega) (by omega) (by simp) (by simp))
  pointwise [k0_pay26, k0_pay22, k0_pay23]

/-- The scale of a row. -/
theorem pay27_at (q : Fin 256) : k0_pay27 (F := Ideal) A L (ix2 q 0) = scale A L q := by
  unfold scale
  rw [← named_val]
  pointwise [k0_pay27]
  refine congrArg (fun z => Ideal.rsqrt (z * _ + _)) (Finset.sum_congr rfl fun x _ => ?_)
  rw [pay24_at, pay25_at, pay26_at]

/-- The stored block of the first group. -/
theorem pay28_at (q : Fin 256) (d : Fin 128) (g : Vec Ideal S1x128 .f32) : k0_pay28 (F := Ideal) A L g (ix2 q d) = quot A L 0 q d * scale A L q * (show EReal from g (ix2 0 d)) := by
  pointwise [k0_pay28]
  rw [pay24_at, pay27_at]
/-- The stored block of the second group. -/
theorem pay29_at (q : Fin 256) (d : Fin 128) (g : Vec Ideal S1x128 .f32) : k0_pay29 (F := Ideal) A L g (ix2 q d) = quot A L 1 q d * scale A L q * (show EReal from g (ix2 0 d)) := by
  pointwise [k0_pay29]
  rw [pay25_at, pay27_at]
/-- The stored block of the third group. -/
theorem pay1_at (q : Fin 256) (d : Fin 128) (g : Vec Ideal S1x128 .f32) : k0_pay1 (F := Ideal) (k0_pay26 A L) (k0_pay27 A L) g (ix2 q d) = quot A L 2 q d * scale A L q * (show EReal from g (ix2 0 d)) := by
  pointwise [k0_pay1]
  rw [pay26_at, pay27_at]

/-- The columns of the scale row. -/
theorem ldg (n : ℕ) (inb) (X : Vec Ideal S1x384 .f32) (d : Fin 128) (c : Fin 384) (h : c.val = n + d.val) :
    (View.ld X (Rect.unit ![0, n] ![1, 128] inb) (ix2 0 d) : EReal) = X (ix2 0 c) := by
  refine View.ld_unit_apply_of (S := S1x384) X ![0, n] ![1, 128] inb (ix2 0 d) (ix2 0 c) fun a => ?_
  fin_cases a
  · rfl
  · exact h

/-- The output block read at a query and a column: the quotient, times the row's scale, times the column's scale. -/
theorem block_at (G : Vec Ideal S1x384 .f32) (g : Fin 3) (q : Fin 256) (d : Fin 128) :
    blockOf A L G (ix2 q (colOf g d)) = quot A L g q d * scale A L q * (show EReal from G (ix2 0 (colOf g d))) := by
  unfold blockOf
  obtain ⟨g, hg⟩ := g
  have hd := d.isLt
  canon_tiles x h
  · obtain ⟨a, b, rfl⟩ : ∃ (a : Fin 256) (b : Fin 128), x = ix2 a b := ⟨x 0, x 1, eq_ix2 x⟩
    have e0 : q.val = a.val := h0
    have e1 : g * 128 + d.val = 256 + b.val := h1
    have hb := b.isLt
    obtain rfl : g = 2 := by omega
    obtain rfl : a = q := Fin.ext e0.symm
    obtain rfl : b = d := Fin.ext (by omega)
    exact (pay1_at A L a b _).trans (congrArg _ (ldg 256 _ G b _ (by simp)))
  · obtain ⟨a, b, rfl⟩ : ∃ (a : Fin 256) (b : Fin 128), x = ix2 a b := ⟨x 0, x 1, eq_ix2 x⟩
    have e0 : q.val = a.val := h0
    have e1 : g * 128 + d.val = 128 + b.val := h1
    have hb := b.isLt
    obtain rfl : g = 1 := by omega
    obtain rfl : a = q := Fin.ext e0.symm
    obtain rfl : b = d := Fin.ext (by omega)
    exact (pay29_at A L a b _).trans (congrArg _ (ldg 128 _ G b _ (by simp)))
  · obtain ⟨a, b, rfl⟩ : ∃ (a : Fin 256) (b : Fin 128), x = ix2 a b := ⟨x 0, x 1, eq_ix2 x⟩
    have e0 : q.val = a.val := h0
    have e1 : g * 128 + d.val = b.val := h1
    have hb := b.isLt
    obtain rfl : g = 0 := by omega
    obtain rfl : a = q := Fin.ext e0.symm
    obtain rfl : b = d := Fin.ext (by omega)
    exact (pay28_at A L a b _).trans (congrArg _ (ldg 0 _ G b _ (by simp)))

end Cert.KernelIdeal.Att
-- ==== Proof.Final.lean ====
/- From a grid point's block to the whole output: every element of the kernel's output is the function of `Spec`. -/
module
public import proofs.«01_k».proof.Proof.Gen.KernelIdeal.Value
public import Idealize.ShloMosaic.Lib.Pipeline.ValueKit
public import Idealize.ShloMosaic.Lib.Pointwise
public import Idealize.ShloMosaic.Lib.VecWindow
public import proofs.«01_k».proof.Proof.Reads
public import proofs.«01_k».proof.Proof.Out
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen
open Spec Online

/-- A row whose running sums are known, per head: the quotient it leaves is the attention output. -/
theorem quot_of (p : Vec Ideal S1536x128 .f32 × Vec Ideal S1536x128 .f32 × Vec Ideal S1536x128 .f32) (s : ℕ → ℕ → ℝ) (v : Fin 128 → ℕ → EReal) (S : Finset ℕ) (hS : S.Nonempty)
    (g : Fin 3) (y : Fin 256) (hp : ∀ j : Fin 2, Holds (s j.val) v S (rowOf j g y) p) (d : Fin 128) :
    quot p.2.2 (View.ld p.2.1 col0) g y d = att (s (d.val / 64)) (v d) S := by
  have hj : d.val / 64 = (if d.val < 64 then (0 : Fin 2) else 1).val := by
    split
    · exact Nat.div_eq_of_lt ‹_›
    · show _ = 1
      omega
  unfold quot
  rw [hj]
  generalize (if d.val < 64 then (0 : Fin 2) else 1) = j
  obtain ⟨M, hM⟩ := hp j
  rw [ld_col0, (hM d).2.2, (hM 0).2.1]
  exact W_att _ _ M S hS

variable (m : (ℓ : Loc nD τ sig) → Buf (Elt Ideal) ℓ) (c : Dev nD) (t : Fin cfg0.N)

/-- The three arrays a point reads its heads from. -/
abbrev Q : Vec Ideal S16896x384 .bf16 := m ((c : Thread nD τ).loc main_arg0)
/-- The keys, the values and the scale row. -/
abbrev K : Vec Ideal S16896x128 .bf16 := m ((c : Thread nD τ).loc main_arg1)
/-- The values. -/
abbrev Vv : Vec Ideal S16896x128 .bf16 := m ((c : Thread nD τ).loc main_arg2)
/-- The scale row. -/
abbrev Gn : Vec Ideal S1x384 .f32 := m ((c : Thread nD τ).loc main_arg3)

/-- A row of the masked queries against a row of keys is a score. -/
theorem score_of (hq : Fin2 (Q m c)) (hk : Fin2 (K m c)) (j : Fin 2) (g : Fin 3) (y : Fin 256) (n : ℕ) (k : Fin 128 → EReal)
    (hkk : ∀ l, k l = at2 (K m c) (keyRow (t.val / 33) n) l.val) :
    ∑ l : Fin 128, lhsOf (iblk m c 0 t) (ix2 (rowOf j g y) l) * k l
      = (score (Q m c) (K m c) (t.val / 33) (brow t.val * 256 + y.val) g.val j.val n : EReal) := by
  rw [lhs_dot (iblk m c 0 t) j g y k, ← score_eq hq hk]
  refine Finset.sum_congr rfl fun e _ => ?_
  rw [hkk]
  refine congrArg (· * _) ((rd0 m c t y (colOf g (laneOf j e))).trans ?_)
  show at2 _ _ (g.val * 128 + (j.val * 64 + e.val)) = _
  rw [← Nat.add_assoc]

/-- After the context keys: the sums over them. -/
theorem holds_init (hq : Fin2 (Q m c)) (hk : Fin2 (K m c)) (j : Fin 2) (g : Fin 3) (y : Fin 256) :
    Holds (score (Q m c) (K m c) (t.val / 33) (brow t.val * 256 + y.val) g.val j.val) (fun d n => at2 (Vv m c) (keyRow (t.val / 33) n) d.val)
      (Finset.Ico 8192 8448) (rowOf j g y) (M₀ (iblk m c 0 t) (iblk m c 3 t), L₀ (iblk m c 0 t) (iblk m c 3 t), A₀ (iblk m c 0 t) (iblk m c 3 t) (iblk m c 4 t)) := by
  have hr : ∀ x : Fin 256, (64 + t.val / 33) * 256 + x.val = keyRow (t.val / 33) (8192 + x.val) := fun x => by
    unfold keyRow; rw [if_neg (by omega)]; omega
  refine init_holds _ _ _ _ _ _ (fun x => ?_) fun x d => ?_
  · exact score_of m c t hq hk j g y (8192 + x.val) _ fun l => (rd3 m c t x l).trans (by rw [hr])
  · exact (rd4 m c t x d).trans (by rw [hr])

/-- After all the keys: the sums over all of them. -/
theorem holds_all (hq : Fin2 (Q m c)) (hk : Fin2 (K m c)) (h0 : t.val % 33 ≤ 31) (j : Fin 2) (g : Fin 3) (y : Fin 256) :
    Holds (score (Q m c) (K m c) (t.val / 33) (brow t.val * 256 + y.val) g.val j.val) (fun d n => at2 (Vv m c) (keyRow (t.val / 33) n) d.val)
      (Finset.range 8448) (rowOf j g y)
      (state (grid0.coords t) ((hcond0_0 t).mpr h0) (lhsOf (iblk m c 0 t)) (X0_1 m c t) (X0_2 m c t) (M₀ (iblk m c 0 t) (iblk m c 3 t)) (L₀ (iblk m c 0 t) (iblk m c 3 t)) (A₀ (iblk m c 0 t) (iblk m c 3 t) (iblk m c 4 t)) k0_t1_loop.trips) := by
  have hr : ∀ x : Fin 8192, t.val / 33 * 8192 + x.val = keyRow (t.val / 33) x.val := fun x => by
    unfold keyRow; rw [if_pos x.isLt]
  have hS : Finset.range 8448 = Finset.range (512 * 16) ∪ Finset.Ico 8192 8448 := by
    ext n; simp only [Finset.mem_union, Finset.mem_range, Finset.mem_Ico]; omega
  rw [trips_eq, hS]
  refine state_holds _ _ _ _ _ _ _ _ _ _ _ (fun x => ?_) (fun x d => ?_) (holds_init m c t hq hk j g y) 16 le_rfl
  · exact score_of m c t hq hk j g y x.val _ fun l => (rd1 m c t x l).trans (by rw [hr])
  · exact (rd2 m c t x d).trans (by rw [hr])

/-- A block whose quotients are the attention output holds the normalised output. -/
theorem block_spec (A : Vec Ideal S1536x128 .f32) (L : Vec Ideal S1536x1 .f32) (G : Vec Ideal S1x384 .f32) (q : Vec Ideal S16896x384 .bf16) (k v : Vec Ideal S16896x128 .bf16) (gain : Vec Ideal S1x384 .f32)
    (row : ℕ) (y : Fin 256) (hG : ∀ l, G (ix2 0 l) = at2 gain 0 l.val) (ho : ∀ (g : Fin 3) (d : Fin 128), quot A L g y d = o q k v row g.val d.val) (g : Fin 3) (d : Fin 128) :
    blockOf A L G (ix2 y (colOf g d)) = out q k v gain row g.val d.val := by
  rw [block_at, hG]
  unfold scale out
  simp only [ho]
  rfl

/-- What a grid point leaves at a row and column of its block. -/
theorem point (hq : Fin2 (Q m c)) (hk : Fin2 (K m c)) (y : Fin 256) (g : Fin 3) (d : Fin 128) :
    outsAt0 m c t.val t.isLt (ix2 y (colOf g d)) = out (Q m c) (K m c) (Vv m c) (Gn m c) (brow t.val * 256 + y.val) g.val d.val := by
  have hb := (idx t).2.2.2.2.2.2.2.1
  have hy := y.isLt
  by_cases h0 : t.val % 33 ≤ 31
  · rw [out_A m c t h0]
    have hrow : brow t.val * 256 + y.val < 16384 := by unfold brow; rw [if_pos h0]; omega
    have hbat : batch (brow t.val * 256 + y.val) = t.val / 33 := by
      unfold batch; rw [if_pos hrow]; unfold brow; rw [if_pos h0]; omega
    refine block_spec _ _ _ (Q m c) (K m c) (Vv m c) (Gn m c) _ y (fun l => rd5 m c t 0 l) (fun g d => ?_) g d
    unfold o keys
    rw [if_pos hrow, hbat]
    exact quot_of _ (fun j => score (Q m c) (K m c) (t.val / 33) (brow t.val * 256 + y.val) g.val j) (fun d n => at2 (Vv m c) (keyRow (t.val / 33) n) d.val) (Finset.range 8448) ⟨0, by decide⟩ g y
      (fun j => holds_all m c t hq hk h0 j g y) d
  · rw [out_B m c t h0]
    have hrow : ¬ brow t.val * 256 + y.val < 16384 := by unfold brow; rw [if_neg h0]; omega
    have hbat : batch (brow t.val * 256 + y.val) = t.val / 33 := by
      unfold batch; rw [if_neg hrow]; unfold brow; rw [if_neg h0]; omega
    refine block_spec _ _ _ (Q m c) (K m c) (Vv m c) (Gn m c) _ y (fun l => rd5 m c t 0 l) (fun g d => ?_) g d
    unfold o keys
    rw [if_neg hrow, hbat]
    exact quot_of (M₀ (iblk m c 0 t) (iblk m c 3 t), L₀ (iblk m c 0 t) (iblk m c 3 t), A₀ (iblk m c 0 t) (iblk m c 3 t) (iblk m c 4 t))
      (fun j => score (Q m c) (K m c) (t.val / 33) (brow t.val * 256 + y.val) g.val j) (fun d n => at2 (Vv m c) (keyRow (t.val / 33) n) d.val) (Finset.Ico 8192 8448) ⟨8192, by decide⟩ g y
      (fun j => holds_init m c t hq hk j g y) d

/-- The same at an index of the block. -/
theorem point_idx (hq : Fin2 (Q m c)) (hk : Fin2 (K m c)) (y : S256x384.Idx) :
    outsAt0 m c t.val t.isLt y = out (Q m c) (K m c) (Vv m c) (Gn m c) (brow t.val * 256 + (y 0).val) ((y 1).val / 128) ((y 1).val % 128) := by
  obtain ⟨a, b, rfl⟩ : ∃ (a : Fin 256) (b : Fin 384), y = ix2 a b := ⟨y 0, y 1, eq_ix2 y⟩
  have hb : b = colOf ⟨b.val / 128, by omega⟩ ⟨b.val % 128, by omega⟩ := Fin.ext (by show b.val = b.val / 128 * 128 + b.val % 128; omega)
  exact (congrArg (fun z => outsAt0 m c t.val t.isLt (ix2 a z)) hb).trans (point m c t hq hk a _ _)

/-- The whole output. -/
def outArr : Vec Ideal S16896x384 .bf16 := fun i => out (Q m c) (K m c) (Vv m c) (Gn m c) (i 0).val ((i 1).val / 128) ((i 1).val % 128)

/-- The output array after the run. -/
theorem final (hq : Fin2 (Q m c)) (hk : Fin2 (K m c)) : (dats m 0 c).arrAt 6 cfg0.N = outArr m c := by
  refine (dats m 0 c).arrAt_eq_of_covers 6 _ (by decide +kernel) fun t _ y => ?_
  have h6 := (idx t).2.2.2.2.2.2.1
  blk_simp
  rw [after0_6]
  refine (point_idx m c t hq hk y).trans ?_
  unfold outArr
  blk_simp [h6]

end Cert.KernelIdeal.Att
-- ==== Proof.Ref.lean ====
/- The reference, read at an index: its scores, its softmax and its weighted sum one by one, then the whole result as
   the function of `Spec`. -/
module

public import proofs.«01_k».proof.Proof.Gen.ReferenceIdeal.Run
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

variable (q : FVec Ideal S16896x384 .bf16) (k v : FVec Ideal S16896x128 .bf16) (gain : FVec Ideal S1x384 .f32)

/-- The latent and the context rows of the keys (or values), and all of them in the order of attention. -/
def latK (a : FVec Ideal S16896x128 .bf16) : FVec Ideal S2x8192x2x64 .f32 :=
  shapeCast _ (extractStridedSlice S16384x128 ![0, 0] (extf .f32 a bitsLt_bf16_f32) slices_S16896x128_S16384x128_0_0) shapeCasts_S16384x128_S2x8192x2x64
/-- The context rows of the keys (or values). -/
def ctxK (a : FVec Ideal S16896x128 .bf16) : FVec Ideal S2x256x2x64 .f32 :=
  shapeCast _ (extractStridedSlice S512x128 ![16384, 0] (extf .f32 a bitsLt_bf16_f32) slices_S16896x128_S512x128_16384_0) shapeCasts_S512x128_S2x256x2x64
/-- All the keys (or values): latent rows, then context rows. -/
def allK (a : FVec Ideal S16896x128 .bf16) : FVec Ideal S2x8448x2x64 .f32 :=
  concatenate S2x8448x2x64 1 [⟨S2x8192x2x64, latK a⟩, ⟨S2x256x2x64, ctxK a⟩] concatenates_S2x8192x2x64_S2x256x2x64_S2x8448x2x64_d1
/-- The latent and the context queries. -/
def latQ : FVec Ideal S2x8192x3x2x64 .f32 :=
  shapeCast _ (extractStridedSlice S16384x384 ![0, 0] (extf .f32 q bitsLt_bf16_f32) slices_S16896x384_S16384x384_0_0) shapeCasts_S16384x384_S2x8192x3x2x64
/-- The context queries. -/
def ctxQ : FVec Ideal S2x256x3x2x64 .f32 :=
  shapeCast _ (extractStridedSlice S512x384 ![16384, 0] (extf .f32 q bitsLt_bf16_f32) slices_S16896x384_S512x384_16384_0) shapeCasts_S512x384_S2x256x3x2x64

/-- The printed word of minus infinity. -/
theorem ninf : Ideal.ofBits FTy.f32 0xFF800000#32 = (⊥ : EReal) := by
  simp [Ideal.ofBits, Ideal.ieee]

/-- A maximum over finitely many reals, started from the bottom element, is `⊥` or a real. -/
theorem fold_real {ι : Type} (S : Finset ι) (f : ι → EReal) (hf : ∀ i, ∃ a : ℝ, f i = (a : EReal)) :
    (S = ∅ ∧ Finset.fold max (⊥ : EReal) f S = ⊥) ∨ ∃ a : ℝ, Finset.fold max (⊥ : EReal) f S = (a : EReal) := by
  classical
  induction S using Finset.induction_on with
  | empty => left; exact ⟨rfl, rfl⟩
  | insert i S hi ih =>
    right
    rw [Finset.fold_insert hi]
    obtain ⟨a, ha⟩ := hf i
    rcases ih with ⟨_, h⟩ | ⟨b, h⟩
    · exact ⟨a, by rw [h, ha]; exact max_eq_left bot_le⟩
    · exact ⟨max a b, by rw [h, ha]; exact (EReal.coe_strictMono.monotone.map_max).symm⟩

/-- A maximum reduction of reals from minus infinity is a real wherever it runs over some element. -/
theorem reduce_real {s t u : Shape} {axes : List (Fin s.rank)} (x : s.Idx → EReal) (init : u.Idx → EReal) (h : s.ReducesTo axes t) (hu : 0 < u.numel) (j : t.Idx)
    (hi : init (Shape.Idx.first hu) = ⊥) (hx : ∀ i, ∃ a : ℝ, x i = (a : EReal)) (hne : ∃ i, h.drop i = j) :
    ∃ a : ℝ, Host.reduce (max : EReal → EReal → EReal) x init h hu j = (a : EReal) := by
  rw [Host.reduce_eq_fold, hi]
  obtain ⟨i, hij⟩ := hne
  rcases fold_real (Finset.univ.filter fun i => h.drop i = j) x hx with ⟨h0, _⟩ | h1
  · exact absurd h0 (Finset.Nonempty.ne_empty ⟨i, Finset.mem_filter.mpr ⟨Finset.mem_univ _, hij⟩⟩)
  · exact h1

/-- The same of the maximum as it is printed: joined with a broadcast minus infinity. -/
theorem max_real {s t u : Shape} {axes : List (Fin s.rank)} (x : FVec Ideal s .f32) (h : s.ReducesTo axes t) (hu : 0 < u.numel)
    {dims : Fin u.rank → Fin t.rank} (hb : u.BroadcastsInDim t dims)
    (j : t.Idx) (hx : ∀ i, ∃ a : ℝ, x i = (a : EReal)) (hne : ∃ i, h.drop i = j) :
    ∃ a : ℝ, (maximumf (broadcastInDim t dims hb (constant u .f32 0xFF800000#32)) (Host.reduce FloatOps.maximumf x (constant u .f32 0xFF800000#32) h hu) : FVec Ideal t .f32) j = (a : EReal) := by
  obtain ⟨a, ha⟩ := reduce_real x (constant u .f32 0xFF800000#32 : FVec Ideal u .f32) h hu j ninf hx hne
  exact ⟨a, (congrArg₂ max ninf ha).trans (max_eq_right bot_le)⟩

section l
variable (qq : FVec Ideal S2x8192x3x2x64 .f32) (kk vv : FVec Ideal S2x8448x2x64 .f32) (s p : FVec Ideal S2x2x3x8192x8448 .f32)

/-- The scores, the row maxima, the exponentials, the weights and the output of the latent queries. -/
def lscores : FVec Ideal S2x2x3x8192x8448 .f32 :=
  transpose S2x2x3x8192x8448 [0, 1, 4, 3, 2] (Host.dotGeneral dot_S2x8448x2x64_S2x8192x3x2x64_S2x2x8448x8192x3_3_4_1_12_02_03 none kk qq) transposes_S2x2x8448x8192x3_S2x2x3x8192x8448_0_1_4_3_2
/-- The row maxima. -/
def lmax : FVec Ideal S2x2x3x8192 .f32 :=
  maximumf (broadcastInDim S2x2x3x8192 ![] bcast_S_S2x2x3x8192 (constant S_ .f32 0xFF800000#32)) (Host.reduce FloatOps.maximumf s (constant S_ .f32 0xFF800000#32) reducesTo_S2x2x3x8192x8448_S2x2x3x8192_d4 h_S_)
/-- The exponentials of the scores less the row maximum. -/
def lexp : FVec Ideal S2x2x3x8192x8448 .f32 :=
  Host.exp (subf s (broadcastInDim S2x2x3x8192x8448 ![0, 1, 2, 3, 4] bcast_S2x2x3x8192x1_S2x2x3x8192x8448_0_1_2_3_4 (broadcastInDim S2x2x3x8192x1 ![0, 1, 2, 3] bcast_S2x2x3x8192_S2x2x3x8192x1_0_1_2_3 (lmax s))))
/-- The softmax weights. -/
def lsoft : FVec Ideal S2x2x3x8192x8448 .f32 :=
  Host.divf (lexp s) (broadcastInDim S2x2x3x8192x8448 ![0, 1, 2, 3, 4] bcast_S2x2x3x8192x1_S2x2x3x8192x8448_0_1_2_3_4 (broadcastInDim S2x2x3x8192x1 ![0, 1, 2, 3] bcast_S2x2x3x8192_S2x2x3x8192x1_0_1_2_3 (Host.reduceAdd (lexp s) (constant S_ .f32 0x00000000#32) reducesTo_S2x2x3x8192x8448_S2x2x3x8192_d4 h_S_)))
/-- The weighted sum of the values. -/
def lmix : FVec Ideal S2x8192x3x2x64 .f32 :=
  transpose S2x8192x3x2x64 [0, 4, 3, 1, 2] (Host.dotGeneral dot_S2x8448x2x64_S2x2x3x8192x8448_S2x2x64x3x8192_1_4_3_23_02_01 none vv p) transposes_S2x2x64x3x8192_S2x8192x3x2x64_0_4_3_1_2

/-- A score. -/
theorem lscores_at (b h : Fin 2) (g : Fin 3) (i : Fin 8192) (j : Fin 8448) :
    lscores qq kk (ix5 b h g i j) = ∑ e : Fin 64, qq (ix5 b i g h e) * kk (ix4 b j h e) := by
  pointwise [lscores]
  exact Finset.sum_congr rfl fun e _ => mul_comm _ _

/-- An exponential. -/
theorem lexp_at (b h : Fin 2) (g : Fin 3) (i : Fin 8192) (j : Fin 8448) :
    lexp s (ix5 b h g i j) = Ideal.exp (s (ix5 b h g i j) - lmax s (ix4 b h g i)) := by
  pointwise [lexp]

/-- The row a score belongs to. -/
theorem ldrop (b h : Fin 2) (g : Fin 3) (i : Fin 8192) (j : Fin 8448) :
    Shape.ReducesTo.drop reducesTo_S2x2x3x8192x8448_S2x2x3x8192_d4 (ix5 b h g i j) = ix4 b h g i := by
  funext a
  fin_cases a
  · exact Fin.ext (Shape.ReducesTo.drop_apply_val_of_eq reducesTo_S2x2x3x8192x8448_S2x2x3x8192_d4 _ (0 : Fin 4) (0 : Fin 5) (by decide))
  · exact Fin.ext (Shape.ReducesTo.drop_apply_val_of_eq reducesTo_S2x2x3x8192x8448_S2x2x3x8192_d4 _ (1 : Fin 4) (1 : Fin 5) (by decide))
  · exact Fin.ext (Shape.ReducesTo.drop_apply_val_of_eq reducesTo_S2x2x3x8192x8448_S2x2x3x8192_d4 _ (2 : Fin 4) (2 : Fin 5) (by decide))
  · exact Fin.ext (Shape.ReducesTo.drop_apply_val_of_eq reducesTo_S2x2x3x8192x8448_S2x2x3x8192_d4 _ (3 : Fin 4) (3 : Fin 5) (by decide))

/-- A row maximum of real scores is a real. -/
theorem lmax_real (hs : ∀ i, ∃ a : ℝ, s i = (a : EReal)) (b h : Fin 2) (g : Fin 3) (i : Fin 8192) :
    ∃ a : ℝ, lmax s (ix4 b h g i) = (a : EReal) := by
  unfold lmax
  exact max_real s reducesTo_S2x2x3x8192x8448_S2x2x3x8192_d4 h_S_ _ (ix4 b h g i) hs ⟨_, ldrop b h g i 0⟩

/-- A weight. -/
theorem lsoft_at (b h : Fin 2) (g : Fin 3) (i : Fin 8192) (j : Fin 8448) :
    lsoft s (ix5 b h g i j) = Ideal.div (lexp s (ix5 b h g i j)) (∑ j : Fin 8448, lexp s (ix5 b h g i j)) := by
  pointwise [lsoft]

/-- A weighted sum. -/
theorem lmix_at (b h : Fin 2) (g : Fin 3) (i : Fin 8192) (e : Fin 64) :
    lmix vv p (ix5 b i g h e) = ∑ j : Fin 8448, p (ix5 b h g i j) * vv (ix4 b j h e) := by
  pointwise [lmix]
  exact Finset.sum_congr rfl fun e _ => mul_comm _ _

end l

section c
variable (qq : FVec Ideal S2x256x3x2x64 .f32) (kk vv : FVec Ideal S2x256x2x64 .f32) (s p : FVec Ideal S2x2x3x256x256 .f32)

/-- The scores, the row maxima, the exponentials, the weights and the output of the context queries. -/
def cscores : FVec Ideal S2x2x3x256x256 .f32 :=
  transpose S2x2x3x256x256 [0, 1, 4, 3, 2] (Host.dotGeneral dot_S2x256x2x64_S2x256x3x2x64_S2x2x256x256x3_3_4_1_12_02_03 none kk qq) transposes_S2x2x256x256x3_S2x2x3x256x256_0_1_4_3_2
/-- The row maxima. -/
def cmax : FVec Ideal S2x2x3x256 .f32 :=
  maximumf (broadcastInDim S2x2x3x256 ![] bcast_S_S2x2x3x256 (constant S_ .f32 0xFF800000#32)) (Host.reduce FloatOps.maximumf s (constant S_ .f32 0xFF800000#32) reducesTo_S2x2x3x256x256_S2x2x3x256_d4 h_S_)
/-- The exponentials of the scores less the row maximum. -/
def cexp : FVec Ideal S2x2x3x256x256 .f32 :=
  Host.exp (subf s (broadcastInDim S2x2x3x256x256 ![0, 1, 2, 3, 4] bcast_S2x2x3x256x1_S2x2x3x256x256_0_1_2_3_4 (broadcastInDim S2x2x3x256x1 ![0, 1, 2, 3] bcast_S2x2x3x256_S2x2x3x256x1_0_1_2_3 (cmax s))))
/-- The softmax weights. -/
def csoft : FVec Ideal S2x2x3x256x256 .f32 :=
  Host.divf (cexp s) (broadcastInDim S2x2x3x256x256 ![0, 1, 2, 3, 4] bcast_S2x2x3x256x1_S2x2x3x256x256_0_1_2_3_4 (broadcastInDim S2x2x3x256x1 ![0, 1, 2, 3] bcast_S2x2x3x256_S2x2x3x256x1_0_1_2_3 (Host.reduceAdd (cexp s) (constant S_ .f32 0x00000000#32) reducesTo_S2x2x3x256x256_S2x2x3x256_d4 h_S_)))
/-- The weighted sum of the values. -/
def cmix : FVec Ideal S2x256x3x2x64 .f32 :=
  transpose S2x256x3x2x64 [0, 4, 3, 1, 2] (Host.dotGeneral dot_S2x256x2x64_S2x2x3x256x256_S2x2x64x3x256_1_4_3_23_02_01 none vv p) transposes_S2x2x64x3x256_S2x256x3x2x64_0_4_3_1_2

/-- A score. -/
theorem cscores_at (b h : Fin 2) (g : Fin 3) (i : Fin 256) (j : Fin 256) :
    cscores qq kk (ix5 b h g i j) = ∑ e : Fin 64, qq (ix5 b i g h e) * kk (ix4 b j h e) := by
  pointwise [cscores]
  exact Finset.sum_congr rfl fun e _ => mul_comm _ _

/-- An exponential. -/
theorem cexp_at (b h : Fin 2) (g : Fin 3) (i : Fin 256) (j : Fin 256) :
    cexp s (ix5 b h g i j) = Ideal.exp (s (ix5 b h g i j) - cmax s (ix4 b h g i)) := by
  pointwise [cexp]

/-- The row a score belongs to. -/
theorem cdrop (b h : Fin 2) (g : Fin 3) (i : Fin 256) (j : Fin 256) :
    Shape.ReducesTo.drop reducesTo_S2x2x3x256x256_S2x2x3x256_d4 (ix5 b h g i j) = ix4 b h g i := by
  funext a
  fin_cases a
  · exact Fin.ext (Shape.ReducesTo.drop_apply_val_of_eq reducesTo_S2x2x3x256x256_S2x2x3x256_d4 _ (0 : Fin 4) (0 : Fin 5) (by decide))
  · exact Fin.ext (Shape.ReducesTo.drop_apply_val_of_eq reducesTo_S2x2x3x256x256_S2x2x3x256_d4 _ (1 : Fin 4) (1 : Fin 5) (by decide))
  · exact Fin.ext (Shape.ReducesTo.drop_apply_val_of_eq reducesTo_S2x2x3x256x256_S2x2x3x256_d4 _ (2 : Fin 4) (2 : Fin 5) (by decide))
  · exact Fin.ext (Shape.ReducesTo.drop_apply_val_of_eq reducesTo_S2x2x3x256x256_S2x2x3x256_d4 _ (3 : Fin 4) (3 : Fin 5) (by decide))

/-- A row maximum of real scores is a real. -/
theorem cmax_real (hs : ∀ i, ∃ a : ℝ, s i = (a : EReal)) (b h : Fin 2) (g : Fin 3) (i : Fin 256) :
    ∃ a : ℝ, cmax s (ix4 b h g i) = (a : EReal) := by
  unfold cmax
  exact max_real s reducesTo_S2x2x3x256x256_S2x2x3x256_d4 h_S_ _ (ix4 b h g i) hs ⟨_, cdrop b h g i 0⟩

/-- A weight. -/
theorem csoft_at (b h : Fin 2) (g : Fin 3) (i : Fin 256) (j : Fin 256) :
    csoft s (ix5 b h g i j) = Ideal.div (cexp s (ix5 b h g i j)) (∑ j : Fin 256, cexp s (ix5 b h g i j)) := by
  pointwise [csoft]

/-- A weighted sum. -/
theorem cmix_at (b h : Fin 2) (g : Fin 3) (i : Fin 256) (e : Fin 64) :
    cmix vv p (ix5 b i g h e) = ∑ j : Fin 256, p (ix5 b h g i j) * vv (ix4 b j h e) := by
  pointwise [cmix]
  exact Finset.sum_congr rfl fun e _ => mul_comm _ _

end c

/-- The attention output before the normalisation, all rows. -/
def mixed : FVec Ideal S16896x384 .f32 :=
  concatenate S16896x384 0 [⟨S16384x384, (shapeCast _ (lmix (allK v) (lsoft (lscores (latQ q) (allK k)))) shapeCasts_S2x8192x3x2x64_S16384x384)⟩,
    ⟨S512x384, (shapeCast _ (cmix (ctxK v) (csoft (cscores (ctxQ q) (ctxK k)))) shapeCasts_S2x256x3x2x64_S512x384)⟩] concatenates_S16384x384_S512x384_S16896x384_d0

/-- The normalisation of the rows. -/
def normed (x : FVec Ideal S16896x384 .f32) : FVec Ideal S16896x384 .bf16 :=
  truncf .bf16 (mulf (mulf x (broadcastInDim S16896x384 ![0, 1] bcast_S16896x1_S16896x384_0_1 (Host.rsqrt (addf (Host.divf (broadcastInDim S16896x1 ![0] bcast_S16896_S16896x1_0 (Host.reduceAdd (mulf x x) (constant S_ .f32 0x00000000#32) reducesTo_S16896x384_S16896_d1 h_S_)) (broadcastInDim S16896x1 ![] bcast_S_S16896x1 (constant S_ .f32 0x43C00000#32))) (broadcastInDim S16896x1 ![] bcast_S_S16896x1 (constant S_ .f32 0x358637BD#32)))))) (broadcastInDim S16896x384 ![0, 1] bcast_S1x384_S16896x384_0_1 gain)) bitsLt_bf16_f32

/-- The reference's result is the normalisation of the attention output. -/
theorem res_eq (m : (ℓ : Loc nD τ sig) → Buf (Elt Ideal) ℓ) (c : Dev nD) :
    Value.res_main_v62 m c = normed (m ((c.tc : Thread nD τ).loc main_arg3)) (mixed (m ((c.tc : Thread nD τ).loc main_arg0)) (m ((c.tc : Thread nD τ).loc main_arg1)) (m ((c.tc : Thread nD τ).loc main_arg2))) := rfl

end Cert.ReferenceIdeal.Att
-- ==== Proof.RefEq.lean ====
/- The reference is the function of `Spec`: its scores are `Spec.score`, its softmax sum is `Spec.o`, and the whole result
   is `Spec.out`. -/
module

public import proofs.«01_k».proof.Proof.Ref

@[expose] public section

set_option maxRecDepth 16384

noncomputable section

open Idealize.ShloMosaic Idealize.ShloMosaic.TcCoe Idealize.SL.Sem

namespace Cert.ReferenceIdeal.Att

open Cert.ReferenceIdeal Cert.ReferenceIdeal.Gen Spec

variable (q : FVec Ideal S16896x384 .bf16) (k v a : FVec Ideal S16896x128 .bf16) (gain : FVec Ideal S1x384 .f32)

/-- The latent rows of the keys. -/
theorem latK_at (b : Fin 2) (j : Fin 8192) (h : Fin 2) (e : Fin 64) :
    latK a (ix4 b j h e) = at2 a (b.val * 8192 + j.val) (h.val * 64 + e.val) := by
  refine Eq.trans ?_ (at2_eq a ⟨b.val * 8192 + j.val, by omega⟩ ⟨h.val * 64 + e.val, by omega⟩ _ _ rfl rfl).symm
  pointwise [latK]

/-- The context rows of the keys. -/
theorem ctxK_at (b : Fin 2) (j : Fin 256) (h : Fin 2) (e : Fin 64) :
    ctxK a (ix4 b j h e) = at2 a (keyRow b.val (8192 + j.val)) (h.val * 64 + e.val) := by
  have hr : keyRow b.val (8192 + j.val) = 16384 + (b.val * 256 + j.val) := by
    unfold keyRow; rw [if_neg (by omega)]; omega
  rw [hr]
  refine Eq.trans ?_ (at2_eq a ⟨16384 + (b.val * 256 + j.val), by omega⟩ ⟨h.val * 64 + e.val, by omega⟩ _ _ rfl rfl).symm
  pointwise [ctxK]

/-- All the keys, in the order of attention. -/
theorem allK_at (b : Fin 2) (j : Fin 8448) (h : Fin 2) (e : Fin 64) :
    allK a (ix4 b j h e) = at2 a (keyRow b.val j.val) (h.val * 64 + e.val) := by
  have hh : allK a (ix4 b j h e) = if hj : j.val < 8192 then latK a (ix4 b ⟨j.val, hj⟩ h e) else ctxK a (ix4 b ⟨j.val - 8192, by omega⟩ h e) := by
    pointwise [allK]
  rw [hh]
  split
  · rename_i hj
    rw [latK_at]
    unfold keyRow
    rw [if_pos hj]
  · rename_i hj
    rw [ctxK_at]
    dsimp only
    rw [Nat.add_sub_cancel' (by omega)]

/-- The latent queries. -/
theorem latQ_at (b : Fin 2) (i : Fin 8192) (g : Fin 3) (h : Fin 2) (e : Fin 64) :
    latQ q (ix5 b i g h e) = at2 q (b.val * 8192 + i.val) (g.val * 128 + h.val * 64 + e.val) := by
  refine Eq.trans ?_ (at2_eq q ⟨b.val * 8192 + i.val, by omega⟩ ⟨g.val * 128 + h.val * 64 + e.val, by omega⟩ _ _ rfl rfl).symm
  pointwise [latQ]

/-- The context queries. -/
theorem ctxQ_at (b : Fin 2) (i : Fin 256) (g : Fin 3) (h : Fin 2) (e : Fin 64) :
    ctxQ q (ix5 b i g h e) = at2 q (16384 + (b.val * 256 + i.val)) (g.val * 128 + h.val * 64 + e.val) := by
  refine Eq.trans ?_ (at2_eq q ⟨16384 + (b.val * 256 + i.val), by omega⟩ ⟨g.val * 128 + h.val * 64 + e.val, by omega⟩ _ _ rfl rfl).symm
  pointwise [ctxQ]

/-- A sum over the keys of a latent query, as a sum over their numbers. -/
theorem lsum (f : ℕ → EReal) : ∑ j : Fin 8448, f (j.val) = ∑ j ∈ Finset.range 8448, f j := by
  rw [Finset.sum_range]

/-- The scores of the latent queries. -/
theorem lscore (hq : Fin2 q) (hk : Fin2 k) (b h : Fin 2) (g : Fin 3) (i : Fin 8192) (j : Fin 8448) :
    lscores (latQ q) (allK k) (ix5 b h g i j) = (score q k b.val (b.val * 8192 + i.val) g.val h.val (j.val) : EReal) := by
  rw [lscores_at, ← score_eq hq hk]
  refine Finset.sum_congr rfl fun e _ => ?_
  rw [latQ_at, allK_at]

/-- Every score of a latent query is a real. -/
theorem lscore_real (hq : Fin2 q) (hk : Fin2 k) (n : S2x2x3x8192x8448.Idx) : ∃ x : ℝ, lscores (latQ q) (allK k) n = (x : EReal) :=
  ⟨_, (congrArg (lscores (latQ q) (allK k)) (ix5_eta n).symm).trans (lscore q k hq hk (n 0) (n 1) (n 2) (n 3) (n 4))⟩

/-- The output of the latent queries before the norm. -/
theorem lout (hq : Fin2 q) (hk : Fin2 k) (b h : Fin 2) (g : Fin 3) (i : Fin 8192) (e : Fin 64) :
    lmix (allK v) (lsoft (lscores (latQ q) (allK k))) (ix5 b i g h e)
      = Online.att (score q k b.val (b.val * 8192 + i.val) g.val h.val) (fun j => at2 v (keyRow b.val j) (h.val * 64 + e.val)) (Finset.range 8448) := by
  obtain ⟨M, hM⟩ := lmax_real (lscores (latQ q) (allK k)) (lscore_real q k hq hk) b h g i
  have he : ∀ j : Fin 8448, lexp (lscores (latQ q) (allK k)) (ix5 b h g i j)
      = ((Real.exp (score q k b.val (b.val * 8192 + i.val) g.val h.val (j.val) - M) : ℝ) : EReal) := fun j => by
    rw [lexp_at, hM, lscore q k hq hk, Online.exp_coe_sub]
  have hW : ∑ j : Fin 8448, lexp (lscores (latQ q) (allK k)) (ix5 b h g i j)
      = Online.W (score q k b.val (b.val * 8192 + i.val) g.val h.val) (fun _ => 1) M (Finset.range 8448) := by
    unfold Online.W
    rw [← lsum (fun j => ((Real.exp (score q k b.val (b.val * 8192 + i.val) g.val h.val j - M) : ℝ) : EReal) * 1)]
    exact Finset.sum_congr rfl fun j _ => by rw [he, mul_one]
  rw [lmix_at, ← Online.soft_att _ _ M (Finset.range 8448) ⟨8192, by decide⟩]
  rw [← lsum (fun j => Ideal.div (((Real.exp (score q k b.val (b.val * 8192 + i.val) g.val h.val j - M) : ℝ) : EReal)) (Online.W (score q k b.val (b.val * 8192 + i.val) g.val h.val) (fun _ => 1) M (Finset.range 8448)) * at2 v (keyRow b.val j) (h.val * 64 + e.val))]
  refine Finset.sum_congr rfl fun j _ => ?_
  rw [lsoft_at, hW, he, allK_at]

/-- A sum over the keys of a context query, as a sum over their numbers. -/
theorem csum (f : ℕ → EReal) : ∑ j : Fin 256, f (8192 + j.val) = ∑ j ∈ Finset.Ico 8192 8448, f j := by
  rw [Finset.sum_Ico_eq_sum_range, show 8448 - 8192 = 256 from rfl, Finset.sum_range]

/-- The scores of the context queries. -/
theorem cscore (hq : Fin2 q) (hk : Fin2 k) (b h : Fin 2) (g : Fin 3) (i : Fin 256) (j : Fin 256) :
    cscores (ctxQ q) (ctxK k) (ix5 b h g i j) = (score q k b.val (16384 + (b.val * 256 + i.val)) g.val h.val (8192 + j.val) : EReal) := by
  rw [cscores_at, ← score_eq hq hk]
  refine Finset.sum_congr rfl fun e _ => ?_
  rw [ctxQ_at, ctxK_at]

/-- Every score of a context query is a real. -/
theorem cscore_real (hq : Fin2 q) (hk : Fin2 k) (n : S2x2x3x256x256.Idx) : ∃ x : ℝ, cscores (ctxQ q) (ctxK k) n = (x : EReal) :=
  ⟨_, (congrArg (cscores (ctxQ q) (ctxK k)) (ix5_eta n).symm).trans (cscore q k hq hk (n 0) (n 1) (n 2) (n 3) (n 4))⟩

/-- The output of the context queries before the norm. -/
theorem cout (hq : Fin2 q) (hk : Fin2 k) (b h : Fin 2) (g : Fin 3) (i : Fin 256) (e : Fin 64) :
    cmix (ctxK v) (csoft (cscores (ctxQ q) (ctxK k))) (ix5 b i g h e)
      = Online.att (score q k b.val (16384 + (b.val * 256 + i.val)) g.val h.val) (fun j => at2 v (keyRow b.val j) (h.val * 64 + e.val)) (Finset.Ico 8192 8448) := by
  obtain ⟨M, hM⟩ := cmax_real (cscores (ctxQ q) (ctxK k)) (cscore_real q k hq hk) b h g i
  have he : ∀ j : Fin 256, cexp (cscores (ctxQ q) (ctxK k)) (ix5 b h g i j)
      = ((Real.exp (score q k b.val (16384 + (b.val * 256 + i.val)) g.val h.val (8192 + j.val) - M) : ℝ) : EReal) := fun j => by
    rw [cexp_at, hM, cscore q k hq hk, Online.exp_coe_sub]
  have hW : ∑ j : Fin 256, cexp (cscores (ctxQ q) (ctxK k)) (ix5 b h g i j)
      = Online.W (score q k b.val (16384 + (b.val * 256 + i.val)) g.val h.val) (fun _ => 1) M (Finset.Ico 8192 8448) := by
    unfold Online.W
    rw [← csum (fun j => ((Real.exp (score q k b.val (16384 + (b.val * 256 + i.val)) g.val h.val j - M) : ℝ) : EReal) * 1)]
    exact Finset.sum_congr rfl fun j _ => by rw [he, mul_one]
  rw [cmix_at, ← Online.soft_att _ _ M (Finset.Ico 8192 8448) ⟨8192, by decide⟩]
  rw [← csum (fun j => Ideal.div (((Real.exp (score q k b.val (16384 + (b.val * 256 + i.val)) g.val h.val j - M) : ℝ) : EReal)) (Online.W (score q k b.val (16384 + (b.val * 256 + i.val)) g.val h.val) (fun _ => 1) M (Finset.Ico 8192 8448)) * at2 v (keyRow b.val j) (h.val * 64 + e.val))]
  refine Finset.sum_congr rfl fun j _ => ?_
  rw [csoft_at, hW, he, ctxK_at]

/-- The reference before the norm. -/
theorem mixed_at (hq : Fin2 q) (hk : Fin2 k) (r : Fin 16896) (c : Fin 384) :
    mixed q k v (ix2 r c) = o q k v r.val (c.val / 128) (c.val % 128) := by
  have hm : mixed q k v (ix2 r c) = if hr : r.val < 16384
      then lmix (allK v) (lsoft (lscores (latQ q) (allK k))) (ix5 ⟨r.val / 8192, by omega⟩ ⟨r.val % 8192, by omega⟩ ⟨c.val / 128, by omega⟩ ⟨c.val / 64 % 2, by omega⟩ ⟨c.val % 64, by omega⟩)
      else cmix (ctxK v) (csoft (cscores (ctxQ q) (ctxK k))) (ix5 ⟨(r.val - 16384) / 256, by omega⟩ ⟨(r.val - 16384) % 256, by omega⟩ ⟨c.val / 128, by omega⟩ ⟨c.val / 64 % 2, by omega⟩ ⟨c.val % 64, by omega⟩) := by
    pointwise [mixed]
  have h1 : c.val / 64 % 2 = c.val % 128 / 64 := by omega
  have h2 : c.val / 64 % 2 * 64 + c.val % 64 = c.val % 128 := by omega
  rw [hm]
  unfold o batch keys
  split
  · rename_i hr
    rw [lout q k v hq hk]
    dsimp only
    rw [h2, h1, Nat.div_add_mod' r.val 8192]
  · rename_i hr
    rw [cout q k v hq hk]
    dsimp only
    have h3 : 16384 + ((r.val - 16384) / 256 * 256 + (r.val - 16384) % 256) = r.val := by omega
    rw [h2, h1, h3]

/-- The norm at an index. -/
theorem normed_at (x : FVec Ideal S16896x384 .f32) (r : Fin 16896) (c : Fin 384) :
    normed gain x (ix2 r c) = x (ix2 r c) * Ideal.rsqrt (Ideal.div (∑ y : Fin 384, x (ix2 r y) * x (ix2 r y)) (Ideal.ofBits .f32 0x43C00000#32) + Ideal.ofBits .f32 897988541#32) * gain (ix2 0 c) := by
  pointwise [normed]

/-- Division by the width is multiplication by its inverse. -/
theorem div_width (x : EReal) : Ideal.div x (Ideal.ofBits .f32 0x43C00000#32) = x * ((384⁻¹ : ℝ) : EReal) := by
  have h : Ideal.ofBits .f32 0x43C00000#32 = ((384 : ℝ) : EReal) := by
    simp [Ideal.ofBits, Ideal.ieee]
    rw [← EReal.coe_mul]
    norm_num
  rw [h, Ideal.div_coe (by norm_num), one_div]

/-- The reference's result is the function of `Spec`. -/
theorem result_at (hq : Fin2 q) (hk : Fin2 k) (r : Fin 16896) (c : Fin 384) :
    normed gain (mixed q k v) (ix2 r c) = out q k v gain r.val (c.val / 128) (c.val % 128) := by
  have hs : ∑ y : Fin 384, mixed q k v (ix2 r y) * mixed q k v (ix2 r y)
      = ∑ x : Fin 128, (o q k v r.val 0 x * o q k v r.val 0 x + o q k v r.val 1 x * o q k v r.val 1 x + o q k v r.val 2 x * o q k v r.val 2 x) := by
    rw [Fin.sum_univ_tiles 3 128 rfl, Fin.sum_univ_three, ← Finset.sum_add_distrib, ← Finset.sum_add_distrib]
    refine Finset.sum_congr rfl fun x _ => ?_
    have e0 : (0 * 128 + x.val) / 128 = 0 ∧ (0 * 128 + x.val) % 128 = x.val := by omega
    have e1 : (1 * 128 + x.val) / 128 = 1 ∧ (1 * 128 + x.val) % 128 = x.val := by omega
    have e2 : (2 * 128 + x.val) / 128 = 2 ∧ (2 * 128 + x.val) % 128 = x.val := by omega
    simp only [mixed_at q k v hq hk]
    refine (congrArg₂ (· + ·) (congrArg₂ (· + ·) (?_ : o q k v r.val ((0 * 128 + x.val) / 128) ((0 * 128 + x.val) % 128) * o q k v r.val ((0 * 128 + x.val) / 128) ((0 * 128 + x.val) % 128) = _)
      (?_ : o q k v r.val ((1 * 128 + x.val) / 128) ((1 * 128 + x.val) % 128) * o q k v r.val ((1 * 128 + x.val) / 128) ((1 * 128 + x.val) % 128) = _))
      (?_ : o q k v r.val ((2 * 128 + x.val) / 128) ((2 * 128 + x.val) % 128) * o q k v r.val ((2 * 128 + x.val) / 128) ((2 * 128 + x.val) % 128) = _))
    · rw [e0.1, e0.2]
    · rw [e1.1, e1.2]
    · rw [e2.1, e2.2]
  have hc : c.val / 128 * 128 + c.val % 128 = c.val := by omega
  rw [normed_at, mixed_at q k v hq hk, hs, div_width]
  unfold out
  rw [hc, at2_eq gain 0 c 0 c.val rfl rfl]

end Cert.ReferenceIdeal.Att
-- ==== Proof.Pre.lean ====
/- The precondition: every query and every key is a finite number. -/
module

public import proofs.«01_k».proof.Defs
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.Pre_finite.Gen

/-- The shape facts of the precondition. -/
theorem facts : Cert.Pre_finite.Facts := ⟨by decide, by decide⟩

/-- A number whose absolute value is below the printed infinity is a real. -/
theorem real_of_lt (x : EReal) (h : BitVec.ofBool (decide (max x (-x) < Ideal.ofBits FTy.bf16 0x7F80#16)) = 1#1) : ∃ a : ℝ, x = (a : EReal) := by
  have ht : Ideal.ofBits FTy.bf16 0x7F80#16 = (⊤ : EReal) := by
    simp [Ideal.ofBits, Ideal.ieee]
  rw [ht] at h
  induction x with
  | bot => simp at h
  | top => simp at h
  | coe a => exact ⟨a, rfl⟩

attribute [local instance] facts

/-- Where the precondition holds the queries and the keys are real. -/
theorem real (q : FVec Ideal S16896x384 .bf16) (k v : FVec Ideal S16896x128 .bf16) (g : FVec Ideal S1x384 .f32)
    (h : Cert.Pre_finite.fn (F := Ideal) q k v g = fun _ => 1#1) : Spec.Fin2 q ∧ Spec.Fin2 k := by
  have hr : ∀ (r : Fin 16896) (x : Fin 512), Cert.Pre_finite.fn (F := Ideal) q k v g (ix2 r x)
      = BitVec.ofBool (decide ((if h : x.val < 384 then (max (q (ix2 r ⟨x.val, h⟩)) (-q (ix2 r ⟨x.val, h⟩)) : EReal)
          else max (k (ix2 r ⟨x.val - 384, by omega⟩)) (-k (ix2 r ⟨x.val - 384, by omega⟩))) < Ideal.ofBits FTy.bf16 0x7F80#16)) := by
    pointwise [Cert.Pre_finite.fn]
    intro r x
    split <;> rfl
  constructor
  · intro i
    obtain ⟨r, x, rfl⟩ : ∃ (r : Fin 16896) (x : Fin 384), i = ix2 r x := ⟨i 0, i 1, eq_ix2 i⟩
    have hx := (hr r ⟨x.val, by omega⟩).symm.trans (congrFun h _)
    rw [dif_pos x.isLt] at hx
    exact real_of_lt _ hx
  · intro i
    obtain ⟨r, x, rfl⟩ : ∃ (r : Fin 16896) (x : Fin 128), i = ix2 r x := ⟨i 0, i 1, eq_ix2 i⟩
    have hx := (hr r ⟨384 + x.val, by omega⟩).symm.trans (congrFun h _)
    have e : (⟨384 + x.val - 384, by omega⟩ : Fin 128) = x := Fin.ext (Nat.add_sub_cancel_left _ _)
    rw [dif_neg (by dsimp only; omega)] at hx
    dsimp only at hx
    rw [e] at hx
    exact real_of_lt _ hx

end Cert.Pre_finite.Gen
-- ==== Proof.Spec2.lean ====
/- The function both programs of the output projection and the feed-forward part compute, written once for one row:
   the mixed row through `w_o`, added to the residual, normalised; the gated feed-forward part of it, added and
   normalised again. -/
module

public import proofs.«01_k».proof.Proof.Spec

@[expose] public section

noncomputable section

namespace Spec2

open Idealize.ShloMosaic

/-- The mean of a row of 1024 numbers. -/
def mean (v : Fin 1024 → EReal) : EReal := Ideal.div (∑ x, v x) (Ideal.ofBits FTy.f32 0x44800000#32)

/-- The row less its mean, over the root of its variance plus the small constant. -/
def norm (v : Fin 1024 → EReal) (j : Fin 1024) : EReal :=
  (v j - mean v) * Ideal.rsqrt (mean (fun x => (v x - mean v) * (v x - mean v)) + Ideal.ofBits FTy.f32 0x358637BD#32)

/-- The scaled residual plus the gated branch. -/
def resid (x g y : Fin 1024 → EReal) (i : Fin 1024) : EReal := Ideal.ofBits FTy.f32 0x3FD744FD#32 * x i + g i * y i

/-- The normalised row with its gain and bias. -/
def affine (v g b : Fin 1024 → EReal) (i : Fin 1024) : EReal := norm v i * g i + b i

/-- The modulated normalised row. -/
def modulated (v sc sh : Fin 1024 → EReal) (i : Fin 1024) : EReal := norm v i * (1 + sc i) + sh i

/-- A row times a matrix. -/
def proj {n m : ℕ} (o : Fin n → EReal) (w : Fin n → Fin m → EReal) (i : Fin m) : EReal := ∑ k, o k * w k i

/-- The gated hidden layer. -/
def gated (h : Fin 1024 → EReal) (wa wb : Fin 1024 → Fin 2816 → EReal) (j : Fin 2816) : EReal :=
  proj h wa j * Ideal.logistic (proj h wa j) * proj h wb j

/-- The row after the first normalisation. -/
def first (o x g1 : Fin 1024 → EReal) (wo : Fin 1024 → Fin 1024 → EReal) (l1g l1b : Fin 1024 → EReal) : Fin 1024 → EReal :=
  affine (resid x g1 (proj o wo)) l1g l1b

/-- The finished row from the row after the first normalisation. -/
def second (x1 sh sc g2 : Fin 1024 → EReal) (wa wb : Fin 1024 → Fin 2816 → EReal) (wf : Fin 2816 → Fin 1024 → EReal) (l2g l2b : Fin 1024 → EReal) : Fin 1024 → EReal :=
  affine (resid x1 g2 (proj (gated (modulated x1 sc sh) wa wb) wf)) l2g l2b

/-- The row of the modulation array a token reads. -/
def modRow (r : Fin 16896) : Fin 3 := if r.val < 8192 then 0 else if r.val < 16384 then 1 else 2

/-- The `n`-th modulation vector of a token. -/
def modVec (md : (⟨2, ![3, 6144]⟩ : Shape).Idx → EReal) (n : Fin 6) (r : Fin 16896) (i : Fin 1024) : EReal :=
  md (ix2 (modRow r) ⟨n.val * 1024 + i.val, by omega⟩)

/-- The three mixings of a token side by side. -/
def mixed (oa oc : (⟨2, ![16896, 384]⟩ : Shape).Idx → EReal) (ob : (⟨2, ![16896, 256]⟩ : Shape).Idx → EReal) (r : Fin 16896) (k : Fin 1024) : EReal :=
  if h : k.val < 384 then oa (ix2 r ⟨k.val, h⟩)
  else if h' : k.val < 640 then ob (ix2 r ⟨k.val - 384, by omega⟩) else oc (ix2 r ⟨k.val - 640, by omega⟩)

/-- A row of a matrix. -/
def rowOf {n m : ℕ} (a : (⟨2, ![n, m]⟩ : Shape).Idx → EReal) (r : Fin n) (i : Fin m) : EReal := a (ix2 r i)

/-- A vector. -/
def vecOf {n : ℕ} (a : (⟨1, ![n]⟩ : Shape).Idx → EReal) (i : Fin n) : EReal := a (ix1 i)

/-- The whole result at a token and a lane. -/
def result (oa : (⟨2, ![16896, 384]⟩ : Shape).Idx → EReal) (ob : (⟨2, ![16896, 256]⟩ : Shape).Idx → EReal) (oc : (⟨2, ![16896, 384]⟩ : Shape).Idx → EReal)
    (x : (⟨2, ![16896, 1024]⟩ : Shape).Idx → EReal) (md : (⟨2, ![3, 6144]⟩ : Shape).Idx → EReal) (wo : (⟨2, ![1024, 1024]⟩ : Shape).Idx → EReal)
    (l1g l1b : (⟨1, ![1024]⟩ : Shape).Idx → EReal) (wi : (⟨2, ![1024, 5632]⟩ : Shape).Idx → EReal) (wf : (⟨2, ![2816, 1024]⟩ : Shape).Idx → EReal)
    (l2g l2b : (⟨1, ![1024]⟩ : Shape).Idx → EReal) (r : Fin 16896) : Fin 1024 → EReal :=
  second (first (mixed oa oc ob r) (rowOf x r) (modVec md 2 r) (rowOf wo) (vecOf l1g) (vecOf l1b)) (modVec md 3 r) (modVec md 4 r) (modVec md 5 r)
    (fun k j => wi (ix2 k ⟨j.val, by omega⟩)) (fun k j => wi (ix2 k ⟨2816 + j.val, by omega⟩)) (rowOf wf) (vecOf l2g) (vecOf l2b)

/-- The mixed projection is the sum of the three parts. -/
theorem proj_mixed (f w : Fin 1024 → EReal) :
    ((∑ k : Fin 384, f ⟨k.val, by omega⟩ * w ⟨k.val, by omega⟩) + ∑ k : Fin 256, f ⟨384 + k.val, by omega⟩ * w ⟨384 + k.val, by omega⟩)
      + ∑ k : Fin 384, f ⟨640 + k.val, by omega⟩ * w ⟨640 + k.val, by omega⟩ = ∑ k : Fin 1024, f k * w k := by
  have h1 : ∑ k : Fin (640 + 384), f k * w k = _ := Fin.sum_univ_add (a := 640) (b := 384) (fun k => f k * w k)
  have h2 := Fin.sum_univ_add (a := 384) (b := 256) (fun k => f (Fin.castAdd 384 k) * w (Fin.castAdd 384 k))
  rw [h2] at h1
  exact h1.symm

/-- A sum over 2816 lanes as a running sum over its 11 stretches of 256. -/
theorem sum_stretches (f : Fin 2816 → EReal) :
    ∑ c : Fin 11, ∑ j : Fin 256, f ⟨c.val * 256 + j.val, by omega⟩ = ∑ j, f j := by
  rw [← Fintype.sum_prod_type' (f := fun (c : Fin 11) (j : Fin 256) => f ⟨c.val * 256 + j.val, by omega⟩)]
  refine Fintype.sum_equiv (finProdFinEquiv (m := 11) (n := 256)) _ _ fun p => ?_
  refine congrArg f (Fin.ext ?_)
  simp [finProdFinEquiv]; omega

end Spec2
-- ==== Proof.Pay2.lean ====
/- The values the post kernel computes from what it loads, read at an index, as the row functions of `Spec2`. -/
module

public import proofs.«01_k».proof.Proof.Gen.Kernel2Ideal.Skeleton
public import proofs.«01_k».proof.Proof.Spec2
public import Idealize.ShloMosaic.Lib.Pointwise

@[expose] public section

set_option maxRecDepth 16384

noncomputable section

open Idealize.ShloMosaic Idealize.ShloMosaic.TcCoe Idealize.SL.Sem

namespace Cert.Kernel2Ideal.Post

open Cert.Kernel2Ideal Cert.Kernel2Ideal.Gen

open Spec2

section
variable (v0 : FVec Ideal S512x384 .bf16) (v1 : FVec Ideal S384x1024 .bf16) (v4 : FVec Ideal S512x256 .bf16) (v5 : FVec Ideal S256x1024 .bf16) (v9 : FVec Ideal S512x384 .bf16) (v10 : FVec Ideal S384x1024 .bf16) (v14 : FVec Ideal S512x1024 .f32) (v17 : FVec Ideal S1x1x1024 .f32)

/-- The three projected mixings of a row, added up. -/
def mixes (v0 : FVec Ideal S512x384 .bf16) (v1 : FVec Ideal S384x1024 .bf16) (v4 : FVec Ideal S512x256 .bf16) (v5 : FVec Ideal S256x1024 .bf16) (v9 : FVec Ideal S512x384 .bf16) (v10 : FVec Ideal S384x1024 .bf16) (y : Fin 512) (i : Fin 1024) : EReal :=
  (∑ x : Fin 384, v0 (ix2 y x) * v1 (ix2 x i)) + (∑ x : Fin 256, v4 (ix2 y x) * v5 (ix2 x i)) + ∑ x : Fin 384, v9 (ix2 y x) * v10 (ix2 x i)

/-- A row of a rank-2 array, the row of a one-row array, and the row of an array with one row of one row. -/
abbrev r2 {n m : ℕ} (v : (⟨2, ![n, m]⟩ : Shape).Idx → EReal) (y : Fin n) (i : Fin m) : EReal := v (ix2 y i)
/-- The row of an array that has one row. -/
abbrev r1 {m : ℕ} (v : (⟨2, ![1, m]⟩ : Shape).Idx → EReal) (i : Fin m) : EReal := v (ix2 0 i)
/-- The row of an array that has one row of one row. -/
abbrev r0 {m : ℕ} (v : (⟨3, ![1, 1, m]⟩ : Shape).Idx → EReal) (i : Fin m) : EReal := v (ix3 0 0 i)

/-- The residual with the projected mixings, less its mean. -/
theorem pay2_at (y : Fin 512) (i : Fin 1024) :
    k0_pay2 (F := Ideal) v0 v1 v4 v5 v9 v10 v14 v17 (ix2 y i)
      = resid (r2 v14 y) (r0 v17) (mixes v0 v1 v4 v5 v9 v10 y) i - mean (resid (r2 v14 y) (r0 v17) (mixes v0 v1 v4 v5 v9 v10 y)) := by
  pointwise [k0_pay2]
  rfl

/-- Its variance. -/
theorem pay3_at (y : Fin 512) :
    k0_pay3 (F := Ideal) v0 v1 v4 v5 v9 v10 v14 v17 (ix2 y 0)
      = mean (fun x => k0_pay2 (F := Ideal) v0 v1 v4 v5 v9 v10 v14 v17 (ix2 y x) * k0_pay2 (F := Ideal) v0 v1 v4 v5 v9 v10 v14 v17 (ix2 y x)) := by
  pointwise [k0_pay3]
  rfl

/-- The row after the first normalisation. -/
theorem pay4_at (v38 v42 : FVec Ideal S1x1024 .f32) (y : Fin 512) (i : Fin 1024) :
    k0_pay4 (F := Ideal) (k0_pay2 v0 v1 v4 v5 v9 v10 v14 v17) (k0_pay3 v0 v1 v4 v5 v9 v10 v14 v17) (Scalar.ofBits .f32 0x358637BD#32) v38 v42 (ix2 y i)
      = affine (resid (r2 v14 y) (r0 v17) (mixes v0 v1 v4 v5 v9 v10 y)) (r1 v38) (r1 v42) i := by
  pointwise [k0_pay4]
  rw [pay3_at]
  simp only [pay2_at]
  rfl
end

/-- The modulated row the feed-forward part starts from. -/
theorem pay5_at (v27 : FVec Ideal S512x1024 .f32) (v32 : FVec Ideal S512x1 .f32) (cst : Ideal .f32) (v38 v42 : FVec Ideal S1x1024 .f32) (v62 v68 : FVec Ideal S1x1x1024 .f32) (y : Fin 512) (i : Fin 1024) :
    k0_pay5 (F := Ideal) v27 v32 cst v38 v42 v62 v68 (ix2 y i)
      = modulated (r2 (k0_pay4 (F := Ideal) v27 v32 cst v38 v42) y) (r0 v62) (r0 v68) i := by
  pointwise [k0_pay5]
  rfl

/-- The start of the running sum. -/
theorem pay7_at (y : Fin 512) (i : Fin 1024) : k0_pay7 (F := Ideal) (ix2 y i) = 0 := by
  pointwise [k0_pay7]

/-- One stretch of the hidden layer added to the running sum. -/
theorem pay8_at (v114 : FVec Ideal S512x1024 .bf16) (v116 v128 : FVec Ideal S1x1024x256 .bf16) (v132 : FVec Ideal S512x1024 .f32) (v135 : FVec Ideal S1x256x1024 .bf16) (y : Fin 512) (i : Fin 1024) :
    k0_pay8 (F := Ideal) v114 v116 v128 v132 v135 (ix2 y i)
      = v132 (ix2 y i) + ∑ x : Fin 256, (∑ k : Fin 1024, v114 (ix2 y k) * v116 (ix3 0 k x)) * Ideal.logistic (∑ k : Fin 1024, v114 (ix2 y k) * v116 (ix3 0 k x))
          * (∑ k : Fin 1024, v114 (ix2 y k) * v128 (ix3 0 k x)) * v135 (ix3 0 x i) := by
  pointwise [k0_pay8]
  simp only [zero_sub]
  rfl

/-- The finished row. -/
theorem pay1_at (v45 : FVec Ideal S512x1024 .f32) (v83 : FVec Ideal S1x1x1024 .f32) (v85 : FVec Ideal S512x1024 .f32) (v105 v109 : FVec Ideal S1x1024 .f32) (y : Fin 512) (i : Fin 1024) :
    k0_pay1 (F := Ideal) (k0_pay9 v45 v83 v85 v105) v109 (ix2 y i)
      = affine (resid (r2 v45 y) (r0 v83) (r2 v85 y)) (r1 v105) (r1 v109) i := by
  pointwise [k0_pay1, k0_pay9]
  rfl

end Cert.Kernel2Ideal.Post
-- ==== Proof.Loop2.lean ====
/- The post kernel's loop over the hidden layer's eleven stretches: what the scratch array holds before each trip. -/
module

public import proofs.«01_k».proof.Proof.Gen.Kernel2Ideal.Value
public import proofs.«01_k».proof.Proof.Pay2
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Post

open Cert.Kernel2Ideal Cert.Kernel2Ideal.Gen Cert.Kernel2Ideal.Value

open Spec2

/-- The stretch of the weights trip `k` of the loop reads. -/
abbrev stIn (k : Fin k0_t1_loop.trips) : Rect S11x1024x256 := Rect.unit (s := S11x1024x256) (k0_off1 k) S1x1024x256.size (k0_off1_inb k)
/-- The stretch of the output weights trip `k` of the loop reads. -/
abbrev stOut (k : Fin k0_t1_loop.trips) : Rect S11x256x1024 := Rect.unit (s := S11x256x1024) (k0_off2 k) S1x256x1024.size (k0_off2_inb k)
/-- The whole scratch array. -/
abbrev full : Rect S512x1024 := Rect.unit (s := S512x1024) ![0, 0] S512x1024.size inb_S512x1024_S512x1024_0_0

/-- What one trip of the loop stores, as a function of what it finds. -/
theorem trip_eq (𝒱 : Variants) (c : Dev nD) (bd : Option 𝒱.V) (i : grid0.Coords) (arg1 : Memref sig .tc .vmem S512x384 .bf16) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x1024 .f32) (harg4 : arg4.IsWhole) (arg5 : Memref sig .tc .vmem S1x1x6144 .f32) (harg5 : arg5.IsWhole) (arg6 : Memref sig .tc .vmem S1024x1024 .bf16) (harg6 : arg6.IsWhole) (arg7 : Memref sig .tc .vmem S11x1024x256 .bf16) (harg7 : arg7.IsWhole) (arg8 : Memref sig .tc .vmem S11x1024x256 .bf16) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .f32) (harg16 : arg16.IsWhole) (v45 : FVec Ideal S512x1024 .f32) (v72 : FVec Ideal S512x1024 .bf16) (X_arg7 : BufTy.Contents (Elt Ideal) arg7.view.ty) (X_arg8 : BufTy.Contents (Elt Ideal) arg8.view.ty) (X_arg9 : BufTy.Contents (Elt Ideal) arg9.view.ty) (X_arg15 : BufTy.Contents (Elt Ideal) arg15.view.ty)
    (k : Fin k0_t1_loop.trips) (f16 : BufTy.Contents (Elt Ideal) arg16.view.ty) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v45 v72 X_arg7 X_arg8 X_arg9 X_arg15 k f16
      = [⟨full, k0_pay8 (View.ld (arg15.view.read (Elt Ideal) X_arg15) full) (View.ld (arg7.view.read (Elt Ideal) X_arg7) (stIn k)) (View.ld (arg8.view.read (Elt Ideal) X_arg8) (stIn k))
          (View.ld (arg16.view.read (Elt Ideal) f16) full) (View.ld (arg9.view.read (Elt Ideal) X_arg9) (stOut k))⟩] := by
  unfold tripL_k0_t1 trip_k0_t1
  rfl

/-- The running sum before trip `k`. -/
def acc (h : Vec Ideal S512x1024 .bf16) (wa wb : Vec Ideal S11x1024x256 .bf16) (wf : Vec Ideal S11x256x1024 .bf16) (A₀ : Vec Ideal S512x1024 .f32) : ℕ → Vec Ideal S512x1024 .f32
  | 0 => A₀
  | k + 1 => if hk : k < k0_t1_loop.trips then
      k0_pay8 h (View.ld wa (stIn ⟨k, hk⟩)) (View.ld wb (stIn ⟨k, hk⟩)) (acc h wa wb wf A₀ k) (View.ld wf (stOut ⟨k, hk⟩))
    else acc h wa wb wf A₀ k

/-- What the scratch array holds before trip `k` is `acc`. -/
theorem pb_acc (𝒱 : Variants) (c : Dev nD) (bd : Option 𝒱.V) (i : grid0.Coords) (arg1 : Memref sig .tc .vmem S512x384 .bf16) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x1024 .f32) (harg4 : arg4.IsWhole) (arg5 : Memref sig .tc .vmem S1x1x6144 .f32) (harg5 : arg5.IsWhole) (arg6 : Memref sig .tc .vmem S1024x1024 .bf16) (harg6 : arg6.IsWhole) (arg7 : Memref sig .tc .vmem S11x1024x256 .bf16) (harg7 : arg7.IsWhole) (arg8 : Memref sig .tc .vmem S11x1024x256 .bf16) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .f32) (harg16 : arg16.IsWhole) (v45 : FVec Ideal S512x1024 .f32) (v72 : FVec Ideal S512x1024 .bf16) (X_arg7 : BufTy.Contents (Elt Ideal) arg7.view.ty) (X_arg8 : BufTy.Contents (Elt Ideal) arg8.view.ty) (X_arg9 : BufTy.Contents (Elt Ideal) arg9.view.ty) (X_arg15 : BufTy.Contents (Elt Ideal) arg15.view.ty)
    (G16 : BufTy.Contents (Elt Ideal) arg16.view.ty) (k : ℕ) (hk : k ≤ k0_t1_loop.trips) :
    arg16.view.read (Elt Ideal) (arg16.view.writes (Elt Ideal) G16 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v45 v72 X_arg7 X_arg8 X_arg9 X_arg15 G16 k))
      = acc (arg15.view.read (Elt Ideal) X_arg15) (arg7.view.read (Elt Ideal) X_arg7) (arg8.view.read (Elt Ideal) X_arg8) (arg9.view.read (Elt Ideal) X_arg9)
          (arg16.view.read (Elt Ideal) G16) k := by
  induction k with
  | zero => rfl
  | succ k ih =>
    have hk' : k < k0_t1_loop.trips := hk
    have ih := ih hk'.le
    rw [show k + 1 = (⟨k, hk'⟩ : Fin k0_t1_loop.trips).val + 1 from rfl, pb_k0_t1_succ, trip_eq]
    rw [acc, dif_pos hk', ← ih]
    rw [View.writes_append]
    refine (View.read_writes_full _ _ _ _ _).trans ?_
    rw [View.ld_unit_lit _ _ (by decide), View.ld_unit_lit _ _ (by decide)]

/-- The loop has 11 trips. -/
theorem trips_eq : k0_t1_loop.trips = 11 := by decide +kernel
/-- Trip `k` reads stretch `k`. -/
theorem off1 : ∀ k : Fin k0_t1_loop.trips, k0_off1 k = ![k.val, 0, 0] := by decide +kernel
/-- Trip `k` reads stretch `k`. -/
theorem off2 : ∀ k : Fin k0_t1_loop.trips, k0_off2 k = ![k.val, 0, 0] := by decide +kernel

/-- Trip `k`'s input weights. -/
theorem ld_in (W : Vec Ideal S11x1024x256 .bf16) (k : Fin k0_t1_loop.trips) (hk : k.val < 11) (r : Fin 1024) (x : Fin 256) :
    View.ld W (stIn k) (ix3 0 r x) = W (ix3 ⟨k.val, hk⟩ r x) := by
  refine View.ld_unit_apply_of (S := S11x1024x256) W (k0_off1 k) S1x1024x256.size (k0_off1_inb k) (ix3 0 r x) (ix3 ⟨k.val, hk⟩ r x) fun a => ?_
  fin_cases a
  · exact (congrFun (off1 k) 0).symm
  · exact (Nat.zero_add _).symm
  · exact (Nat.zero_add _).symm
/-- Trip `k`'s output weights. -/
theorem ld_out (W : Vec Ideal S11x256x1024 .bf16) (k : Fin k0_t1_loop.trips) (hk : k.val < 11) (x : Fin 256) (i : Fin 1024) :
    View.ld W (stOut k) (ix3 0 x i) = W (ix3 ⟨k.val, hk⟩ x i) := by
  refine View.ld_unit_apply_of (S := S11x256x1024) W (k0_off2 k) S1x256x1024.size (k0_off2_inb k) (ix3 0 x i) (ix3 ⟨k.val, hk⟩ x i) fun a => ?_
  fin_cases a
  · exact (congrFun (off2 k) 0).symm
  · exact (Nat.zero_add _).symm
  · exact (Nat.zero_add _).symm

/-- The running sum before trip `k`: the hidden layer's first `k` stretches through the output weights. -/
theorem acc_at (h : Vec Ideal S512x1024 .bf16) (wa wb : Vec Ideal S11x1024x256 .bf16) (wf : Vec Ideal S11x256x1024 .bf16) (A₀ : Vec Ideal S512x1024 .f32)
    (H : Fin 1024 → EReal) (WA WB : Fin 1024 → Fin 2816 → EReal) (WF : Fin 2816 → Fin 1024 → EReal) (y : Fin 512) (i : Fin 1024)
    (hA : A₀ (ix2 y i) = 0) (hh : ∀ k, h (ix2 y k) = H k)
    (ha : ∀ (c : Fin 11) (k : Fin 1024) (x : Fin 256), wa (ix3 c k x) = WA k ⟨c.val * 256 + x.val, by omega⟩)
    (hb : ∀ (c : Fin 11) (k : Fin 1024) (x : Fin 256), wb (ix3 c k x) = WB k ⟨c.val * 256 + x.val, by omega⟩)
    (hf : ∀ (c : Fin 11) (x : Fin 256), wf (ix3 c x i) = WF ⟨c.val * 256 + x.val, by omega⟩ i)
    (k : ℕ) (hk : k ≤ 11) :
    acc h wa wb wf A₀ k (ix2 y i) = ∑ c : Fin k, ∑ x : Fin 256, gated H WA WB ⟨c.val * 256 + x.val, by omega⟩ * WF ⟨c.val * 256 + x.val, by omega⟩ i := by
  induction k with
  | zero => exact hA
  | succ k ih =>
    have hkt : k < k0_t1_loop.trips := by rw [trips_eq]; exact hk
    rw [acc, dif_pos hkt, Fin.sum_univ_castSucc]
    refine (pay8_at _ _ _ _ _ y i).trans (congrArg₂ (· + ·) (ih (by omega)) (Finset.sum_congr rfl fun x _ => ?_))
    have e1 : ∀ r : Fin 1024, h (ix2 y r) * View.ld wa (stIn ⟨k, hkt⟩) (ix3 0 r x) = H r * WA r ⟨k * 256 + x.val, by omega⟩ := fun r =>
      congrArg₂ (· * ·) (hh r) ((ld_in wa ⟨k, hkt⟩ hk r x).trans (ha ⟨k, hk⟩ r x))
    have e2 : ∀ r : Fin 1024, h (ix2 y r) * View.ld wb (stIn ⟨k, hkt⟩) (ix3 0 r x) = H r * WB r ⟨k * 256 + x.val, by omega⟩ := fun r =>
      congrArg₂ (· * ·) (hh r) ((ld_in wb ⟨k, hkt⟩ hk r x).trans (hb ⟨k, hk⟩ r x))
    rw [Finset.sum_congr rfl fun r _ => e1 r, Finset.sum_congr rfl fun r _ => e2 r]
    exact congrArg₂ (· * ·) rfl ((ld_out wf ⟨k, hkt⟩ hk x i).trans (hf ⟨k, hk⟩ x))

/-- After the loop: the whole feed-forward part. -/
theorem acc_all (h : Vec Ideal S512x1024 .bf16) (wa wb : Vec Ideal S11x1024x256 .bf16) (wf : Vec Ideal S11x256x1024 .bf16) (A₀ : Vec Ideal S512x1024 .f32)
    (H : Fin 1024 → EReal) (WA WB : Fin 1024 → Fin 2816 → EReal) (WF : Fin 2816 → Fin 1024 → EReal) (y : Fin 512) (i : Fin 1024)
    (hA : A₀ (ix2 y i) = 0) (hh : ∀ k, h (ix2 y k) = H k)
    (ha : ∀ (c : Fin 11) (k : Fin 1024) (x : Fin 256), wa (ix3 c k x) = WA k ⟨c.val * 256 + x.val, by omega⟩)
    (hb : ∀ (c : Fin 11) (k : Fin 1024) (x : Fin 256), wb (ix3 c k x) = WB k ⟨c.val * 256 + x.val, by omega⟩)
    (hf : ∀ (c : Fin 11) (x : Fin 256), wf (ix3 c x i) = WF ⟨c.val * 256 + x.val, by omega⟩ i) :
    acc h wa wb wf A₀ k0_t1_loop.trips (ix2 y i) = proj (gated H WA WB) WF i := by
  rw [trips_eq, acc_at h wa wb wf A₀ H WA WB WF y i hA hh ha hb hf 11 le_rfl]
  exact sum_stretches fun j => gated H WA WB j * WF j i

end Cert.Kernel2Ideal.Post
-- ==== Proof.Reads2.lean ====
/- What the post kernel's windows hold at a grid point, read off the arguments by row and column. -/
module

public import proofs.«01_k».proof.Proof.Gen.Kernel2Ideal.Value
public import proofs.«01_k».proof.Proof.Spec2
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel2Ideal.Post

open Cert.Kernel2Ideal Cert.Kernel2Ideal.Gen Cert.Kernel2Ideal.Value

open Spec2

variable (m : (ℓ : Loc nD τ sig) → Buf (Elt Ideal) ℓ)

/-- The windows' blocks, in the number of the grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![if t.val < 32 then t.val / 16 else 2, 0, 0] ∧ win0_5.index t = ![0, 0] ∧ win0_6.index t = ![0, 0, 0] ∧ win0_7.index t = ![0, 0, 0] ∧ win0_8.index t = ![0, 0, 0]
    ∧ win0_9.index t = ![0, 0] ∧ win0_10.index t = ![0, 0] ∧ win0_11.index t = ![0, 0] ∧ win0_12.index t = ![0, 0] ∧ win0_13.index t = ![t.val, 0] ∧ t.val < 33 :=
  (by decide +kernel : ∀ t : Fin grid0.N, _)

variable (c : Dev nD) (t : Fin cfg0.N)

/-- Row `y` of a grid point's block is this row of the whole array. -/
def tok (t : Fin cfg0.N) (y : Fin 512) : Fin 16896 := ⟨t.val * 512 + y.val, by have := (idx t).2.2.2.2.2.2.2.2.2.2.2.2.2.2; omega⟩

/-- The first mixing. -/
theorem rd0 (y : Fin 512) (l : Fin 384) : iblk m c 0 t (ix2 y l) = m ((c : Thread nD τ).loc main_arg0) (ix2 (tok t y) l) := by
  obtain ⟨h0, h1, h2, h3, h4, h5, h6, h7, h8, h9, h10, h11, h12, h13, ht⟩ := idx t
  unfold tok
  blk_ext [iblk, V, h0]
/-- The second mixing. -/
theorem rd1 (y : Fin 512) (l : Fin 256) : iblk m c 1 t (ix2 y l) = m ((c : Thread nD τ).loc main_arg1) (ix2 (tok t y) l) := by
  obtain ⟨h0, h1, h2, h3, h4, h5, h6, h7, h8, h9, h10, h11, h12, h13, ht⟩ := idx t
  unfold tok
  blk_ext [iblk, V, h1]
/-- The third mixing. -/
theorem rd2 (y : Fin 512) (l : Fin 384) : iblk m c 2 t (ix2 y l) = m ((c : Thread nD τ).loc main_arg2) (ix2 (tok t y) l) := by
  obtain ⟨h0, h1, h2, h3, h4, h5, h6, h7, h8, h9, h10, h11, h12, h13, ht⟩ := idx t
  unfold tok
  blk_ext [iblk, V, h2]
/-- The residual. -/
theorem rd3 (y : Fin 512) (l : Fin 1024) : iblk m c 3 t (ix2 y l) = m ((c : Thread nD τ).loc main_arg3) (ix2 (tok t y) l) := by
  obtain ⟨h0, h1, h2, h3, h4, h5, h6, h7, h8, h9, h10, h11, h12, h13, ht⟩ := idx t
  unfold tok
  blk_ext [iblk, V, h3]
/-- The modulation row of a grid point, in the array's own layout. -/
theorem rd4' (l : Fin 6144) : iblk m c 4 t (ix3 0 0 l) = V m c main_v10 (ix3 ⟨if t.val < 32 then t.val / 16 else 2, by have := (idx t).2.2.2.2.2.2.2.2.2.2.2.2.2.2; split <;> omega⟩ 0 l) := by
  obtain ⟨h0, h1, h2, h3, h4, h5, h6, h7, h8, h9, h10, h11, h12, h13, ht⟩ := idx t
  blk_ext [iblk, h4]
/-- The output projection. -/
theorem rd5' (k i : Fin 1024) : iblk m c 5 t (ix2 k i) = V m c main_v11 (ix2 k i) := by
  obtain ⟨h0, h1, h2, h3, h4, h5, h6, h7, h8, h9, h10, h11, h12, h13, ht⟩ := idx t
  blk_ext [iblk, h5]
/-- The gate weights. -/
theorem rd6' (e : Fin 11) (k : Fin 1024) (x : Fin 256) : iblk m c 6 t (ix3 e k x) = V m c main_v3 (ix3 e k x) := by
  obtain ⟨h0, h1, h2, h3, h4, h5, h6, h7, h8, h9, h10, h11, h12, h13, ht⟩ := idx t
  blk_ext [iblk, h6]
/-- The value weights. -/
theorem rd7' (e : Fin 11) (k : Fin 1024) (x : Fin 256) : iblk m c 7 t (ix3 e k x) = V m c main_v7 (ix3 e k x) := by
  obtain ⟨h0, h1, h2, h3, h4, h5, h6, h7, h8, h9, h10, h11, h12, h13, ht⟩ := idx t
  blk_ext [iblk, h7]
/-- The output weights of the feed-forward part. -/
theorem rd8' (e : Fin 11) (x : Fin 256) (i : Fin 1024) : iblk m c 8 t (ix3 e x i) = V m c main_v9 (ix3 e x i) := by
  obtain ⟨h0, h1, h2, h3, h4, h5, h6, h7, h8, h9, h10, h11, h12, h13, ht⟩ := idx t
  blk_ext [iblk, h8]

/-- The host's preparation of the operands, read at an index. -/
theorem hv10 (b : Fin 3) (l : Fin 6144) : V m c main_v10 (ix3 b 0 l) = m ((c : Thread nD τ).loc main_arg4) (ix2 b l) := by
  entry_read
  pointwise
/-- The output projection keeps its values. -/
theorem hv11 (k i : Fin 1024) : V m c main_v11 (ix2 k i) = m ((c : Thread nD τ).loc main_arg5) (ix2 k i) := by
  entry_read
  pointwise
/-- The gate weights, cut into stretches. -/
theorem hv3 (e : Fin 11) (k : Fin 1024) (x : Fin 256) : V m c main_v3 (ix3 e k x) = m ((c : Thread nD τ).loc main_arg8) (ix2 k ⟨e.val * 256 + x.val, by omega⟩) := by
  entry_read
  pointwise
/-- The value weights, cut into stretches. -/
theorem hv7 (e : Fin 11) (k : Fin 1024) (x : Fin 256) : V m c main_v7 (ix3 e k x) = m ((c : Thread nD τ).loc main_arg8) (ix2 k ⟨2816 + (e.val * 256 + x.val), by omega⟩) := by
  entry_read
  pointwise
/-- The output weights, cut into stretches. -/
theorem hv9 (e : Fin 11) (x : Fin 256) (i : Fin 1024) : V m c main_v9 (ix3 e x i) = m ((c : Thread nD τ).loc main_arg9) (ix2 ⟨e.val * 256 + x.val, by omega⟩ i) := by
  entry_read
  pointwise

/-- The gains and biases. -/
theorem rd9 (l : Fin 1024) : iblk m c 9 t (ix2 0 l) = m ((c : Thread nD τ).loc main_arg6) (ix1 l) := by
  obtain ⟨h0, h1, h2, h3, h4, h5, h6, h7, h8, h9, h10, h11, h12, h13, ht⟩ := idx t
  refine Eq.trans (b := V m c main_v12 (ix2 0 l)) ?_ ?_
  · blk_ext [iblk, h9]
  · entry_read
    pointwise
/-- The first bias. -/
theorem rd10 (l : Fin 1024) : iblk m c 10 t (ix2 0 l) = m ((c : Thread nD τ).loc main_arg7) (ix1 l) := by
  obtain ⟨h0, h1, h2, h3, h4, h5, h6, h7, h8, h9, h10, h11, h12, h13, ht⟩ := idx t
  refine Eq.trans (b := V m c main_v13 (ix2 0 l)) ?_ ?_
  · blk_ext [iblk, h10]
  · entry_read
    pointwise
/-- The second gain. -/
theorem rd11 (l : Fin 1024) : iblk m c 11 t (ix2 0 l) = m ((c : Thread nD τ).loc main_arg10) (ix1 l) := by
  obtain ⟨h0, h1, h2, h3, h4, h5, h6, h7, h8, h9, h10, h11, h12, h13, ht⟩ := idx t
  refine Eq.trans (b := V m c main_v14 (ix2 0 l)) ?_ ?_
  · blk_ext [iblk, h11]
  · entry_read
    pointwise
/-- The second bias. -/
theorem rd12 (l : Fin 1024) : iblk m c 12 t (ix2 0 l) = m ((c : Thread nD τ).loc main_arg11) (ix1 l) := by
  obtain ⟨h0, h1, h2, h3, h4, h5, h6, h7, h8, h9, h10, h11, h12, h13, ht⟩ := idx t
  refine Eq.trans (b := V m c main_v15 (ix2 0 l)) ?_ ?_
  · blk_ext [iblk, h12]
  · entry_read
    pointwise

end Cert.Kernel2Ideal.Post
-- ==== Proof.Block2.lean ====
/- What a grid point of the post kernel leaves in its output block. -/
module

public import proofs.«01_k».proof.Proof.Loop2
public import proofs.«01_k».proof.Proof.Reads2

@[expose] public section

set_option maxRecDepth 16384

noncomputable section

open Idealize.ShloMosaic Idealize.ShloMosaic.TcCoe Idealize.SL.Sem
open Idealize.ShloMosaic.Pipeline (Dat)

namespace Cert.Kernel2Ideal.Post

open Cert.Kernel2Ideal Cert.Kernel2Ideal.Gen Cert.Kernel2Ideal.Value

open Spec2

variable (m : (ℓ : Loc nD τ sig) → Buf (Elt Ideal) ℓ) (c : Dev nD) (t : Fin cfg0.N)

/-- The block after the first normalisation. -/
abbrev X1 : FVec Ideal S512x1024 .f32 :=
  k0_pay4 (k0_pay2 (iblk m c 0 t) (View.ld (iblk m c 5 t) (Rect.unit ![0, 0] ![384, 1024] inb_S1024x1024_S384x1024_0_0)) (iblk m c 1 t) (View.ld (iblk m c 5 t) (Rect.unit ![384, 0] ![256, 1024] inb_S1024x1024_S256x1024_384_0)) (iblk m c 2 t) (View.ld (iblk m c 5 t) (Rect.unit ![640, 0] ![384, 1024] inb_S1024x1024_S384x1024_640_0)) (iblk m c 3 t) (View.ld (iblk m c 4 t) (Rect.unit ![0, 0, 2048] ![1, 1, 1024] inb_S1x1x6144_S1x1x1024_0_0_2048))) (k0_pay3 (iblk m c 0 t) (View.ld (iblk m c 5 t) (Rect.unit ![0, 0] ![384, 1024] inb_S1024x1024_S384x1024_0_0)) (iblk m c 1 t) (View.ld (iblk m c 5 t) (Rect.unit ![384, 0] ![256, 1024] inb_S1024x1024_S256x1024_384_0)) (iblk m c 2 t) (View.ld (iblk m c 5 t) (Rect.unit ![640, 0] ![384, 1024] inb_S1024x1024_S384x1024_640_0)) (iblk m c 3 t) (View.ld (iblk m c 4 t) (Rect.unit ![0, 0, 2048] ![1, 1, 1024] inb_S1x1x6144_S1x1x1024_0_0_2048))) (Scalar.ofBits .f32 0x358637BD#32) (iblk m c 9 t) (iblk m c 10 t)

/-- The block the feed-forward part starts from. -/
abbrev Hd : FVec Ideal S512x1024 .bf16 :=
  k0_pay5 (k0_pay2 (iblk m c 0 t) (View.ld (iblk m c 5 t) (Rect.unit ![0, 0] ![384, 1024] inb_S1024x1024_S384x1024_0_0)) (iblk m c 1 t) (View.ld (iblk m c 5 t) (Rect.unit ![384, 0] ![256, 1024] inb_S1024x1024_S256x1024_384_0)) (iblk m c 2 t) (View.ld (iblk m c 5 t) (Rect.unit ![640, 0] ![384, 1024] inb_S1024x1024_S384x1024_640_0)) (iblk m c 3 t) (View.ld (iblk m c 4 t) (Rect.unit ![0, 0, 2048] ![1, 1, 1024] inb_S1x1x6144_S1x1x1024_0_0_2048))) (k0_pay3 (iblk m c 0 t) (View.ld (iblk m c 5 t) (Rect.unit ![0, 0] ![384, 1024] inb_S1024x1024_S384x1024_0_0)) (iblk m c 1 t) (View.ld (iblk m c 5 t) (Rect.unit ![384, 0] ![256, 1024] inb_S1024x1024_S256x1024_384_0)) (iblk m c 2 t) (View.ld (iblk m c 5 t) (Rect.unit ![640, 0] ![384, 1024] inb_S1024x1024_S384x1024_640_0)) (iblk m c 3 t) (View.ld (iblk m c 4 t) (Rect.unit ![0, 0, 2048] ![1, 1, 1024] inb_S1x1x6144_S1x1x1024_0_0_2048))) (Scalar.ofBits .f32 0x358637BD#32) (iblk m c 9 t) (iblk m c 10 t)
    (View.ld (iblk m c 4 t) (Rect.unit ![0, 0, 4096] ![1, 1, 1024] inb_S1x1x6144_S1x1x1024_0_0_4096)) (View.ld (iblk m c 4 t) (Rect.unit ![0, 0, 3072] ![1, 1, 1024] inb_S1x1x6144_S1x1x1024_0_0_3072))

/-- Equal arguments give equal running sums. -/
theorem acc_congr {h h' : Vec Ideal S512x1024 .bf16} {wa wa' wb wb' : Vec Ideal S11x1024x256 .bf16} {wf wf' : Vec Ideal S11x256x1024 .bf16} {A A' : Vec Ideal S512x1024 .f32}
    (hh : h = h') (ha : wa = wa') (hb : wb = wb') (hf : wf = wf') (hA : A = A') (n : ℕ) : acc h wa wb wf A n = acc h' wa' wb' wf' A' n := by
  subst hh ha hb hf hA; rfl

attribute [local irreducible] pb_k0_t1 acc View.read View.writes k0_pay1 k0_pay2 k0_pay3 k0_pay4 k0_pay5 k0_pay6 k0_pay7 k0_pay9 Scf.trips in
/-- What a grid point leaves in the output block, from the running sum after the last trip. -/
theorem out_eq (y) : outsAt0 m c t y
    = k0_pay1 (k0_pay9 (X1 m c t) (View.ld (iblk m c 4 t) (Rect.unit ![0, 0, 5120] ![1, 1, 1024] inb_S1x1x6144_S1x1x1024_0_0_5120))
        (acc (k0_pay6 (Hd m c t)) (iblk m c 6 t) (iblk m c 7 t) (iblk m c 8 t) (k0_pay7 (F := Ideal)) k0_t1_loop.trips) (iblk m c 11 t)) (iblk m c 12 t) y := by
  unfold outsAt0
  frame_out
  have h2 : ∀ (P P' : List (View.Piece (Elt Ideal) S512x1024 .f32)), (View.whole cc0_scratch1).readCov (Val := Elt Ideal) (P ++ P')
      (Rect.unit ![0, 0] ![512, 1024] inb_S512x1024_S512x1024_0_0).toLoadRect
      = (View.whole cc0_scratch1).read (Elt Ideal) ((View.whole cc0_scratch1).writes (Elt Ideal) ((View.whole cc0_scratch1).writes (Elt Ideal) (View.whole cc0_scratch1).junk P') P) := fun P P' => by
    refine (View.readAt_full _ _ _).trans ?_
    rw [View.writes_append]
  rw [h2]
  have key := pb_acc Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (X1 m c t) (Hd m c t) ((hs0_6 t).unread (iblk m c 6 t)) ((hs0_7 t).unread (iblk m c 7 t)) ((hs0_8 t).unread (iblk m c 8 t))
    ((View.whole cc0_scratch0).writes (Elt Ideal) (View.whole cc0_scratch0).junk [⟨full, k0_pay6 (Hd m c t)⟩])
    ((View.whole cc0_scratch1).writes (Elt Ideal) (View.whole cc0_scratch1).junk [⟨full, k0_pay7 (F := Ideal)⟩])
    (Scf.trips 0#32 (Scalar.addi 0#32 11#32) 1#32) le_rfl
  have e15 : ∀ w : FVec Ideal S512x1024 .bf16, scM0_0.view.read (Elt Ideal) ((View.whole cc0_scratch0).writes (Elt Ideal) (View.whole cc0_scratch0).junk [⟨full, w⟩]) = w := fun w => View.read_writes_full _ _ _ _ _
  have e16 : ∀ w : FVec Ideal S512x1024 .f32, scM0_1.view.read (Elt Ideal) ((View.whole cc0_scratch1).writes (Elt Ideal) (View.whole cc0_scratch1).junk [⟨full, w⟩]) = w := fun w => View.read_writes_full _ _ _ _ _
  have key' := key.trans (acc_congr (e15 _) ((hs0_6 t).read_unread (iblk m c 6 t)) ((hs0_7 t).read_unread (iblk m c 7 t)) ((hs0_8 t).read_unread (iblk m c 8 t)) (e16 _) _)
  exact congrArg (fun s => k0_pay1 (k0_pay9 (X1 m c t) (View.ld (iblk m c 4 t) (Rect.unit ![0, 0, 5120] ![1, 1, 1024] inb_S1x1x6144_S1x1x1024_0_0_5120)) s (iblk m c 11 t)) (iblk m c 12 t) y) key'

end Cert.Kernel2Ideal.Post
-- ==== Proof.Final2.lean ====
/- The output array of the post kernel after the run: the row function of `Spec2` at every token. -/
module

public import proofs.«01_k».proof.Proof.Block2

@[expose] public section

set_option maxRecDepth 16384

noncomputable section

open Idealize.ShloMosaic Idealize.ShloMosaic.TcCoe Idealize.SL.Sem
open Idealize.ShloMosaic.Pipeline (Dat)

namespace Cert.Kernel2Ideal.Post

open Cert.Kernel2Ideal Cert.Kernel2Ideal.Gen Cert.Kernel2Ideal.Value

open Spec2

variable (m : (ℓ : Loc nD τ sig) → Buf (Elt Ideal) ℓ) (c : Dev nD) (t : Fin cfg0.N)

/-- The modulation row a grid point reads is its tokens' own. -/
theorem rd4 (y : Fin 512) (l : Fin 6144) : iblk m c 4 t (ix3 0 0 l) = (m ((c : Thread nD τ).loc main_arg4)) (ix2 (modRow (tok t y)) l) := by
  refine (rd4' m c t l).trans ((hv10 m c _ l).trans ?_)
  refine congrArg (fun z => (m ((c : Thread nD τ).loc main_arg4)) (ix2 z l)) ?_
  have ht := (idx t).2.2.2.2.2.2.2.2.2.2.2.2.2.2
  have hy := y.isLt
  refine Fin.ext ?_
  unfold modRow tok
  dsimp only
  split_ifs <;> first | rfl | (exfalso; omega) | (show t.val / 16 = _; simp only [Fin.val_zero, Fin.val_one]; omega)

/-- A modulation vector, as the kernel loads it. -/
theorem ld_mod (n : Fin 6) (h : ∀ a : Fin 3, (![0, 0, n.val * 1024] : Fin 3 → ℕ) a + (![1, 1, 1024] : Fin 3 → ℕ) a ≤ S1x1x6144.size a) (y : Fin 512) (i : Fin 1024) :
    View.ld (iblk m c 4 t) (Rect.unit (s := S1x1x6144) ![0, 0, n.val * 1024] ![1, 1, 1024] h) (ix3 0 0 i) = modVec (m ((c : Thread nD τ).loc main_arg4)) n (tok t y) i := by
  refine (View.ld_unit_apply_of (S := S1x1x6144) (iblk m c 4 t) ![0, 0, n.val * 1024] ![1, 1, 1024] h (ix3 0 0 i) (ix3 0 0 ⟨n.val * 1024 + i.val, by omega⟩) fun a => ?_).trans (rd4 m c t y _)
  fin_cases a <;> rfl

/-- Rows of the output projection, as the kernel loads them. -/
theorem ld_wo (o n : ℕ) (h : ∀ a : Fin 2, (![o, 0] : Fin 2 → ℕ) a + (![n, 1024] : Fin 2 → ℕ) a ≤ S1024x1024.size a) (k : Fin n) (hk : o + k.val < 1024) (i : Fin 1024) :
    View.ld (iblk m c 5 t) (Rect.unit (s := S1024x1024) ![o, 0] ![n, 1024] h) (ix2 k i) = (m ((c : Thread nD τ).loc main_arg5)) (ix2 ⟨o + k.val, hk⟩ i) := by
  refine (View.ld_unit_apply_of (S := S1024x1024) (iblk m c 5 t) ![o, 0] ![n, 1024] h (ix2 k i) (ix2 ⟨o + k.val, hk⟩ i) fun a => ?_).trans ((rd5' m c t _ i).trans (hv11 m c _ i))
  fin_cases a
  · rfl
  · exact (Nat.zero_add _).symm

/-- The projected mixings of a row. -/
theorem mixes_eq (y : Fin 512) (i : Fin 1024) :
    mixes (iblk m c 0 t) (View.ld (iblk m c 5 t) (Rect.unit ![0, 0] ![384, 1024] inb_S1024x1024_S384x1024_0_0)) (iblk m c 1 t) (View.ld (iblk m c 5 t) (Rect.unit ![384, 0] ![256, 1024] inb_S1024x1024_S256x1024_384_0)) (iblk m c 2 t) (View.ld (iblk m c 5 t) (Rect.unit ![640, 0] ![384, 1024] inb_S1024x1024_S384x1024_640_0)) y i
      = proj (mixed (m ((c : Thread nD τ).loc main_arg0)) (m ((c : Thread nD τ).loc main_arg2)) (m ((c : Thread nD τ).loc main_arg1)) (tok t y)) (rowOf (m ((c : Thread nD τ).loc main_arg5))) i := by
  refine Eq.trans ?_ (proj_mixed (mixed (m ((c : Thread nD τ).loc main_arg0)) (m ((c : Thread nD τ).loc main_arg2)) (m ((c : Thread nD τ).loc main_arg1)) (tok t y)) fun k => (m ((c : Thread nD τ).loc main_arg5)) (ix2 k i))
  unfold mixes
  refine congrArg₂ (· + ·) (congrArg₂ (· + ·) (Finset.sum_congr rfl fun k _ => congrArg₂ (· * ·) ((rd0 m c t y k).trans ?_) ((ld_wo m c t 0 384 _ k (by omega) i).trans ?_))
      (Finset.sum_congr rfl fun k _ => congrArg₂ (· * ·) ((rd1 m c t y k).trans ?_) (ld_wo m c t 384 256 _ k (by omega) i)))
      (Finset.sum_congr rfl fun k _ => congrArg₂ (· * ·) ((rd2 m c t y k).trans ?_) (ld_wo m c t 640 384 _ k (by omega) i))
  · unfold mixed
    rw [dif_pos k.isLt]
  · refine congrArg (fun z => (m ((c : Thread nD τ).loc main_arg5)) (ix2 z i)) (Fin.ext (Nat.zero_add _))
  · unfold mixed
    rw [dif_neg (by simp), dif_pos (by show 384 + k.val < 640; omega)]
    exact congrArg (fun z => (m ((c : Thread nD τ).loc main_arg1)) (ix2 (tok t y) z)) (Fin.ext (by show k.val = 384 + k.val - 384; omega))
  · unfold mixed
    rw [dif_neg (by show ¬ 640 + k.val < 384; omega), dif_neg (by show ¬ 640 + k.val < 640; omega)]
    exact congrArg (fun z => (m ((c : Thread nD τ).loc main_arg2)) (ix2 (tok t y) z)) (Fin.ext (by show k.val = 640 + k.val - 640; omega))

/-- A row after the first normalisation. -/
abbrev row1 (y : Fin 512) : Fin 1024 → EReal :=
  first (mixed (m ((c : Thread nD τ).loc main_arg0)) (m ((c : Thread nD τ).loc main_arg2)) (m ((c : Thread nD τ).loc main_arg1)) (tok t y)) (rowOf (m ((c : Thread nD τ).loc main_arg3)) (tok t y)) (modVec (m ((c : Thread nD τ).loc main_arg4)) 2 (tok t y)) (rowOf (m ((c : Thread nD τ).loc main_arg5))) (vecOf (m ((c : Thread nD τ).loc main_arg6))) (vecOf (m ((c : Thread nD τ).loc main_arg7)))

/-- The block after the first normalisation holds it. -/
theorem X1_at (y : Fin 512) (i : Fin 1024) : X1 m c t (ix2 y i) = row1 m c t y i := by
  refine (pay4_at _ _ _ _ _ _ _ _ _ _ y i).trans ?_
  unfold row1 first
  have e1 : r2 (iblk m c 3 t) y = rowOf (m ((c : Thread nD τ).loc main_arg3)) (tok t y) := funext fun i => rd3 m c t y i
  have e2 : r0 (View.ld (iblk m c 4 t) (Rect.unit ![0, 0, 2048] ![1, 1, 1024] inb_S1x1x6144_S1x1x1024_0_0_2048)) = modVec (m ((c : Thread nD τ).loc main_arg4)) 2 (tok t y) := funext fun i => ld_mod m c t 2 _ y i
  have e3 := funext fun i => mixes_eq m c t y i
  have e4 : r1 (iblk m c 9 t) = vecOf (m ((c : Thread nD τ).loc main_arg6)) := funext fun i => rd9 m c t i
  have e5 : r1 (iblk m c 10 t) = vecOf (m ((c : Thread nD τ).loc main_arg7)) := funext fun i => rd10 m c t i
  rw [e1, e2, e4, e5]
  exact congrArg (fun z => affine (resid _ _ z) _ _ i) e3

/-- The block the feed-forward part starts from holds the modulated row. -/
theorem Hd_at (y : Fin 512) (i : Fin 1024) : Hd m c t (ix2 y i) = modulated (row1 m c t y) (modVec (m ((c : Thread nD τ).loc main_arg4)) 4 (tok t y)) (modVec (m ((c : Thread nD τ).loc main_arg4)) 3 (tok t y)) i := by
  refine (pay5_at _ _ _ _ _ _ _ y i).trans ?_
  have e1 : r2 (X1 m c t) y = row1 m c t y := funext fun i => X1_at m c t y i
  have e2 : r0 (View.ld (iblk m c 4 t) (Rect.unit ![0, 0, 4096] ![1, 1, 1024] inb_S1x1x6144_S1x1x1024_0_0_4096)) = modVec (m ((c : Thread nD τ).loc main_arg4)) 4 (tok t y) := funext fun i => ld_mod m c t 4 _ y i
  have e3 : r0 (View.ld (iblk m c 4 t) (Rect.unit ![0, 0, 3072] ![1, 1, 1024] inb_S1x1x6144_S1x1x1024_0_0_3072)) = modVec (m ((c : Thread nD τ).loc main_arg4)) 3 (tok t y) := funext fun i => ld_mod m c t 3 _ y i
  rw [e2, e3]
  exact congrArg (fun z => modulated z _ _ i) e1

/-- What a grid point leaves at a row and column of its block. -/
theorem point (y : Fin 512) (i : Fin 1024) : outsAt0 m c t (ix2 y i) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (tok t y) i := by
  refine (out_eq m c t _).trans ((pay1_at _ _ _ _ _ y i).trans ?_)
  unfold result second
  have e1 : r2 (X1 m c t) y = row1 m c t y := funext fun i => X1_at m c t y i
  have e2 : r0 (View.ld (iblk m c 4 t) (Rect.unit ![0, 0, 5120] ![1, 1, 1024] inb_S1x1x6144_S1x1x1024_0_0_5120)) = modVec (m ((c : Thread nD τ).loc main_arg4)) 5 (tok t y) := funext fun i => ld_mod m c t 5 _ y i
  have e4 : r1 (iblk m c 11 t) = vecOf (m ((c : Thread nD τ).loc main_arg10)) := funext fun i => rd11 m c t i
  have e5 : r1 (iblk m c 12 t) = vecOf (m ((c : Thread nD τ).loc main_arg11)) := funext fun i => rd12 m c t i
  have e3 : r2 (acc (k0_pay6 (Hd m c t)) (iblk m c 6 t) (iblk m c 7 t) (iblk m c 8 t) (k0_pay7 (F := Ideal)) k0_t1_loop.trips) y
      = proj (gated (modulated (row1 m c t y) (modVec (m ((c : Thread nD τ).loc main_arg4)) 4 (tok t y)) (modVec (m ((c : Thread nD τ).loc main_arg4)) 3 (tok t y)))
          (fun k j => (m ((c : Thread nD τ).loc main_arg8)) (ix2 k ⟨j.val, by omega⟩)) (fun k j => (m ((c : Thread nD τ).loc main_arg8)) (ix2 k ⟨2816 + j.val, by omega⟩))) (rowOf (m ((c : Thread nD τ).loc main_arg9))) := funext fun i =>
    acc_all _ _ _ _ _ _ _ _ _ y i (pay7_at y i) (fun k => (congrFun (shapeCast_self _ _) _).trans (Hd_at m c t y k))
      (fun e k x => (rd6' m c t e k x).trans (hv3 m c e k x)) (fun e k x => (rd7' m c t e k x).trans (hv7 m c e k x))
      (fun e x => (rd8' m c t e x i).trans (hv9 m c e x i))
  rw [e2, e4, e5]
  exact congrArg₂ (fun z w => affine (resid z _ w) _ _ i) e1 e3

/-- The same at an index of the block. -/
theorem point_idx (y : S512x1024.Idx) : outsAt0 m c t y = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (tok t (y 0)) (y 1) := by
  obtain ⟨a, b, rfl⟩ : ∃ (a : Fin 512) (b : Fin 1024), y = ix2 a b := ⟨y 0, y 1, eq_ix2 y⟩
  exact point m c t a b

/-- The whole output. -/
def outArr : Vec Ideal S16896x1024 .f32 := fun i => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1)

/-- The output array after the run. -/
theorem final : (dats m 0 c).arrAt 13 cfg0.N = outArr m c := by
  refine (dats m 0 c).arrAt_eq_of_covers 13 _ (by decide +kernel) fun t _ y => ?_
  have h13 := (idx t).2.2.2.2.2.2.2.2.2.2.2.2.2.1
  blk_simp
  rw [after0_13]
  refine (point_idx m c t y).trans ?_
  unfold outArr
  refine congrArg₂ (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Fin.ext ?_) (Fin.ext ?_)
  · show t.val * 512 + (y 0).val = _
    blk_simp [h13]
  · blk_simp [h13]

end Cert.Kernel2Ideal.Post
-- ==== Proof.Ref2.lean ====
/- The reference of the output projection and the feed-forward part, read at an index as the row functions of
   `Spec2`. -/
module

public import proofs.«01_k».proof.Proof.Gen.Reference2Ideal.Run
public import proofs.«01_k».proof.Proof.Spec2
public import Idealize.ShloMosaic.Lib.Pointwise

@[expose] public section

set_option maxRecDepth 16384

noncomputable section

open Idealize.ShloMosaic Idealize.ShloMosaic.TcCoe Idealize.SL.Sem

namespace Cert.Reference2Ideal.Post

open Cert.Reference2Ideal Cert.Reference2Ideal.Gen Cert.Reference2Ideal.Value Spec2
open Idealize.ShloMosaic.StableHlo (launchContents)

/-- One modulation vector per token. -/
def modRows (w : FVec Ideal S3x1024 .f32) : FVec Ideal S16896x1024 .f32 :=
  concatenate S16896x1024 0 [⟨S16384x1024, (shapeCast _ (broadcastInDim S2x8192x1024 ![0, 1, 2] bcast_S2x1x1024_S2x8192x1024_0_1_2 (broadcastInDim S2x1x1024 ![0, 2] bcast_S2x1024_S2x1x1024_0_2 (extractStridedSlice S2x1024 ![0, 0] w slices_S3x1024_S2x1024_0_0))) shapeCasts_S2x8192x1024_S16384x1024)⟩, ⟨S512x1024, (broadcastInDim S512x1024 ![1] bcast_S1024_S512x1024_1 (shapeCast _ (extractStridedSlice S1x1024 ![2, 0] w slices_S3x1024_S1x1024_2_0) shapeCasts_S1x1024_S1024))⟩] concatenates_S16384x1024_S512x1024_S16896x1024_d0

/-- A latent token's vector is its batch's, a context token's the last. -/
theorem modRows_at (w : FVec Ideal S3x1024 .f32) (r : Fin 16896) (i : Fin 1024) : modRows w (ix2 r i) = w (ix2 (modRow r) i) := by
  pointwise [modRows]
  unfold modRow
  by_cases h : r.val < 16384
  · rw [dif_pos h]
    refine congrArg (fun z => w (ix2 z i)) (Fin.ext ?_)
    by_cases h' : r.val < 8192
    · rw [if_pos h']; exact Nat.div_eq_of_lt h'
    · rw [if_neg h', if_pos h]; show r.val / 8192 = 1; omega
  · rw [dif_neg h, if_neg (by omega), if_neg h]

/-- The three mixings side by side. -/
def cat (oa : FVec Ideal S16896x384 .bf16) (ob : FVec Ideal S16896x256 .bf16) (oc : FVec Ideal S16896x384 .bf16) : FVec Ideal S16896x1024 .f32 :=
  extf .f32 (concatenate S16896x1024 1 [⟨S16896x384, oa⟩, ⟨S16896x256, ob⟩, ⟨S16896x384, oc⟩] concatenates_S16896x384_S16896x256_S16896x384_S16896x1024_d1 : (⟨S16896x1024, .bf16⟩ : BufTy).Contents (Elt Ideal)) bitsLt_bf16_f32

/-- A lane of the three mixings. -/
theorem cat_at (oa : FVec Ideal S16896x384 .bf16) (ob : FVec Ideal S16896x256 .bf16) (oc : FVec Ideal S16896x384 .bf16) (r : Fin 16896) (k : Fin 1024) :
    cat oa ob oc (ix2 r k) = mixed oa oc ob r k := by
  pointwise [cat]
  unfold mixed
  by_cases h : k.val < 384
  · rw [dif_pos h, dif_pos h]
  · by_cases h' : k.val < 640
    · rw [dif_neg h, dif_neg h, dif_pos (by omega), dif_pos h']
    · rw [dif_neg h, dif_neg h, dif_neg (by omega), dif_neg h']
      exact congrArg (fun z => oc (ix2 r z)) (Fin.ext (by show k.val - 384 - 256 = k.val - 640; omega))

/-- The row means. -/
def means (v : FVec Ideal S16896x1024 .f32) : FVec Ideal S16896x1 .f32 :=
  Host.divf (broadcastInDim S16896x1 ![0] bcast_S16896_S16896x1_0 (Host.reduceAdd v (constant S_ .f32 0x00000000#32) reducesTo_S16896x1024_S16896_d1 h_S_)) (broadcastInDim S16896x1 ![] bcast_S_S16896x1 (constant S_ .f32 0x44800000#32))

/-- A row mean. -/
theorem means_at (v : FVec Ideal S16896x1024 .f32) (r : Fin 16896) : means v (ix2 r 0) = mean (fun i => v (ix2 r i)) := by
  pointwise [means]
  rfl

/-- The rows less their means. -/
def centred (v : FVec Ideal S16896x1024 .f32) : FVec Ideal S16896x1024 .f32 :=
  subf v (broadcastInDim S16896x1024 ![0, 1] bcast_S16896x1_S16896x1024_0_1 (means v))

/-- An element less its row mean. -/
theorem centred_at (v : FVec Ideal S16896x1024 .f32) (r : Fin 16896) (i : Fin 1024) : centred v (ix2 r i) = v (ix2 r i) - mean (fun i => v (ix2 r i)) := by
  pointwise [centred]
  rw [means_at]

/-- The normalised rows. -/
def normed (v : FVec Ideal S16896x1024 .f32) : FVec Ideal S16896x1024 .f32 :=
  mulf (centred v) (broadcastInDim S16896x1024 ![0, 1] bcast_S16896x1_S16896x1024_0_1 (Host.rsqrt (addf (means (mulf (centred v) (centred v))) (broadcastInDim S16896x1 ![] bcast_S_S16896x1 (constant S_ .f32 0x358637BD#32)))))

/-- A normalised element. -/
theorem normed_at (v : FVec Ideal S16896x1024 .f32) (r : Fin 16896) (i : Fin 1024) : normed v (ix2 r i) = norm (fun i => v (ix2 r i)) i := by
  pointwise [normed]
  rw [means_at]
  have h : ∀ i, mulf (centred v) (centred v) (ix2 r i) = (v (ix2 r i) - mean (fun i => v (ix2 r i))) * (v (ix2 r i) - mean (fun i => v (ix2 r i))) := fun i =>
    congrArg₂ (· * ·) (centred_at v r i) (centred_at v r i)
  rw [centred_at]
  simp only [h]
  rfl

/-- The normalised rows with a gain and a bias. -/
def affined (v : FVec Ideal S16896x1024 .f32) (g b : FVec Ideal S1024 .f32) : FVec Ideal S16896x1024 .f32 :=
  addf (mulf (normed v) (broadcastInDim S16896x1024 ![0, 1] bcast_S1x1024_S16896x1024_0_1 (broadcastInDim S1x1024 ![1] bcast_S1024_S1x1024_1 g))) (broadcastInDim S16896x1024 ![0, 1] bcast_S1x1024_S16896x1024_0_1 (broadcastInDim S1x1024 ![1] bcast_S1024_S1x1024_1 b))

/-- A normalised element with its gain and bias. -/
theorem affined_at (v : FVec Ideal S16896x1024 .f32) (g b : FVec Ideal S1024 .f32) (r : Fin 16896) (i : Fin 1024) :
    affined v g b (ix2 r i) = affine (fun i => v (ix2 r i)) (vecOf g) (vecOf b) i := by
  pointwise [affined]
  rw [normed_at]
  rfl

/-- The modulated rows. -/
def modded (v sc sh : FVec Ideal S16896x1024 .f32) : FVec Ideal S16896x1024 .f32 :=
  addf (mulf (normed v) (addf (broadcastInDim S16896x1024 ![] bcast_S_S16896x1024 (constant S_ .f32 0x3F800000#32)) sc)) sh

/-- A modulated element. -/
theorem modded_at (v sc sh : FVec Ideal S16896x1024 .f32) (r : Fin 16896) (i : Fin 1024) :
    modded v sc sh (ix2 r i) = modulated (fun i => v (ix2 r i)) (fun i => sc (ix2 r i)) (fun i => sh (ix2 r i)) i := by
  pointwise [modded]
  rw [normed_at]
  rfl

/-- The scaled residual plus the gated branch. -/
def resided (x g y : FVec Ideal S16896x1024 .f32) : FVec Ideal S16896x1024 .f32 :=
  addf (mulf (broadcastInDim S16896x1024 ![] bcast_S_S16896x1024 (constant S_ .f32 0x3FD744FD#32)) x) (mulf g y)

/-- An element of it. -/
theorem resided_at (x g y : FVec Ideal S16896x1024 .f32) (r : Fin 16896) (i : Fin 1024) :
    resided x g y (ix2 r i) = resid (fun i => x (ix2 r i)) (fun i => g (ix2 r i)) (fun i => y (ix2 r i)) i := by
  pointwise [resided]
  rfl

/-- The gated hidden layer. -/
def hidden (h : FVec Ideal S16896x1024 .f32) (wi : FVec Ideal S1024x5632 .f32) : FVec Ideal S16896x2816 .f32 :=
  let a := Host.dotGeneral dot_S16896x1024_S1024x2816_S16896x2816_1_0_0_1_n_n none h (extractStridedSlice S1024x2816 ![0, 0] wi slices_S1024x5632_S1024x2816_0_0)
  mulf (mulf a (Host.divf (broadcastInDim S16896x2816 ![] bcast_S_S16896x2816 (constant S_ .f32 0x3F800000#32)) (addf (broadcastInDim S16896x2816 ![] bcast_S_S16896x2816 (constant S_ .f32 0x3F800000#32)) (Host.exp (Host.negf a))))) (Host.dotGeneral dot_S16896x1024_S1024x2816_S16896x2816_1_0_0_1_n_n none h (extractStridedSlice S1024x2816 ![0, 2816] wi slices_S1024x5632_S1024x2816_0_2816))

/-- A lane of the hidden layer. -/
theorem hidden_at (h : FVec Ideal S16896x1024 .f32) (wi : FVec Ideal S1024x5632 .f32) (r : Fin 16896) (j : Fin 2816) :
    hidden h wi (ix2 r j) = gated (fun i => h (ix2 r i)) (fun k j => wi (ix2 k ⟨j.val, by omega⟩)) (fun k j => wi (ix2 k ⟨2816 + j.val, by omega⟩)) j := by
  pointwise [hidden]
  rfl

/-- The first product. -/
theorem dot1_at (o : FVec Ideal S16896x1024 .f32) (w : FVec Ideal S1024x1024 .f32) (r : Fin 16896) (i : Fin 1024) :
    (Host.dotGeneral dot_S16896x1024_S1024x1024_S16896x1024_1_0_0_1_n_n none o w : FVec Ideal S16896x1024 .f32) (ix2 r i) = proj (fun k => o (ix2 r k)) (rowOf w) i := by
  pointwise
  rfl

/-- The last product. -/
theorem dot2_at (o : FVec Ideal S16896x2816 .f32) (w : FVec Ideal S2816x1024 .f32) (r : Fin 16896) (i : Fin 1024) :
    (Host.dotGeneral dot_S16896x2816_S2816x1024_S16896x1024_1_0_0_1_n_n none o w : FVec Ideal S16896x1024 .f32) (ix2 r i) = proj (fun k => o (ix2 r k)) (rowOf w) i := by
  pointwise
  rfl

/-- A modulation vector of a token. -/
theorem slice_at (md : FVec Ideal S3x6144 .f32) (n : Fin 6) (w : FVec Ideal S3x1024 .f32) (hw : ∀ b i, w (ix2 b i) = md (ix2 b ⟨n.val * 1024 + i.val, by omega⟩)) (r : Fin 16896) :
    (fun i => modRows w (ix2 r i)) = modVec md n r := funext fun i => (modRows_at w r i).trans (hw _ _)

section whole
variable (oa : FVec Ideal S16896x384 .bf16) (ob : FVec Ideal S16896x256 .bf16) (oc : FVec Ideal S16896x384 .bf16) (x : FVec Ideal S16896x1024 .f32) (md : FVec Ideal S3x6144 .f32)
  (wo : FVec Ideal S1024x1024 .f32) (l1g l1b : FVec Ideal S1024 .f32) (wi : FVec Ideal S1024x5632 .f32) (wf : FVec Ideal S2816x1024 .f32) (l2g l2b : FVec Ideal S1024 .f32)

/-- The rows after the first normalisation. -/
def x1 : FVec Ideal S16896x1024 .f32 :=
  affined (resided x (modRows (extractStridedSlice S3x1024 ![0, 2048] md slices_S3x6144_S3x1024_0_2048)) (Host.dotGeneral dot_S16896x1024_S1024x1024_S16896x1024_1_0_0_1_n_n none (cat oa ob oc) wo)) l1g l1b

/-- The finished rows. -/
def whole : FVec Ideal S16896x1024 .f32 :=
  affined (resided (x1 oa ob oc x md wo l1g l1b) (modRows (extractStridedSlice S3x1024 ![0, 5120] md slices_S3x6144_S3x1024_0_5120))
    (Host.dotGeneral dot_S16896x2816_S2816x1024_S16896x1024_1_0_0_1_n_n none
      (hidden (modded (x1 oa ob oc x md wo l1g l1b) (modRows (extractStridedSlice S3x1024 ![0, 4096] md slices_S3x6144_S3x1024_0_4096)) (modRows (extractStridedSlice S3x1024 ![0, 3072] md slices_S3x6144_S3x1024_0_3072))) wi) wf)) l2g l2b

/-- A row after the first normalisation. -/
theorem x1_at (r : Fin 16896) (i : Fin 1024) : x1 oa ob oc x md wo l1g l1b (ix2 r i) = first (mixed oa oc ob r) (rowOf x r) (modVec md 2 r) (rowOf wo) (vecOf l1g) (vecOf l1b) i := by
  unfold x1 first
  rw [affined_at]
  simp only [resided_at, dot1_at, cat_at]
  rw [slice_at md 2 (extractStridedSlice S3x1024 ![0, 2048] md slices_S3x6144_S3x1024_0_2048) (fun b i => by pointwise) r]
  rfl

/-- The finished element. -/
theorem whole_at (r : Fin 16896) (i : Fin 1024) : whole oa ob oc x md wo l1g l1b wi wf l2g l2b (ix2 r i) = result oa ob oc x md wo l1g l1b wi wf l2g l2b r i := by
  unfold whole result second
  rw [affined_at]
  simp only [resided_at, dot2_at, hidden_at, modded_at, x1_at]
  rw [slice_at md 3 (extractStridedSlice S3x1024 ![0, 3072] md slices_S3x6144_S3x1024_0_3072) (fun b i => by pointwise) r, slice_at md 4 (extractStridedSlice S3x1024 ![0, 4096] md slices_S3x6144_S3x1024_0_4096) (fun b i => by pointwise) r, slice_at md 5 (extractStridedSlice S3x1024 ![0, 5120] md slices_S3x6144_S3x1024_0_5120) (fun b i => by pointwise) r]
end whole

/-- The reference's result, in the named parts. -/
theorem res_eq (m : (ℓ : Loc nD τ sig) → Buf (Elt Ideal) ℓ) (c : Dev nD) :
    addf (mulf (mulf (subf (res_main_v99 (launchContents m c)) (broadcastInDim S16896x1024 ![0, 1] bcast_S16896x1_S16896x1024_0_1 (res_main_v103 (launchContents m c)))) (broadcastInDim S16896x1024 ![0, 1] bcast_S16896x1_S16896x1024_0_1 (Host.rsqrt (addf (Host.divf (broadcastInDim S16896x1 ![0] bcast_S16896_S16896x1_0 (Host.reduceAdd (mulf (res_main_v105 (launchContents m c)) (res_main_v105 (launchContents m c))) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 ((launchContents m c) (Proc.devRef .tc main_arg10))))) (broadcastInDim S16896x1024 ![0, 1] bcast_S1x1024_S16896x1024_0_1 (broadcastInDim S1x1024 ![1] bcast_S1024_S1x1024_1 ((launchContents m c) (Proc.devRef .tc main_arg11))))
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

end Cert.Reference2Ideal.Post
-- ==== Proof.Spec3.lean ====
/- The function both programs of the input projection compute, written once for one token: the modulated normalised
   row through `w_in`, and of its columns the three parts of the neighbourhood attention, the gated mixing of the
   token's chunk, and the normalised and turned heads of the grouped attention. -/
module

public import proofs.«01_k».proof.Proof.Spec2

@[expose] public section

noncomputable section

namespace Spec3

open Idealize.ShloMosaic Spec2

/-- The small constant under the roots. -/
abbrev eps : EReal := Ideal.ofBits FTy.f32 0x358637BD#32

/-- The tanh form of GELU. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * z * z)))))

/-- The mean of a row of 256 numbers. -/
def mean256 (v : Fin 256 → EReal) : EReal := Ideal.div (∑ x, v x) (Ideal.ofBits FTy.f32 0x43800000#32)

/-- A row of 256 less its mean, over the root of its variance plus the small constant. -/
def norm256 (v : Fin 256 → EReal) (j : Fin 256) : EReal :=
  (v j - mean256 v) * Ideal.rsqrt (mean256 (fun x => (v x - mean256 v) * (v x - mean256 v)) + eps)

/-- A row of 256 over its root mean square. -/
def rms256 (v : Fin 256 → EReal) (j : Fin 256) : EReal := v j * Ideal.rsqrt (mean256 (fun x => v x * v x) + eps)

/-- One head of 64 over its root mean square, times its gain. -/
def rms64 (v g : Fin 64 → EReal) (j : Fin 64) : EReal :=
  v j * Ideal.rsqrt (Ideal.div (∑ x, v x * v x) (Ideal.ofBits FTy.f32 0x42800000#32) + eps) * g j

/-- One head turned by the position of its token; a context token has no position. In each half of the head the
    first sixteen lanes are paired with the last sixteen. -/
def turn (a : Fin 64 → EReal) (cs sn : (⟨3, ![8192, 2, 16]⟩ : Shape).Idx → EReal) (r : Fin 16896) (j : Fin 64) : EReal :=
  if r.val < 16384 then
    if j.val % 32 < 16 then
      a j * cs (ix3 ⟨r.val % 8192, by omega⟩ ⟨j.val / 32, by omega⟩ ⟨j.val % 16, by omega⟩)
        - a ⟨(j.val + 16) % 64, by omega⟩ * sn (ix3 ⟨r.val % 8192, by omega⟩ ⟨j.val / 32, by omega⟩ ⟨j.val % 16, by omega⟩)
    else
      a j * cs (ix3 ⟨r.val % 8192, by omega⟩ ⟨j.val / 32, by omega⟩ ⟨j.val % 16, by omega⟩)
        + a ⟨j.val - 16, by omega⟩ * sn (ix3 ⟨r.val % 8192, by omega⟩ ⟨j.val / 32, by omega⟩ ⟨j.val % 16, by omega⟩)
  else a j

section
variable (x : (⟨2, ![16896, 1024]⟩ : Shape).Idx → EReal) (md : (⟨2, ![3, 6144]⟩ : Shape).Idx → EReal) (w : (⟨2, ![1024, 2304]⟩ : Shape).Idx → EReal)
  (cs sn : (⟨3, ![8192, 2, 16]⟩ : Shape).Idx → EReal) (ws : (⟨3, ![4, 128, 128]⟩ : Shape).Idx → EReal) (bs : (⟨2, ![4, 128]⟩ : Shape).Idx → EReal)
  (gs : (⟨1, ![256]⟩ : Shape).Idx → EReal) (gq gk : (⟨1, ![64]⟩ : Shape).Idx → EReal) (go : (⟨1, ![256]⟩ : Shape).Idx → EReal)

/-- The modulated normalised row of a token. -/
def hrow (r : Fin 16896) : Fin 1024 → EReal := modulated (rowOf x r) (modVec md 1 r) (modVec md 0 r)

/-- A column of the projection of a token. -/
def pcol (r : Fin 16896) (j : Fin 2304) : EReal := proj (hrow x md r) (rowOf w) j

/-- The gate of a token's mixing. -/
def gate (r : Fin 16896) (i : Fin 256) : EReal := gelu (pcol x md w r ⟨1152 + i.val, by omega⟩)

/-- What a token gives to the mixing of its chunk. -/
def given (r : Fin 16896) (i : Fin 256) : EReal :=
  norm256 (fun i => gelu (pcol x md w r ⟨1408 + i.val, by omega⟩)) i * vecOf gs i

/-- The mixing of a token: over the 128 tokens of its chunk with the weights of the lane's group, plus a bias. -/
def mixing (r : Fin 16896) (i : Fin 256) : EReal :=
  (∑ q : Fin 128, given x md w gs ⟨r.val / 128 * 128 + q.val, by omega⟩ i * ws (ix3 ⟨i.val / 64, by omega⟩ ⟨r.val % 128, by omega⟩ q))
    + bs (ix2 ⟨i.val / 64, by omega⟩ ⟨r.val % 128, by omega⟩)

/-- The second part of a token. -/
def resB (r : Fin 16896) (i : Fin 256) : EReal :=
  rms256 (fun i => gate x md w r i * mixing x md w ws bs gs r i) i * vecOf go i

/-- A head of a token: 64 of its columns, normalised and turned. -/
def head (g : (⟨1, ![64]⟩ : Shape).Idx → EReal) (r : Fin 16896) (o : ℕ) (ho : o + 64 ≤ 2304) (j : Fin 64) : EReal :=
  turn (rms64 (fun j => pcol x md w r ⟨o + j.val, by omega⟩) (vecOf g)) cs sn r j

/-- The queries of the grouped attention, scaled. -/
def resQ (r : Fin 16896) (l : Fin 384) : EReal :=
  head x md w cs sn gq r (1664 + l.val / 64 * 64) (by omega) ⟨l.val % 64, by omega⟩ * Ideal.ofBits FTy.f32 0x3E000000#32

/-- The keys of the grouped attention. -/
def resK (r : Fin 16896) (l : Fin 128) : EReal :=
  head x md w cs sn gk r (2048 + l.val / 64 * 64) (by omega) ⟨l.val % 64, by omega⟩
end

end Spec3
-- ==== Proof.Pay3.lean ====
/- The values the input projection kernel computes from what it loads, read at an index: the modulated row, the
   projections, GELU and the normalisation of the gated branch. -/
module

public import proofs.«01_k».proof.Proof.Gen.Kernel3Ideal.Skeleton
public import proofs.«01_k».proof.Proof.Spec3
public import Idealize.ShloMosaic.Lib.Pointwise

@[expose] public section

set_option maxRecDepth 16384

noncomputable section

open Idealize.ShloMosaic Idealize.ShloMosaic.TcCoe Idealize.SL.Sem

namespace Cert.Kernel3Ideal.Inp

open Cert.Kernel3Ideal Cert.Kernel3Ideal.Gen

open Spec2 Spec3

/-- The modulated row. -/
theorem pay3_at (v0 v2 : FVec Ideal S1x1x1024 .f32) (v4 : FVec Ideal S512x1024 .f32) (y : Fin 512) (i : Fin 1024) :
    k0_pay3 (F := Ideal) v0 v2 v4 (ix2 y i) = modulated (fun i => v4 (ix2 y i)) (fun i => v2 (ix3 0 0 i)) (fun i => v0 (ix3 0 0 i)) i := by
  pointwise [k0_pay3]
  rfl

/-- The scaled projection of the first queries. -/
theorem pay4_at (v0 v2 : FVec Ideal S1x1x1024 .f32) (v4 : FVec Ideal S512x1024 .f32) (w : FVec Ideal S1024x384 .bf16) (y : Fin 512) (i : Fin 384) :
    k0_pay4 (F := Ideal) v0 v2 v4 w (ix2 y i) = proj (fun k => k0_pay3 (F := Ideal) v0 v2 v4 (ix2 y k)) (rowOf w) i * Ideal.ofBits FTy.f32 0x3E000000#32 := by
  pointwise [k0_pay4]
  rfl

/-- The other projections of the neighbourhood attention. -/
theorem pay5_at (h : FVec Ideal S512x1024 .bf16) (w : FVec Ideal S1024x384 .bf16) (y : Fin 512) (i : Fin 384) :
    k0_pay5 (F := Ideal) h w (ix2 y i) = proj (fun k => h (ix2 y k)) (rowOf w) i := by
  pointwise [k0_pay5]
  rfl
/-- The values. -/
theorem pay6_at (h : FVec Ideal S512x1024 .bf16) (w : FVec Ideal S1024x384 .bf16) (y : Fin 512) (i : Fin 384) :
    k0_pay6 (F := Ideal) h w (ix2 y i) = proj (fun k => h (ix2 y k)) (rowOf w) i := by
  pointwise [k0_pay6]
  rfl
/-- The values of the grouped attention. -/
theorem pay2_at (h : FVec Ideal S512x1024 .bf16) (w : FVec Ideal S1024x128 .bf16) (y : Fin 512) (i : Fin 128) :
    k0_pay2 (F := Ideal) h w (ix2 y i) = proj (fun k => h (ix2 y k)) (rowOf w) i := by
  pointwise [k0_pay2]
  rfl

/-- The gate. -/
theorem pay7_at (h : FVec Ideal S512x1024 .bf16) (w : FVec Ideal S1024x256 .bf16) (y : Fin 512) (i : Fin 256) :
    k0_pay7 (F := Ideal) h w (ix2 y i) = gelu (proj (fun k => h (ix2 y k)) (rowOf w) i) := by
  pointwise [k0_pay7]
  rfl

/-- The other half of the gated branch, normalised and scaled. -/
theorem pay11_at (h : FVec Ideal S512x1024 .bf16) (w : FVec Ideal S1024x256 .bf16) (g : FVec Ideal S1x256 .f32) (y : Fin 512) (i : Fin 256) :
    k0_pay11 (F := Ideal) (k0_pay8 h w) (k0_pay9 h w) k0_pay10 g (ix2 y i) = norm256 (fun i => gelu (proj (fun k => h (ix2 y k)) (rowOf w) i)) i * g (ix2 0 i) := by
  pointwise [k0_pay11, k0_pay10, k0_pay9, k0_pay8]
  rfl

end Cert.Kernel3Ideal.Inp
-- ==== Proof.Rope3.lean ====
/- The heads of the grouped attention as the input projection kernel computes them, two of them side by side in 128
   lanes: the norm of each half and the turn by the angle tables, read at an index. -/
module

public import proofs.«01_k».proof.Proof.Pay3

@[expose] public section

set_option maxRecDepth 16384

noncomputable section

open Idealize.ShloMosaic Idealize.ShloMosaic.TcCoe Idealize.SL.Sem

namespace Cert.Kernel3Ideal.Inp

open Cert.Kernel3Ideal Cert.Kernel3Ideal.Gen

open Spec2 Spec3

/-- The turn of a row of 128 lanes. -/
def turned (Y C S : Fin 128 → EReal) (l : Fin 128) : EReal :=
  Y l * C l + (if l.val % 32 < 16 then Y ⟨(l.val + 16) % 128, by omega⟩ else Y ⟨(l.val + 112) % 128, by omega⟩) * S l

/-- The sum of squares of the first half of a row of 128 lanes. -/
def lowSum (X : Fin 128 → EReal) : EReal := ∑ x : Fin 128, if x.val < 64 then X x * X x else 0
/-- The sum of squares of the second half. -/
def highSum (X : Fin 128 → EReal) : EReal := ∑ x : Fin 128, if x.val < 64 then 0 else X x * X x

/-- The norm of the two heads of a row of 128 lanes. -/
def paired (X G : Fin 128 → EReal) (l : Fin 128) : EReal :=
  X l * (if l.val < 64 then Ideal.rsqrt (lowSum X * Ideal.ofBits FTy.f32 0x3C800000#32 + eps)
    else Ideal.rsqrt (highSum X * Ideal.ofBits FTy.f32 0x3C800000#32 + eps)) * G l

/-- A choice by the half of the lane. -/
theorem lane64 {α : Type} (l : Fin 128) (a b : α) :
    Scalar.select (IntOp.cmpi CmpIPredicate.slt (BitVec.ofNat 32 ↑l) 64#32) a b = if l.val < 64 then a else b := by
  have h : ∀ l : Fin 128, IntOp.cmpi CmpIPredicate.slt (BitVec.ofNat 32 l.val) 64#32 = if l.val < 64 then 1#1 else 0#1 := by decide +kernel
  rw [h l]
  by_cases hl : l.val < 64
  · rw [if_pos hl, if_pos hl]; rfl
  · rw [if_neg hl, if_neg hl]; rfl

/-- Whether a lane lies in the first sixteen of its thirty-two, as the kernel computes it. -/
def low32 (l : Fin 128) : BitVec 1 :=
          (IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (IntOp.cmpi CmpIPredicate.ne
                  (IntOp.remsi ArithUnit.vector (BitVec.ofNat 32 l.val)
                    (Scalar.select (Scalar.cmpi CmpIPredicate.eq 32#32 0#32) 1#32 32#32))
                  0#32))
              (IntOp.addi
                (IntOp.remsi ArithUnit.vector (BitVec.ofNat 32 l.val)
                  (Scalar.select (Scalar.cmpi CmpIPredicate.eq 32#32 0#32) 1#32 32#32))
                (Scalar.select (Scalar.cmpi CmpIPredicate.eq 32#32 0#32) 1#32 32#32))
              (IntOp.remsi ArithUnit.vector (BitVec.ofNat 32 l.val)
                (Scalar.select (Scalar.cmpi CmpIPredicate.eq 32#32 0#32) 1#32 32#32)))
            16#32)

/-- It says what it should. -/
theorem low32_eq : ∀ l : Fin 128, low32 l = if l.val % 32 < 16 then 1#1 else 0#1 := by decide +kernel

/-- The turn, with the kernel's own choice of the partner lane. -/
theorem turned_of (Y C S : Fin 128 → EReal) (l : Fin 128) (h1 : (l.val + 128 - 112) % 128 < 128) (h2 : (l.val + 128 - 16) % 128 < 128) :
    Y l * C l + Scalar.select (low32 l) (Y ⟨(l.val + 128 - 112) % 128, h1⟩) (Y ⟨(l.val + 128 - 16) % 128, h2⟩) * S l = turned Y C S l := by
  unfold turned
  rw [low32_eq]
  have e1 : (⟨(l.val + 128 - 112) % 128, h1⟩ : Fin 128) = ⟨(l.val + 16) % 128, by omega⟩ := Fin.ext (by simp)
  have e2 : (⟨(l.val + 128 - 16) % 128, h2⟩ : Fin 128) = ⟨(l.val + 112) % 128, by omega⟩ := Fin.ext (by simp)
  rw [e1, e2]
  by_cases h : l.val % 32 < 16
  · rw [if_pos h, if_pos h]; rfl
  · rw [if_neg h, if_neg h]; rfl

section
variable (h : FVec Ideal S512x1024 .bf16) (w : FVec Ideal S1024x128 .bf16) (g : FVec Ideal S1x128 .f32) (C S v : FVec Ideal S512x128 .f32) (y : Fin 512) (l : Fin 128)

/-- The two normalised key heads. -/
theorem pay48_at : k0_pay48 (F := Ideal) h w g (ix2 y l) = paired (proj (fun k => h (ix2 y k)) (rowOf w)) (fun l => g (ix2 0 l)) l := by
  pointwise [k0_pay48]
  simp only [lane64]
  rfl

/-- The two turned key heads. -/
theorem pay1_at : k0_pay1 (F := Ideal) C S v (Scalar.select (Scalar.cmpi .eq 32#32 0#32) 1#32 32#32) k0_pay49 k0_pay50 k0_pay51 (ix2 y l)
      = turned (fun l => v (ix2 y l)) (fun l => C (ix2 y l)) (fun l => S (ix2 y l)) l := by
  refine Eq.trans ?_ (turned_of (fun l => v (ix2 y l)) (fun l => C (ix2 y l)) (fun l => S (ix2 y l)) l (Nat.mod_lt _ (by decide)) (Nat.mod_lt _ (by decide)))
  pointwise [k0_pay1, k0_pay49, k0_pay50, k0_pay51]
  rfl

/-- The second pair of normalised query heads. -/
theorem pay36_at : k0_pay36 (F := Ideal) h (k0_pay35 w) g (ix2 y l) = paired (proj (fun k => h (ix2 y k)) (rowOf w)) (fun l => g (ix2 0 l)) l := by
  pointwise [k0_pay36, k0_pay35]
  simp only [lane64]
  rfl

/-- The second pair of turned and scaled query heads. -/
theorem pay40_at : k0_pay40 (F := Ideal) C S v (Scalar.select (Scalar.cmpi .eq 32#32 0#32) 1#32 32#32) k0_pay37 k0_pay38 k0_pay39 0#32 (ix2 y l)
      = turned (fun l => v (ix2 y l)) (fun l => C (ix2 y l)) (fun l => S (ix2 y l)) l * Ideal.ofBits FTy.f32 0x3E000000#32 := by
  refine Eq.trans ?_ (congrArg (· * _) (turned_of (fun l => v (ix2 y l)) (fun l => C (ix2 y l)) (fun l => S (ix2 y l)) l (Nat.mod_lt _ (by decide)) (Nat.mod_lt _ (by decide))))
  pointwise [k0_pay40, k0_pay37, k0_pay38, k0_pay39]
  rfl

/-- The first pair of query heads, from the projected row, the gains and the two sums of squares. -/
theorem pay34_gen (X : FVec Ideal S512x128 .f32) (g : FVec Ideal S1x128 .f32) (b : IVec S512x128 1) (R1 R2 : FVec Ideal S512x1 .f32) : k0_pay34 (F := Ideal) C S X g b R1 R2 (Scalar.ofBits .f32 0x3C800000#32) (ix2 y l)
      = turned (fun l => X (ix2 y l) * Scalar.select (b (ix2 y l)) (R2 (ix2 y 0)) (Ideal.rsqrt (R1 (ix2 y 0) * Ideal.ofBits FTy.f32 0x3C800000#32 + eps)) * g (ix2 0 l)) (fun l => C (ix2 y l)) (fun l => S (ix2 y l)) l * Ideal.ofBits FTy.f32 0x3E000000#32 := by
  refine Eq.trans ?_ (congrArg (· * _) (turned_of _ _ _ l (Nat.mod_lt _ (by decide)) (Nat.mod_lt _ (by decide))))
  pointwise [k0_pay34]
  rfl
/-- The projected row. -/
theorem pay28_at : k0_pay28 (F := Ideal) h w (ix2 y l) = proj (fun k => h (ix2 y k)) (rowOf w) l := by
  pointwise [k0_pay28]
  rfl
/-- The gains. -/
theorem pay29_at : k0_pay29 (F := Ideal) g (ix2 0 l) = g (ix2 0 l) := by
  pointwise [k0_pay29]
/-- The sum of squares of the second half. -/
theorem pay32_at : k0_pay32 (F := Ideal) h w (ix2 y 0) = highSum (proj (fun k => h (ix2 y k)) (rowOf w)) := by
  pointwise [k0_pay32, k0_pay31, k0_pay30]
  simp only [lane64, pay28_at]
  rfl
/-- The first half's, scaled, under the root. -/
theorem pay33_at : k0_pay33 (F := Ideal) h w (ix2 y 0) = Ideal.rsqrt (lowSum (proj (fun k => h (ix2 y k)) (rowOf w)) * Ideal.ofBits FTy.f32 0x3C800000#32 + eps) := by
  pointwise [k0_pay33, k0_pay31, k0_pay30]
  simp only [lane64, pay28_at]
  rfl
/-- The choice of the half. -/
theorem pay30_at {α : Type} (l : Fin 128) (a b : α) : Scalar.select (k0_pay30 (ix2 y l)) a b = if l.val < 64 then a else b := by
  refine Eq.trans ?_ (lane64 l a b)
  pointwise [k0_pay30]
/-- The first pair of query heads. -/
theorem pay34_at : k0_pay34 (F := Ideal) C S (k0_pay28 h w) (k0_pay29 g) k0_pay30 (k0_pay32 h w) (k0_pay33 h w) (Scalar.ofBits .f32 0x3C800000#32) (ix2 y l)
      = turned (paired (proj (fun k => h (ix2 y k)) (rowOf w)) (fun l => g (ix2 0 l))) (fun l => C (ix2 y l)) (fun l => S (ix2 y l)) l * Ideal.ofBits FTy.f32 0x3E000000#32 := by
  rw [pay34_gen]
  simp only [pay28_at, pay29_at, pay30_at, pay32_at, pay33_at]
  rfl

/-- The third pair of query heads, from the projected row, the gains and the two sums of squares. -/
theorem pay47_gen (X : FVec Ideal S512x128 .f32) (g : FVec Ideal S1x128 .f32) (b : IVec S512x128 1) (R1 R2 : FVec Ideal S512x1 .f32) : k0_pay47 (F := Ideal) C S X g b R1 R2 (ix2 y l)
      = turned (fun l => X (ix2 y l) * Scalar.select (b (ix2 y l)) (Ideal.rsqrt (R2 (ix2 y 0))) (Ideal.rsqrt (R1 (ix2 y 0) * Ideal.ofBits FTy.f32 0x3C800000#32 + eps)) * g (ix2 0 l)) (fun l => C (ix2 y l)) (fun l => S (ix2 y l)) l * Ideal.ofBits FTy.f32 0x3E000000#32 := by
  refine Eq.trans ?_ (congrArg (· * _) (turned_of _ _ _ l (Nat.mod_lt _ (by decide)) (Nat.mod_lt _ (by decide))))
  pointwise [k0_pay47]
  rfl
/-- The projected row. -/
theorem pay41_at : k0_pay41 (F := Ideal) h w (ix2 y l) = proj (fun k => h (ix2 y k)) (rowOf w) l := by
  pointwise [k0_pay41]
  rfl
/-- The gains. -/
theorem pay42_at : k0_pay42 (F := Ideal) g (ix2 0 l) = g (ix2 0 l) := by
  pointwise [k0_pay42]
/-- The sum of squares of the second half. -/
theorem pay45_at : k0_pay45 (F := Ideal) h w (ix2 y 0) = highSum (proj (fun k => h (ix2 y k)) (rowOf w)) := by
  pointwise [k0_pay45, k0_pay44, k0_pay43]
  simp only [lane64, pay41_at]
  rfl
/-- The first half's, scaled. -/
theorem pay46_at : k0_pay46 (F := Ideal) h w (ix2 y 0) = (lowSum (proj (fun k => h (ix2 y k)) (rowOf w)) * Ideal.ofBits FTy.f32 0x3C800000#32 + eps) := by
  pointwise [k0_pay46, k0_pay44, k0_pay43]
  simp only [lane64, pay41_at]
  rfl
/-- The choice of the half. -/
theorem pay43_at {α : Type} (l : Fin 128) (a b : α) : Scalar.select (k0_pay43 (ix2 y l)) a b = if l.val < 64 then a else b := by
  refine Eq.trans ?_ (lane64 l a b)
  pointwise [k0_pay43]
/-- The third pair of query heads. -/
theorem pay47_at : k0_pay47 (F := Ideal) C S (k0_pay41 h w) (k0_pay42 g) k0_pay43 (k0_pay45 h w) (k0_pay46 h w) (ix2 y l)
      = turned (paired (proj (fun k => h (ix2 y k)) (rowOf w)) (fun l => g (ix2 0 l))) (fun l => C (ix2 y l)) (fun l => S (ix2 y l)) l * Ideal.ofBits FTy.f32 0x3E000000#32 := by
  rw [pay47_gen]
  simp only [pay41_at, pay42_at, pay43_at, pay45_at, pay46_at]
  rfl

/-- The angle tables as loaded. -/
theorem pay26_at : k0_pay26 (F := Ideal) v (ix2 y l) = v (ix2 y l) := by
  pointwise [k0_pay26]
/-- The second table. -/
theorem pay27_at : k0_pay27 (F := Ideal) v (ix2 y l) = v (ix2 y l) := by
  pointwise [k0_pay27]
end

end Cert.Kernel3Ideal.Inp
-- ==== Proof.Reads3.lean ====
/- What the input projection kernel's windows hold at a grid point, read off the arguments by row and column. -/
module

public import proofs.«01_k».proof.Proof.Gen.Kernel3Ideal.Value
public import proofs.«01_k».proof.Proof.Spec3
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel3Ideal.Inp

open Cert.Kernel3Ideal Cert.Kernel3Ideal.Gen Cert.Kernel3Ideal.Value

open Spec2 Spec3

variable (m : (ℓ : Loc nD τ sig) → Buf (Elt Ideal) ℓ)

/-- The windows' blocks, in the number of the grid point. -/
theorem idx : ∀ t : Fin cfg0.N, win0_0.index t = ![t.val, 0] ∧ win0_1.index t = ![if t.val < 32 then t.val / 16 else 2, 0, 0] ∧ win0_2.index t = ![0, 0]
    ∧ win0_3.index t = ![if t.val < 32 then t.val % 16 else 16, 0] ∧ win0_4.index t = ![if t.val < 32 then t.val % 16 else 16, 0] ∧ win0_5.index t = ![0, 0] ∧ win0_6.index t = ![0, 0]
    ∧ win0_7.index t = ![0, 0] ∧ win0_8.index t = ![0, 0] ∧ win0_9.index t = ![0, 0] ∧ win0_10.index t = ![0, 0] ∧ t.val < 33 :=
  (by decide +kernel : ∀ t : Fin grid0.N, _)

/-- The output windows' blocks. -/
theorem odx : ∀ t : Fin cfg0.N, win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0] :=
  (by decide +kernel : ∀ t : Fin grid0.N, _)

variable (c : Dev nD) (t : Fin cfg0.N)

/-- There are 33 grid points. -/
theorem t_lt : t.val < 33 := (idx t).2.2.2.2.2.2.2.2.2.2.2

/-- Row `y` of a grid point's block is this row of the whole array. -/
def tok (t : Fin cfg0.N) (y : Fin 512) : Fin 16896 := ⟨t.val * 512 + y.val, by have := t_lt t; omega⟩

/-- The row of the angle tables at a grid point. -/
def ang (t : Fin cfg0.N) (y : Fin 512) : Fin 8704 := ⟨(if t.val < 32 then t.val % 16 else 16) * 512 + y.val, by split <;> omega⟩

/-- The tokens. -/
theorem rd0 (y : Fin 512) (l : Fin 1024) : iblk m c 0 t (ix2 y l) = m ((c : Thread nD τ).loc main_arg0) (ix2 (tok t y) l) := by
  obtain ⟨h0, h1, h2, h3, h4, h5, h6, h7, h8, h9, h10, ht⟩ := idx t
  unfold tok
  blk_ext [iblk, V, h0]
/-- The modulation row of a grid point, in the array's own layout. -/
theorem rd1' (l : Fin 6144) : iblk m c 1 t (ix3 0 0 l) = V m c main_v33 (ix3 ⟨if t.val < 32 then t.val / 16 else 2, by have := t_lt t; split <;> omega⟩ 0 l) := by
  obtain ⟨h0, h1, h2, h3, h4, h5, h6, h7, h8, h9, h10, ht⟩ := idx t
  blk_ext [iblk, h1]
/-- The weights of the projection. -/
theorem rd2' (k : Fin 1024) (j : Fin 2304) : iblk m c 2 t (ix2 k j) = V m c main_v34 (ix2 k j) := by
  obtain ⟨h0, h1, h2, h3, h4, h5, h6, h7, h8, h9, h10, ht⟩ := idx t
  blk_ext [iblk, h2]
/-- The cosines. -/
theorem rd3' (y : Fin 512) (l : Fin 128) : iblk m c 3 t (ix2 y l) = V m c main_v27 (ix2 (ang t y) l) := by
  obtain ⟨h0, h1, h2, h3, h4, h5, h6, h7, h8, h9, h10, ht⟩ := idx t
  unfold ang
  blk_ext [iblk, h3]
/-- The signed sines. -/
theorem rd4' (y : Fin 512) (l : Fin 128) : iblk m c 4 t (ix2 y l) = V m c main_v32 (ix2 (ang t y) l) := by
  obtain ⟨h0, h1, h2, h3, h4, h5, h6, h7, h8, h9, h10, ht⟩ := idx t
  unfold ang
  blk_ext [iblk, h4]
/-- The mixing weights. -/
theorem rd5' (p : Fin 128) (q : Fin 512) : iblk m c 5 t (ix2 p q) = V m c main_v2 (ix2 p q) := by
  obtain ⟨h0, h1, h2, h3, h4, h5, h6, h7, h8, h9, h10, ht⟩ := idx t
  blk_ext [iblk, h5]
/-- The mixing bias. -/
theorem rd6' (p : Fin 128) (q : Fin 256) : iblk m c 6 t (ix2 p q) = V m c main_v5 (ix2 p q) := by
  obtain ⟨h0, h1, h2, h3, h4, h5, h6, h7, h8, h9, h10, ht⟩ := idx t
  blk_ext [iblk, h6]
/-- The gains of the gated branch. -/
theorem rd7 (l : Fin 256) : iblk m c 7 t (ix2 0 l) = m ((c : Thread nD τ).loc main_arg7) (ix1 l) := by
  obtain ⟨h0, h1, h2, h3, h4, h5, h6, h7, h8, h9, h10, ht⟩ := idx t
  refine Eq.trans (b := V m c main_v35 (ix2 0 l)) ?_ ?_
  · blk_ext [iblk, h7]
  · entry_read
    pointwise
/-- The gains of the two query heads. -/
theorem rd8 (l : Fin 128) : iblk m c 8 t (ix2 0 l) = m ((c : Thread nD τ).loc main_arg8) (ix1 ⟨l.val % 64, by omega⟩) := by
  obtain ⟨h0, h1, h2, h3, h4, h5, h6, h7, h8, h9, h10, ht⟩ := idx t
  refine Eq.trans (b := V m c main_v9 (ix2 0 l)) ?_ ?_
  · blk_ext [iblk, h8]
  · entry_read
    pointwise
/-- The gains of the two key heads. -/
theorem rd9 (l : Fin 128) : iblk m c 9 t (ix2 0 l) = m ((c : Thread nD τ).loc main_arg9) (ix1 ⟨l.val % 64, by omega⟩) := by
  obtain ⟨h0, h1, h2, h3, h4, h5, h6, h7, h8, h9, h10, ht⟩ := idx t
  refine Eq.trans (b := V m c main_v13 (ix2 0 l)) ?_ ?_
  · blk_ext [iblk, h9]
  · entry_read
    pointwise
/-- The gains of the mixed branch. -/
theorem rd10 (l : Fin 256) : iblk m c 10 t (ix2 0 l) = m ((c : Thread nD τ).loc main_arg10) (ix1 l) := by
  obtain ⟨h0, h1, h2, h3, h4, h5, h6, h7, h8, h9, h10, ht⟩ := idx t
  refine Eq.trans (b := V m c main_v36 (ix2 0 l)) ?_ ?_
  · blk_ext [iblk, h10]
  · entry_read
    pointwise

/-- The host's preparation of the operands, read at an index: the modulation vectors. -/
theorem hv33 (b : Fin 3) (l : Fin 6144) : V m c main_v33 (ix3 b 0 l) = m ((c : Thread nD τ).loc main_arg1) (ix2 b l) := by
  entry_read
  pointwise
/-- The projection keeps its values. -/
theorem rd2 (k : Fin 1024) (j : Fin 2304) : iblk m c 2 t (ix2 k j) = m ((c : Thread nD τ).loc main_arg2) (ix2 k j) := by
  refine (rd2' m c t k j).trans ?_
  entry_read
  pointwise
/-- The mixing weights, the four groups side by side. -/
theorem rd5 (p : Fin 128) (g : Fin 4) (q : Fin 128) : iblk m c 5 t (ix2 p ⟨g.val * 128 + q.val, by omega⟩) = m ((c : Thread nD τ).loc main_arg5) (ix3 g p q) := by
  refine (rd5' m c t p _).trans ?_
  entry_read
  pointwise
  have h1 : (⟨(g.val * 128 + q.val) / 128, by omega⟩ : Fin 4) = g := Fin.ext (by show (g.val * 128 + q.val) / 128 = g.val; omega)
  have h2 : (⟨(g.val * 128 + q.val) % 128, by omega⟩ : Fin 128) = q := Fin.ext (by show (g.val * 128 + q.val) % 128 = q.val; omega)
  rw [h1, h2]
/-- The mixing bias, one per group and token. -/
theorem rd6 (p : Fin 128) (i : Fin 256) : iblk m c 6 t (ix2 p i) = m ((c : Thread nD τ).loc main_arg6) (ix2 ⟨i.val / 64, by omega⟩ p) := by
  refine (rd6' m c t p i).trans ?_
  entry_read
  pointwise

/-- The cosines as the call receives them. -/
abbrev cosA : (⟨3, ![8192, 2, 16]⟩ : Shape).Idx → EReal := m ((c : Thread nD τ).loc main_arg3)
/-- The sines as the call receives them. -/
abbrev sinA : (⟨3, ![8192, 2, 16]⟩ : Shape).Idx → EReal := m ((c : Thread nD τ).loc main_arg4)

/-- The table of cosines: those of the position, and one for a context token. -/
theorem hv27 (R : Fin 8704) (l : Fin 128) : (V m c main_v27 : FVec Ideal S8704x128 .f32) (ix2 R l)
    = if h : R.val < 8192 then cosA m c (ix3 ⟨R.val, h⟩ ⟨l.val % 64 / 32, by omega⟩ ⟨l.val % 64 % 16, by omega⟩) else 1 := by
  entry_read
  pointwise
/-- The literal signs. -/
def sgn (n : Fin 2) : EReal := Ideal.ofBits .f32 (if n = 0 then 0xBF800000#32 else 0x3F800000#32)

/-- The literal's table is those. -/
theorem lit_sgn : ∀ n : Fin 2, lit0 (S2.rowMajor (ix1 n)) = if n = 0 then 0xBF800000#32 else 0x3F800000#32
  | 0 => rfl
  | 1 => rfl

/-- The signed sines of a position. -/
theorem hv30 (p : Fin 8192) (l : Fin 128) : (V m c main_v30 : FVec Ideal S8192x128 .f32) (ix2 p l)
    = (sinA m c (ix3 p ⟨l.val % 64 / 32, by omega⟩ ⟨l.val % 64 % 16, by omega⟩) * sgn ⟨l.val % 64 / 16 % 2, by omega⟩ : EReal) := by
  entry_read
  pointwise
  exact congrArg (fun z => _ * Ideal.ofBits .f32 z) (lit_sgn _)

set_option maxHeartbeats 2000000 in
/-- The table is the positions' and then the context's. -/
theorem hv32' : (V m c main_v32 : FVec Ideal S8704x128 .f32) = concatenate S8704x128 0 [⟨S8192x128, (V m c main_v30 : FVec Ideal S8192x128 .f32)⟩, ⟨S512x128, (V m c main_v31 : FVec Ideal S512x128 .f32)⟩] concatenates_S8192x128_S512x128_S8704x128_d0 := by
  rfl

/-- The table of signed sines: those of the position, the first sixteen of thirty-two lanes negated, and zero for a
    context token. -/
theorem hv32 (R : Fin 8704) (l : Fin 128) : (V m c main_v32 : FVec Ideal S8704x128 .f32) (ix2 R l)
    = if h : R.val < 8192 then (sinA m c (ix3 ⟨R.val, h⟩ ⟨l.val % 64 / 32, by omega⟩ ⟨l.val % 64 % 16, by omega⟩) * sgn ⟨l.val % 64 / 16 % 2, by omega⟩ : EReal) else 0 := by
  rw [hv32']
  by_cases h : R.val < 8192
  · refine Eq.trans ?_ (dif_pos h).symm
    refine Eq.trans ?_ (hv30 m c ⟨R.val, h⟩ l)
    pointwise
    exact dif_pos h
  · refine Eq.trans ?_ (dif_neg h).symm
    have h31 : ∀ i, (V m c main_v31 : FVec Ideal S512x128 .f32) i = (Ideal.ofBits .f32 0x00000000#32 : EReal) := fun i => by
      entry_read
      pointwise
    pointwise
    exact (dif_neg h).trans ((h31 _).trans Ideal.ofBits_zero_f32)

end Cert.Kernel3Ideal.Inp
-- ==== Proof.Turn3.lean ====
/- The kernel's turned pairs of heads are the heads of `Spec3`. -/
module

public import proofs.«01_k».proof.Proof.Rope3
public import proofs.«01_k».proof.Proof.Reads3
public import Idealize.ShloMosaic.Lib.IdealHost

@[expose] public section

set_option maxRecDepth 16384

noncomputable section

open Idealize.ShloMosaic Idealize.ShloMosaic.TcCoe Idealize.SL.Sem

namespace Cert.Kernel3Ideal.Inp

open Cert.Kernel3Ideal Cert.Kernel3Ideal.Gen

open Spec2 Spec3

/-- The literal 64. -/
theorem lit64 : Ideal.ofBits .f32 0x42800000#32 = ((64 : ℝ) : EReal) := by
  simp [Ideal.ofBits, Ideal.ieee, -EReal.coe_mul]; norm_num

/-- The literal that multiplies the sums of squares is one over 64. -/
theorem litInv64 : Ideal.ofBits .f32 0x3C800000#32 = ((1 / 64 : ℝ) : EReal) := by
  simp [Ideal.ofBits, Ideal.ieee, -EReal.coe_mul]; norm_num

/-- The literal minus one. -/
theorem litNeg : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num

/-- The product with it is the division by 64. -/
theorem mul_lit (a : EReal) : a * Ideal.ofBits .f32 0x3C800000#32 = Ideal.div a (Ideal.ofBits .f32 0x42800000#32) := by
  rw [lit64, litInv64]
  unfold Ideal.div
  rw [if_neg (by norm_cast)]
  congr 1
  rw [← EReal.coe_inv]
  norm_num

/-- The sum over the first half of the lanes. -/
theorem lowSum_eq (X : Fin 128 → EReal) : lowSum X = ∑ j : Fin 64, X ⟨j.val, by omega⟩ * X ⟨j.val, by omega⟩ := by
  unfold lowSum
  rw [Fin.sum_univ_add (a := 64) (b := 64) (fun x : Fin 128 => if x.val < 64 then X x * X x else 0)]
  have h2 : ∑ i : Fin 64, (fun x : Fin 128 => if x.val < 64 then X x * X x else 0) (Fin.natAdd 64 i) = 0 :=
    Finset.sum_eq_zero fun i _ => if_neg (by show ¬ 64 + i.val < 64; omega)
  rw [h2, add_zero]
  exact Finset.sum_congr rfl fun i _ => if_pos i.isLt

/-- The sum over the second half. -/
theorem highSum_eq (X : Fin 128 → EReal) : highSum X = ∑ j : Fin 64, X ⟨64 + j.val, by omega⟩ * X ⟨64 + j.val, by omega⟩ := by
  unfold highSum
  rw [Fin.sum_univ_add (a := 64) (b := 64) (fun x : Fin 128 => if x.val < 64 then 0 else X x * X x)]
  have h2 : ∑ i : Fin 64, (fun x : Fin 128 => if x.val < 64 then 0 else X x * X x) (Fin.castAdd 64 i) = 0 :=
    Finset.sum_eq_zero fun i _ => if_pos i.isLt
  rw [h2, zero_add]
  exact Finset.sum_congr rfl fun i _ => if_neg (by show ¬ 64 + i.val < 64; omega)

/-- The normalised pair is the normalised head of the lane. -/
theorem paired_eq (X : Fin 128 → EReal) (g : Fin 64 → EReal) (l : Fin 128) :
    paired X (fun l => g ⟨l.val % 64, by omega⟩) l = rms64 (fun j => X ⟨l.val / 64 * 64 + j.val, by omega⟩) g ⟨l.val % 64, by omega⟩ := by
  unfold paired rms64
  have hl : (⟨l.val / 64 * 64 + l.val % 64, by omega⟩ : Fin 128) = l := Fin.ext (by show l.val / 64 * 64 + l.val % 64 = l.val; omega)
  by_cases h : l.val < 64
  · have e : ∀ j : Fin 64, (⟨l.val / 64 * 64 + j.val, by omega⟩ : Fin 128) = ⟨j.val, by omega⟩ := fun j => Fin.ext (by show l.val / 64 * 64 + j.val = j.val; omega)
    rw [if_pos h, lowSum_eq, mul_lit]
    dsimp only
    rw [hl]
    simp only [e]
  · have e : ∀ j : Fin 64, (⟨l.val / 64 * 64 + j.val, by omega⟩ : Fin 128) = ⟨64 + j.val, by omega⟩ := fun j => Fin.ext (by show l.val / 64 * 64 + j.val = 64 + j.val; omega)
    rw [if_neg h, highSum_eq, mul_lit]
    dsimp only
    rw [hl]
    simp only [e]

/-- The turned pair is the turned head of the lane. -/
theorem turned_eq (a : Fin 2 → Fin 64 → EReal) (cs sn : (⟨3, ![8192, 2, 16]⟩ : Shape).Idx → EReal) (r : Fin 16896) (C S : Fin 128 → EReal)
    (hC : ∀ l, C l = if r.val < 16384 then cs (ix3 ⟨r.val % 8192, by omega⟩ ⟨l.val % 64 / 32, by omega⟩ ⟨l.val % 64 % 16, by omega⟩) else 1)
    (hS : ∀ l, S l = if r.val < 16384 then sn (ix3 ⟨r.val % 8192, by omega⟩ ⟨l.val % 64 / 32, by omega⟩ ⟨l.val % 64 % 16, by omega⟩) * sgn ⟨l.val % 64 / 16 % 2, by omega⟩ else 0)
    (l : Fin 128) :
    turned (fun l => a ⟨l.val / 64, by omega⟩ ⟨l.val % 64, by omega⟩) C S l = turn (a ⟨l.val / 64, by omega⟩) cs sn r ⟨l.val % 64, by omega⟩ := by
  unfold turned turn
  rw [hC l, hS l]
  have hl := l.isLt
  by_cases h : r.val < 16384
  · rw [if_pos h, if_pos h]
    refine Eq.trans ?_ (if_pos h).symm
    by_cases h' : l.val % 32 < 16
    · rw [if_pos h']
      refine Eq.trans ?_ (if_pos (show l.val % 64 % 32 < 16 by omega)).symm
      have e : sgn ⟨l.val % 64 / 16 % 2, by omega⟩ = -1 := by
        unfold sgn
        rw [if_pos (Fin.ext (by show l.val % 64 / 16 % 2 = 0; omega)), litNeg]
      rw [e, mul_neg, mul_one, mul_neg, ← sub_eq_add_neg]
      refine congrArg (fun z => _ - z * _) (congrArg₂ a (Fin.ext ?_) (Fin.ext ?_))
      · show (l.val + 16) % 128 / 64 = l.val / 64; omega
      · show (l.val + 16) % 128 % 64 = (l.val % 64 + 16) % 64; omega
    · rw [if_neg h']
      refine Eq.trans ?_ (if_neg (show ¬ l.val % 64 % 32 < 16 by omega)).symm
      have e : sgn ⟨l.val % 64 / 16 % 2, by omega⟩ = 1 := by
        unfold sgn
        rw [if_neg (fun hh => absurd (congrArg Fin.val hh) (by show ¬ l.val % 64 / 16 % 2 = 0; omega)), Ideal.ofBits_one_f32]
      rw [e, mul_one]
      refine congrArg (fun z => _ + z * _) (congrArg₂ a (Fin.ext ?_) (Fin.ext ?_))
      · show (l.val + 112) % 128 / 64 = l.val / 64; omega
      · show (l.val + 112) % 128 % 64 = l.val % 64 - 16; omega
  · rw [if_neg h, if_neg h, mul_one, mul_zero, add_zero]
    exact (if_neg h).symm

section
variable (x : (⟨2, ![16896, 1024]⟩ : Shape).Idx → EReal) (md : (⟨2, ![3, 6144]⟩ : Shape).Idx → EReal) (w : (⟨2, ![1024, 2304]⟩ : Shape).Idx → EReal)
  (cs sn : (⟨3, ![8192, 2, 16]⟩ : Shape).Idx → EReal) (g : (⟨1, ![64]⟩ : Shape).Idx → EReal)

/-- A turned and normalised pair of 128 columns is the heads of these columns. -/
theorem head_eq (r : Fin 16896) (O : ℕ) (hO : O + 128 ≤ 2304) (C S : Fin 128 → EReal)
    (hC : ∀ l, C l = if r.val < 16384 then cs (ix3 ⟨r.val % 8192, by omega⟩ ⟨l.val % 64 / 32, by omega⟩ ⟨l.val % 64 % 16, by omega⟩) else 1)
    (hS : ∀ l, S l = if r.val < 16384 then sn (ix3 ⟨r.val % 8192, by omega⟩ ⟨l.val % 64 / 32, by omega⟩ ⟨l.val % 64 % 16, by omega⟩) * sgn ⟨l.val % 64 / 16 % 2, by omega⟩ else 0)
    (l : Fin 128) :
    turned (paired (fun l => pcol x md w r ⟨O + l.val, by omega⟩) (fun l => vecOf g ⟨l.val % 64, by omega⟩)) C S l
      = head x md w cs sn g r (O + l.val / 64 * 64) (by omega) ⟨l.val % 64, by omega⟩ := by
  have e : paired (fun l => pcol x md w r ⟨O + l.val, by omega⟩) (fun l => vecOf g ⟨l.val % 64, by omega⟩)
      = fun l => (fun (a : Fin 2) (k : Fin 64) => rms64 (fun j => pcol x md w r ⟨O + (a.val * 64 + j.val), by omega⟩) (vecOf g) k) ⟨l.val / 64, by omega⟩ ⟨l.val % 64, by omega⟩ :=
    funext fun l => paired_eq _ (vecOf g) l
  rw [e]
  refine (turned_eq (fun (a : Fin 2) (k : Fin 64) => rms64 (fun j => pcol x md w r ⟨O + (a.val * 64 + j.val), by omega⟩) (vecOf g) k) cs sn r C S hC hS l).trans ?_
  unfold head
  refine congrArg (fun z => turn (rms64 z (vecOf g)) cs sn r _) (funext fun j => congrArg (pcol x md w r) (Fin.ext ?_))
  show O + (l.val / 64 * 64 + j.val) = O + l.val / 64 * 64 + j.val
  omega
end

variable (m : (ℓ : Loc nD τ sig) → Buf (Elt Ideal) ℓ) (c : Dev nD) (t : Fin cfg0.N)

/-- The cosines a grid point reads are its tokens'. -/
theorem rd3 (y : Fin 512) (l : Fin 128) : iblk m c 3 t (ix2 y l)
    = if (tok t y).val < 16384 then cosA m c (ix3 ⟨(tok t y).val % 8192, by omega⟩ ⟨l.val % 64 / 32, by omega⟩ ⟨l.val % 64 % 16, by omega⟩) else (1 : EReal) := by
  refine (rd3' m c t y l).trans ((hv27 m c (ang t y) l).trans ?_)
  have ht := t_lt t
  have hy := y.isLt
  by_cases h : t.val < 32
  · have h1 : (ang t y).val < 8192 := by unfold ang; dsimp only; rw [if_pos h]; omega
    have h2 : (tok t y).val < 16384 := by unfold tok; dsimp only; omega
    refine (dif_pos h1).trans (Eq.trans ?_ (if_pos h2).symm)
    refine congrArg (fun z => cosA m c (ix3 z _ _)) (Fin.ext ?_)
    unfold ang tok; dsimp only; rw [if_pos h]; omega
  · have h1 : ¬ (ang t y).val < 8192 := by unfold ang; dsimp only; rw [if_neg h]; omega
    have h2 : ¬ (tok t y).val < 16384 := by unfold tok; dsimp only; omega
    exact (dif_neg h1).trans (if_neg h2).symm

/-- The signed sines a grid point reads are its tokens'. -/
theorem rd4 (y : Fin 512) (l : Fin 128) : iblk m c 4 t (ix2 y l)
    = if (tok t y).val < 16384 then sinA m c (ix3 ⟨(tok t y).val % 8192, by omega⟩ ⟨l.val % 64 / 32, by omega⟩ ⟨l.val % 64 % 16, by omega⟩) * sgn ⟨l.val % 64 / 16 % 2, by omega⟩ else (0 : EReal) := by
  refine (rd4' m c t y l).trans ((hv32 m c (ang t y) l).trans ?_)
  have ht := t_lt t
  have hy := y.isLt
  by_cases h : t.val < 32
  · have h1 : (ang t y).val < 8192 := by unfold ang; dsimp only; rw [if_pos h]; omega
    have h2 : (tok t y).val < 16384 := by unfold tok; dsimp only; omega
    refine (dif_pos h1).trans (Eq.trans ?_ (if_pos h2).symm)
    refine congrArg (fun z => sinA m c (ix3 z _ _) * _) (Fin.ext ?_)
    unfold ang tok; dsimp only; rw [if_pos h]; omega
  · have h1 : ¬ (ang t y).val < 8192 := by unfold ang; dsimp only; rw [if_neg h]; omega
    have h2 : ¬ (tok t y).val < 16384 := by unfold tok; dsimp only; omega
    exact (dif_neg h1).trans (if_neg h2).symm

end Cert.Kernel3Ideal.Inp
-- ==== Proof.Point3.lean ====
/- What the input projection kernel loads at a grid point, and the four outputs that are columns of the projection. -/
module

public import proofs.«01_k».proof.Proof.Reads3
public import proofs.«01_k».proof.Proof.Pay3

@[expose] public section

set_option maxRecDepth 16384

noncomputable section

open Idealize.ShloMosaic Idealize.ShloMosaic.TcCoe Idealize.SL.Sem
open Idealize.ShloMosaic.Pipeline (Dat)

namespace Cert.Kernel3Ideal.Inp

open Cert.Kernel3Ideal Cert.Kernel3Ideal.Gen Cert.Kernel3Ideal.Value

open Spec2 Spec3

variable (m : (ℓ : Loc nD τ sig) → Buf (Elt Ideal) ℓ) (c : Dev nD) (t : Fin cfg0.N)

/-- The tokens as the call receives them. -/
abbrev xA : (⟨2, ![16896, 1024]⟩ : Shape).Idx → EReal := m ((c : Thread nD τ).loc main_arg0)
/-- The modulation vectors. -/
abbrev mdA : (⟨2, ![3, 6144]⟩ : Shape).Idx → EReal := m ((c : Thread nD τ).loc main_arg1)
/-- The weights of the projection. -/
abbrev wA : (⟨2, ![1024, 2304]⟩ : Shape).Idx → EReal := m ((c : Thread nD τ).loc main_arg2)
/-- The mixing weights. -/
abbrev wsA : (⟨3, ![4, 128, 128]⟩ : Shape).Idx → EReal := m ((c : Thread nD τ).loc main_arg5)
/-- The mixing bias. -/
abbrev bsA : (⟨2, ![4, 128]⟩ : Shape).Idx → EReal := m ((c : Thread nD τ).loc main_arg6)
/-- The gains of the gated branch. -/
abbrev gsA : (⟨1, ![256]⟩ : Shape).Idx → EReal := m ((c : Thread nD τ).loc main_arg7)
/-- The gains of the query heads. -/
abbrev gqA : (⟨1, ![64]⟩ : Shape).Idx → EReal := m ((c : Thread nD τ).loc main_arg8)
/-- The gains of the key heads. -/
abbrev gkA : (⟨1, ![64]⟩ : Shape).Idx → EReal := m ((c : Thread nD τ).loc main_arg9)
/-- The gains of the mixed branch. -/
abbrev goA : (⟨1, ![256]⟩ : Shape).Idx → EReal := m ((c : Thread nD τ).loc main_arg10)

/-- The modulation row a grid point reads is its tokens' own. -/
theorem rd1 (y : Fin 512) (l : Fin 6144) : iblk m c 1 t (ix3 0 0 l) = mdA m c (ix2 (modRow (tok t y)) l) := by
  refine (rd1' m c t l).trans ((hv33 m c _ l).trans ?_)
  refine congrArg (fun z => mdA m c (ix2 z l)) ?_
  have ht := t_lt t
  have hy := y.isLt
  refine Fin.ext ?_
  unfold modRow tok
  dsimp only
  split_ifs <;> first | rfl | (exfalso; omega) | (show t.val / 16 = _; simp only [Fin.val_zero, Fin.val_one]; omega)

/-- A modulation vector, as the kernel loads it. -/
theorem ld_mod (n : Fin 6) (h : ∀ a : Fin 3, (![0, 0, n.val * 1024] : Fin 3 → ℕ) a + (![1, 1, 1024] : Fin 3 → ℕ) a ≤ S1x1x6144.size a) (y : Fin 512) (i : Fin 1024) :
    View.ld (iblk m c 1 t) (Rect.unit (s := S1x1x6144) ![0, 0, n.val * 1024] ![1, 1, 1024] h) (ix3 0 0 i) = modVec (mdA m c) n (tok t y) i := by
  refine (View.ld_unit_apply_of (S := S1x1x6144) (iblk m c 1 t) ![0, 0, n.val * 1024] ![1, 1, 1024] h (ix3 0 0 i) (ix3 0 0 ⟨n.val * 1024 + i.val, by omega⟩) fun a => ?_).trans (rd1 m c t y _)
  fin_cases a <;> rfl

/-- The tokens, as the kernel loads them. -/
theorem ld_x (y : Fin 512) (i : Fin 1024) : View.ld (iblk m c 0 t) r0_2 (ix2 y i) = xA m c (ix2 (tok t y) i) := by
  refine (View.ld_unit_apply_of (S := S512x1024) (iblk m c 0 t) ![0, 0] ![512, 1024] _ (ix2 y i) (ix2 y i) fun a => ?_).trans (rd0 m c t y i)
  fin_cases a <;> exact (Nat.zero_add _).symm

/-- Columns of the projection's weights, as the kernel loads them. -/
theorem ld_w (o n : ℕ) (h : ∀ a : Fin 2, (![0, o] : Fin 2 → ℕ) a + (![1024, n] : Fin 2 → ℕ) a ≤ S1024x2304.size a) (k : Fin 1024) (j : Fin n) (hj : o + j.val < 2304) :
    View.ld (iblk m c 2 t) (Rect.unit (s := S1024x2304) ![0, o] ![1024, n] h) (ix2 k j) = wA m c (ix2 k ⟨o + j.val, hj⟩) := by
  refine (View.ld_unit_apply_of (S := S1024x2304) (iblk m c 2 t) ![0, o] ![1024, n] h (ix2 k j) (ix2 k ⟨o + j.val, hj⟩) fun a => ?_).trans (rd2 m c t k _)
  fin_cases a
  · exact (Nat.zero_add _).symm
  · rfl

/-- The modulated block. -/
abbrev Hb := k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The modulated rows of a grid point, as they are computed for its first product. -/
theorem H0_at (y : Fin 512) (i : Fin 1024) : k0_pay3 (F := Ideal) (View.ld (iblk m c 1 t) r0_0) (View.ld (iblk m c 1 t) r0_1) (View.ld (iblk m c 0 t) r0_2) (ix2 y i) = hrow (xA m c) (mdA m c) (tok t y) i := by
  refine (pay3_at _ _ _ y i).trans ?_
  unfold hrow
  have e1 : (fun i => View.ld (iblk m c 0 t) r0_2 (ix2 y i)) = rowOf (xA m c) (tok t y) := funext fun i => ld_x m c t y i
  have e2 : (fun i => View.ld (iblk m c 1 t) r0_1 (ix3 0 0 i)) = modVec (mdA m c) 1 (tok t y) := funext fun i => ld_mod m c t 1 _ y i
  have e3 : (fun i => View.ld (iblk m c 1 t) r0_0 (ix3 0 0 i)) = modVec (mdA m c) 0 (tok t y) := funext fun i => ld_mod m c t 0 _ y i
  exact congrFun (congr (congrArg₂ modulated e1 e2) e3) i

/-- The modulated rows of a grid point. -/
theorem H_at (y : Fin 512) (i : Fin 1024) : Hb m c t (ix2 y i) = hrow (xA m c) (mdA m c) (tok t y) i := by
  unfold Hb k0_pay52
  exact H0_at m c t y i

/-- A product of a modulated row with loaded columns is the row's columns of the projection. -/
theorem proj_w (h : Fin 1024 → EReal) (y : Fin 512) (hh : ∀ k, h k = hrow (xA m c) (mdA m c) (tok t y) k) (o n : ℕ)
    (hi : ∀ a : Fin 2, (![0, o] : Fin 2 → ℕ) a + (![1024, n] : Fin 2 → ℕ) a ≤ S1024x2304.size a) (j : Fin n) (hj : o + j.val < 2304) :
    proj h (fun k j => View.ld (iblk m c 2 t) (Rect.unit (s := S1024x2304) ![0, o] ![1024, n] hi) (ix2 k j)) j = pcol (xA m c) (mdA m c) (wA m c) (tok t y) ⟨o + j.val, hj⟩ := by
  unfold pcol proj
  exact Finset.sum_congr rfl fun k _ => congrArg₂ (· * ·) (hh k) (ld_w m c t o n hi k j hj)

/-- The scaled queries of the neighbourhood attention a grid point leaves. -/
theorem pt11 (y : Fin 512) (i : Fin 384) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y i) = pcol (xA m c) (mdA m c) (wA m c) (tok t y) ⟨i.val, by omega⟩ * Ideal.ofBits FTy.f32 0x3E000000#32 := by
  unfold out0_11
  refine (congrFun (View.canon_cons_unit_lit _ _ [] (by decide)) _).trans ((pay4_at _ _ _ _ y i).trans ?_)
  refine congrArg (· * _) ((proj_w m c t _ y (fun k => H0_at m c t y k) 0 384 _ i (by omega)).trans ?_)
  exact congrArg (pcol (xA m c) (mdA m c) (wA m c) (tok t y)) (Fin.ext (Nat.zero_add _))
/-- Its keys. -/
theorem pt12 (y : Fin 512) (i : Fin 384) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y i) = pcol (xA m c) (mdA m c) (wA m c) (tok t y) ⟨384 + i.val, by omega⟩ := by
  unfold out0_12
  exact (congrFun (View.canon_cons_unit_lit _ _ [] (by decide)) _).trans ((pay5_at _ _ y i).trans (proj_w m c t _ y (fun k => H_at m c t y k) 384 384 _ i (by omega)))
/-- Its values. -/
theorem pt13 (y : Fin 512) (i : Fin 384) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y i) = pcol (xA m c) (mdA m c) (wA m c) (tok t y) ⟨768 + i.val, by omega⟩ := by
  unfold out0_13
  exact (congrFun (View.canon_cons_unit_lit _ _ [] (by decide)) _).trans ((pay6_at _ _ y i).trans (proj_w m c t _ y (fun k => H_at m c t y k) 768 384 _ i (by omega)))
/-- The values of the grouped attention. -/
theorem pt17 (y : Fin 512) (i : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y i) = pcol (xA m c) (mdA m c) (wA m c) (tok t y) ⟨2176 + i.val, by omega⟩ := by
  unfold out0_17
  exact (congrFun (View.canon_cons_unit_lit _ _ [] (by decide)) _).trans ((pay2_at _ _ y i).trans (proj_w m c t _ y (fun k => H_at m c t y k) 2176 128 _ i (by omega)))

end Cert.Kernel3Ideal.Inp
-- ==== Proof.Heads3.lean ====
/- The turned heads a grid point of the input projection kernel leaves. -/
module

public import proofs.«01_k».proof.Proof.Turn3
public import proofs.«01_k».proof.Proof.Point3

@[expose] public section

set_option maxRecDepth 16384

noncomputable section

open Idealize.ShloMosaic Idealize.ShloMosaic.TcCoe Idealize.SL.Sem
open Idealize.ShloMosaic.Pipeline (Dat)

namespace Cert.Kernel3Ideal.Inp

open Cert.Kernel3Ideal Cert.Kernel3Ideal.Gen Cert.Kernel3Ideal.Value

open Spec2 Spec3

variable (m : (ℓ : Loc nD τ sig) → Buf (Elt Ideal) ℓ) (c : Dev nD) (t : Fin cfg0.N)

/-- The gains of the query heads, as the kernel loads them. -/
theorem ld_gq (l : Fin 128) : View.ld (iblk m c 8 t) r0_18 (ix2 0 l) = vecOf (gqA m c) ⟨l.val % 64, by omega⟩ := by
  refine (View.ld_unit_apply_of (S := S1x128) (iblk m c 8 t) ![0, 0] ![1, 128] _ (ix2 0 l) (ix2 0 l) fun a => ?_).trans (rd8 m c t l)
  fin_cases a <;> exact (Nat.zero_add _).symm
/-- The gains of the key heads. -/
theorem ld_gk (l : Fin 128) : View.ld (iblk m c 9 t) r0_18 (ix2 0 l) = vecOf (gkA m c) ⟨l.val % 64, by omega⟩ := by
  refine (View.ld_unit_apply_of (S := S1x128) (iblk m c 9 t) ![0, 0] ![1, 128] _ (ix2 0 l) (ix2 0 l) fun a => ?_).trans (rd9 m c t l)
  fin_cases a <;> exact (Nat.zero_add _).symm

/-- The table of cosines of a grid point. -/
abbrev Cb := k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- The table of signed sines. -/
abbrev Sb := k0_pay60 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- It holds the cosines of the token. -/
theorem C_at (y : Fin 512) (l : Fin 128) : Cb m c t (ix2 y l)
    = if (tok t y).val < 16384 then cosA m c (ix3 ⟨(tok t y).val % 8192, by omega⟩ ⟨l.val % 64 / 32, by omega⟩ ⟨l.val % 64 % 16, by omega⟩) else (1 : EReal) := by
  unfold Cb k0_pay59
  refine (pay26_at _ y l).trans ?_
  refine (View.ld_unit_apply_of (S := S512x128) (iblk m c 3 t) ![0, 0] ![512, 128] _ (ix2 y l) (ix2 y l) fun a => ?_).trans (rd3 m c t y l)
  fin_cases a <;> exact (Nat.zero_add _).symm
/-- It holds the signed sines of the token. -/
theorem S_at (y : Fin 512) (l : Fin 128) : Sb m c t (ix2 y l)
    = if (tok t y).val < 16384 then sinA m c (ix3 ⟨(tok t y).val % 8192, by omega⟩ ⟨l.val % 64 / 32, by omega⟩ ⟨l.val % 64 % 16, by omega⟩) * sgn ⟨l.val % 64 / 16 % 2, by omega⟩ else (0 : EReal) := by
  unfold Sb k0_pay60
  refine (pay27_at _ y l).trans ?_
  refine (View.ld_unit_apply_of (S := S512x128) (iblk m c 4 t) ![0, 0] ![512, 128] _ (ix2 y l) (ix2 y l) fun a => ?_).trans (rd4 m c t y l)
  fin_cases a <;> exact (Nat.zero_add _).symm

/-- A pair of heads, from the loaded columns that start at `O`. -/
theorem pair_eq (g : (⟨1, ![64]⟩ : Shape).Idx → EReal) (G : Fin 128 → EReal) (hG : ∀ l, G l = vecOf g ⟨l.val % 64, by omega⟩) (y : Fin 512) (O : ℕ) (hO : O + 128 ≤ 2304)
    (hi : ∀ a : Fin 2, (![0, O] : Fin 2 → ℕ) a + (![1024, 128] : Fin 2 → ℕ) a ≤ S1024x2304.size a) (l : Fin 128) :
    turned (paired (proj (fun k => Hb m c t (ix2 y k)) (fun k j => View.ld (iblk m c 2 t) (Rect.unit (s := S1024x2304) ![0, O] ![1024, 128] hi) (ix2 k j))) G)
        (fun l => Cb m c t (ix2 y l)) (fun l => Sb m c t (ix2 y l)) l
      = head (xA m c) (mdA m c) (wA m c) (cosA m c) (sinA m c) g (tok t y) (O + l.val / 64 * 64) (by omega) ⟨l.val % 64, by omega⟩ := by
  have e1 : proj (fun k => Hb m c t (ix2 y k)) (fun k j => View.ld (iblk m c 2 t) (Rect.unit (s := S1024x2304) ![0, O] ![1024, 128] hi) (ix2 k j))
      = fun l : Fin 128 => pcol (xA m c) (mdA m c) (wA m c) (tok t y) ⟨O + l.val, by omega⟩ := funext fun l =>
    proj_w m c t _ y (fun k => H_at m c t y k) O 128 hi l (by omega)
  have e2 : G = fun l => vecOf g ⟨l.val % 64, by omega⟩ := funext hG
  rw [e1, e2]
  exact head_eq (xA m c) (mdA m c) (wA m c) (cosA m c) (sinA m c) g (tok t y) O hO _ _ (fun l => C_at m c t y l) (fun l => S_at m c t y l) l

/-- The keys of the grouped attention a grid point leaves. -/
theorem pt16 (y : Fin 512) (l : Fin 128) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y l) = resK (xA m c) (mdA m c) (wA m c) (cosA m c) (sinA m c) (gkA m c) (tok t y) l := by
  unfold out0_16
  refine (congrFun (View.canon_cons_unit_lit _ _ [] (by decide)) _).trans ((pay1_at _ _ _ y l).trans ?_)
  refine Eq.trans ?_ (pair_eq m c t (gkA m c) _ (fun l => ld_gk m c t l) y 2048 (by decide) inb_S1024x2304_S1024x128_0_2048 l)
  exact congrArg (fun z => turned z _ _ l) (funext fun l => pay48_at _ _ _ y l)

/-- A head's place. -/
theorem head_congr (g : (⟨1, ![64]⟩ : Shape).Idx → EReal) (r : Fin 16896) (o o' : ℕ) (ho : o + 64 ≤ 2304) (ho' : o' + 64 ≤ 2304) (j j' : Fin 64) (h : o = o') (hj : j = j') :
    head (xA m c) (mdA m c) (wA m c) (cosA m c) (sinA m c) g r o ho j = head (xA m c) (mdA m c) (wA m c) (cosA m c) (sinA m c) g r o' ho' j' := by
  subst h hj; rfl

/-- A scaled pair of the queries is at its lanes of the output. -/
theorem resQ_of (r : Fin 16896) (b : ℕ) (hb : b < 3) (l : Fin 128) (L : Fin 384) (hL : L.val = 128 * b + l.val) :
    head (xA m c) (mdA m c) (wA m c) (cosA m c) (sinA m c) (gqA m c) r (1664 + 128 * b + l.val / 64 * 64) (by omega) ⟨l.val % 64, by omega⟩ * Ideal.ofBits FTy.f32 0x3E000000#32
      = resQ (xA m c) (mdA m c) (wA m c) (cosA m c) (sinA m c) (gqA m c) r L := by
  unfold resQ
  exact congrArg (· * _) (head_congr m c (gqA m c) r _ _ _ _ _ _ (by omega) (Fin.ext (by show l.val % 64 = L.val % 64; omega)))

/-- The queries of the grouped attention a grid point leaves. -/
theorem pt15 (y : Fin 512) (L : Fin 384) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y L) = resQ (xA m c) (mdA m c) (wA m c) (cosA m c) (sinA m c) (gqA m c) (tok t y) L := by
  unfold out0_15
  canon_tiles x h
  · obtain ⟨a, b, rfl⟩ : ∃ (a : Fin 512) (b : Fin 128), x = ix2 a b := ⟨x 0, x 1, eq_ix2 x⟩
    have ha : a = y := Fin.ext h0.symm
    subst ha
    refine Eq.trans ?_ (resQ_of m c (tok t a) 2 (by decide) b L h1)
    refine (pay47_at _ _ _ _ _ a b).trans (congrArg (· * _) ?_)
    exact pair_eq m c t (gqA m c) _ (fun l => ld_gq m c t l) a 1920 (by decide) inb_S1024x2304_S1024x128_0_1920 b
  · obtain ⟨a, b, rfl⟩ : ∃ (a : Fin 512) (b : Fin 128), x = ix2 a b := ⟨x 0, x 1, eq_ix2 x⟩
    have ha : a = y := Fin.ext h0.symm
    subst ha
    refine Eq.trans ?_ (resQ_of m c (tok t a) 1 (by decide) b L h1)
    refine (pay40_at _ _ _ a b).trans (congrArg (· * _) ?_)
    refine Eq.trans ?_ (pair_eq m c t (gqA m c) _ (fun l => ld_gq m c t l) a 1792 (by decide) inb_S1024x2304_S1024x128_0_1792 b)
    exact congrArg (fun z => turned z _ _ b) (funext fun l => pay36_at _ _ _ a l)
  · obtain ⟨a, b, rfl⟩ : ∃ (a : Fin 512) (b : Fin 128), x = ix2 a b := ⟨x 0, x 1, eq_ix2 x⟩
    have ha : a = y := Fin.ext h0.symm
    subst ha
    refine Eq.trans ?_ (resQ_of m c (tok t a) 0 (by decide) b L (by simpa using h1))
    refine (pay34_at _ _ _ _ _ a b).trans (congrArg (· * _) ?_)
    exact pair_eq m c t (gqA m c) _ (fun l => ld_gq m c t l) a 1664 (by decide) inb_S1024x2304_S1024x128_0_1664 b

end Cert.Kernel3Ideal.Inp
-- ==== Proof.Mix3.lean ====
/- The mixing of a chunk of 128 tokens as the input projection kernel computes it: one product with the four groups'
   lanes kept apart by zeros, read at an index. -/
module

public import proofs.«01_k».proof.Proof.Pay3

@[expose] public section

set_option maxRecDepth 16384

noncomputable section

open Idealize.ShloMosaic Idealize.ShloMosaic.TcCoe Idealize.SL.Sem

namespace Cert.Kernel3Ideal.Inp

open Cert.Kernel3Ideal Cert.Kernel3Ideal.Gen

open Spec2 Spec3

/-- The number of the group of a lane. -/
theorem group_at (p : Fin 128) (i : Fin 256) : k0_pay15 k0_pay12 k0_pay13 k0_pay14 (ix2 p i) = BitVec.ofNat 32 (i.val / 64) := by
  pointwise [k0_pay15, k0_pay12, k0_pay13, k0_pay14]
  revert i
  decide +kernel

/-- A lane of the four stacked copies of a chunk: a copy keeps the lanes of its own group and is zero elsewhere. -/
def stacked (v : Fin 128 → EReal) (k : BitVec 32) (x : Fin 512) : EReal :=
  if h : x.val < 128 then Scalar.select (IntOp.cmpi CmpIPredicate.eq k 0#32) (v ⟨x.val, h⟩) 0
  else if h : x.val - 128 < 128 then Scalar.select (IntOp.cmpi CmpIPredicate.eq k 1#32) (v ⟨x.val - 128, h⟩) 0
  else if h : x.val - 128 - 128 < 128 then Scalar.select (IntOp.cmpi CmpIPredicate.eq k 2#32) (v ⟨x.val - 128 - 128, h⟩) 0
  else Scalar.select (IntOp.cmpi CmpIPredicate.eq k 3#32) (v ⟨x.val - 128 - 128 - 128, by omega⟩) 0

/-- The copies in the number of the group and of the token. -/
theorem stacked_at (v : Fin 128 → EReal) (g a : Fin 4) (q : Fin 128) :
    stacked v (BitVec.ofNat 32 g.val) ⟨q.val + 128 * a.val, by omega⟩ = if a = g then v q else 0 := by
  have hq := q.isLt
  have e : ∀ (n : ℕ) (h : n < 128), n = q.val → v ⟨n, h⟩ = v q := fun n h hn => congrArg v (Fin.ext hn)
  unfold stacked
  fin_cases a
  · rw [dif_pos (by show q.val + 128 * 0 < 128; omega), e _ _ (by show q.val + 128 * 0 = q.val; omega)]
    fin_cases g <;> rfl
  · rw [dif_neg (by show ¬ q.val + 128 * 1 < 128; omega), dif_pos (by show q.val + 128 * 1 - 128 < 128; omega), e _ _ (by show q.val + 128 * 1 - 128 = q.val; omega)]
    fin_cases g <;> rfl
  · rw [dif_neg (by show ¬ q.val + 128 * 2 < 128; omega), dif_neg (by show ¬ q.val + 128 * 2 - 128 < 128; omega), dif_pos (by show q.val + 128 * 2 - 128 - 128 < 128; omega), e _ _ (by show q.val + 128 * 2 - 128 - 128 = q.val; omega)]
    fin_cases g <;> rfl
  · rw [dif_neg (by show ¬ q.val + 128 * 3 < 128; omega), dif_neg (by show ¬ q.val + 128 * 3 - 128 < 128; omega), dif_neg (by show ¬ q.val + 128 * 3 - 128 - 128 < 128; omega), e _ _ (by show q.val + 128 * 3 - 128 - 128 - 128 = q.val; omega)]
    fin_cases g <;> rfl

/-- The product with the stacked copies is the product of the lane's own group. -/
theorem sum_stacked (w : Fin 512 → EReal) (v : Fin 128 → EReal) (g : Fin 4) :
    ∑ x : Fin 512, w x * stacked v (BitVec.ofNat 32 g.val) x = ∑ q : Fin 128, v q * w ⟨g.val * 128 + q.val, by omega⟩ := by
  have h1 : ∑ x : Fin 512, w x * stacked v (BitVec.ofNat 32 g.val) x
      = ∑ p : Fin 4 × Fin 128, w ⟨p.2.val + 128 * p.1.val, by omega⟩ * stacked v (BitVec.ofNat 32 g.val) ⟨p.2.val + 128 * p.1.val, by omega⟩ :=
    (Fintype.sum_equiv (finProdFinEquiv (m := 4) (n := 128)) _ _ fun p => rfl).symm
  rw [h1, Fintype.sum_prod_type, Finset.sum_eq_single g]
  · refine Finset.sum_congr rfl fun q _ => ?_
    dsimp only
    rw [stacked_at, if_pos rfl, mul_comm]
    exact congrArg (fun z => v q * w z) (Fin.ext (by show q.val + 128 * g.val = g.val * 128 + q.val; omega))
  · intro a _ ha
    refine Finset.sum_eq_zero fun q _ => ?_
    dsimp only
    rw [stacked_at, if_neg ha, mul_zero]
  · intro h; exact absurd (Finset.mem_univ g) h

section
variable (U : FVec Ideal S512x256 .f32) (V : FVec Ideal S512x256 .bf16) (W : FVec Ideal S128x512 .bf16) (B : FVec Ideal S128x256 .f32) (g : FVec Ideal S1x256 .f32)

/-- The gated mixing of a row of the chunk that starts at row `o`, as the kernel sums it. -/
def raw (o : ℕ) (ho : o + 128 ≤ 512) (p : Fin 128) (i : Fin 256) : EReal :=
  U (ix2 ⟨o + p.val, by omega⟩ i) * ((∑ x : Fin 512, W (ix2 p x) * stacked (fun q => V (ix2 ⟨o + q.val, by omega⟩ i)) (BitVec.ofNat 32 (i.val / 64)) x) + B (ix2 p i))

/-- The same over the 128 tokens of the chunk. -/
theorem raw_eq (o : ℕ) (ho : o + 128 ≤ 512) (p : Fin 128) (i : Fin 256) :
    raw U V W B o ho p i = U (ix2 ⟨o + p.val, by omega⟩ i) * ((∑ q : Fin 128, V (ix2 ⟨o + q.val, by omega⟩ i) * W (ix2 p ⟨i.val / 64 * 128 + q.val, by omega⟩)) + B (ix2 p i)) := by
  unfold raw
  rw [sum_stacked (fun x => W (ix2 p x)) (fun q => V (ix2 ⟨o + q.val, by omega⟩ i)) ⟨i.val / 64, by omega⟩]

/-- The rows of the chunk at row 0. -/
theorem chunk0_at (p : Fin 128) (i : Fin 256) : k0_pay17 (F := Ideal) (k0_pay16 U V k0_pay12 k0_pay13 k0_pay14 W B) g (ix2 p i)
    = rms256 (raw U V W B 0 (by decide) p) i * g (ix2 0 i) := by
  have hG := group_at

  pointwise [k0_pay17, k0_pay16]
  simp only [hG]
  unfold rms256 mean256 raw
  simp only [Nat.zero_add]
  rfl

/-- The rows of the chunk at row 128. -/
theorem chunk128_at (p : Fin 128) (i : Fin 256) : k0_pay19 (F := Ideal) (k0_pay18 U V (k0_pay15 k0_pay12 k0_pay13 k0_pay14) W B) g (ix2 p i)
    = rms256 (raw U V W B 128 (by decide) p) i * g (ix2 0 i) := by
  have hG := group_at
  generalize hk : k0_pay15 k0_pay12 k0_pay13 k0_pay14 = G at hG ⊢
  pointwise [k0_pay19, k0_pay18]
  simp only [hG]
  unfold rms256 mean256 raw

  rfl

/-- The rows of the chunk at row 256. -/
theorem chunk256_at (p : Fin 128) (i : Fin 256) : k0_pay22 (F := Ideal) (k0_pay20 U V (k0_pay15 k0_pay12 k0_pay13 k0_pay14) W B) (k0_pay21 U V (k0_pay15 k0_pay12 k0_pay13 k0_pay14) W B) g (ix2 p i)
    = rms256 (raw U V W B 256 (by decide) p) i * g (ix2 0 i) := by
  have hG := group_at
  generalize hk : k0_pay15 k0_pay12 k0_pay13 k0_pay14 = G at hG ⊢
  pointwise [k0_pay22, k0_pay21, k0_pay20]
  simp only [hG]
  unfold rms256 mean256 raw

  rfl

/-- The rows of the chunk at row 384. -/
theorem chunk384_at (p : Fin 128) (i : Fin 256) : k0_pay25 (F := Ideal) (k0_pay23 U V (k0_pay15 k0_pay12 k0_pay13 k0_pay14) W B) (k0_pay24 U V (k0_pay15 k0_pay12 k0_pay13 k0_pay14) W B) g (ix2 p i)
    = rms256 (raw U V W B 384 (by decide) p) i * g (ix2 0 i) := by
  have hG := group_at
  generalize hk : k0_pay15 k0_pay12 k0_pay13 k0_pay14 = G at hG ⊢
  pointwise [k0_pay25, k0_pay24, k0_pay23]
  simp only [hG]
  unfold rms256 mean256 raw

  rfl

end

end Cert.Kernel3Ideal.Inp
-- ==== Proof.Mixed3.lean ====
/- The gated mixing a grid point of the input projection kernel leaves, chunk by chunk. -/
module

public import proofs.«01_k».proof.Proof.Mix3
public import proofs.«01_k».proof.Proof.Point3

@[expose] public section

set_option maxRecDepth 16384

noncomputable section

open Idealize.ShloMosaic Idealize.ShloMosaic.TcCoe Idealize.SL.Sem
open Idealize.ShloMosaic.Pipeline (Dat)

namespace Cert.Kernel3Ideal.Inp

open Cert.Kernel3Ideal Cert.Kernel3Ideal.Gen Cert.Kernel3Ideal.Value

open Spec2 Spec3

variable (m : (ℓ : Loc nD τ sig) → Buf (Elt Ideal) ℓ) (c : Dev nD) (t : Fin cfg0.N)

/-- The gates of a grid point. -/
abbrev Ub := k0_pay53 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- What its tokens give to the mixing. -/
abbrev Gb := k0_pay54 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The gates are the tokens'. -/
theorem U_at (y : Fin 512) (i : Fin 256) : Ub m c t (ix2 y i) = gate (xA m c) (mdA m c) (wA m c) (tok t y) i := by
  unfold Ub k0_pay53 gate
  exact (pay7_at _ _ y i).trans (congrArg gelu (proj_w m c t _ y (fun k => H_at m c t y k) 1152 256 _ i (by omega)))

/-- The gains of the gated branch, as the kernel loads them. -/
theorem ld_gs (l : Fin 256) : View.ld (iblk m c 7 t) r0_9 (ix2 0 l) = vecOf (gsA m c) l := by
  refine (View.ld_unit_apply_of (S := S1x256) (iblk m c 7 t) ![0, 0] ![1, 256] _ (ix2 0 l) (ix2 0 l) fun a => ?_).trans (rd7 m c t l)
  fin_cases a <;> exact (Nat.zero_add _).symm
/-- The gains of the mixed branch. -/
theorem ld_go (l : Fin 256) : View.ld (iblk m c 10 t) r0_9 (ix2 0 l) = vecOf (goA m c) l := by
  refine (View.ld_unit_apply_of (S := S1x256) (iblk m c 10 t) ![0, 0] ![1, 256] _ (ix2 0 l) (ix2 0 l) fun a => ?_).trans (rd10 m c t l)
  fin_cases a <;> exact (Nat.zero_add _).symm
/-- The mixing weights. -/
theorem ld_ws (p : Fin 128) (g : Fin 4) (q : Fin 128) : View.ld (iblk m c 5 t) r0_10 (ix2 p ⟨g.val * 128 + q.val, by omega⟩) = wsA m c (ix3 g p q) := by
  refine (View.ld_unit_apply_of (S := S128x512) (iblk m c 5 t) ![0, 0] ![128, 512] _ (ix2 p ⟨g.val * 128 + q.val, by omega⟩) (ix2 p ⟨g.val * 128 + q.val, by omega⟩) fun a => ?_).trans (rd5 m c t p g q)
  fin_cases a <;> exact (Nat.zero_add _).symm
/-- The mixing bias. -/
theorem ld_bs (p : Fin 128) (i : Fin 256) : View.ld (iblk m c 6 t) r0_11 (ix2 p i) = bsA m c (ix2 ⟨i.val / 64, by omega⟩ p) := by
  refine (View.ld_unit_apply_of (S := S128x256) (iblk m c 6 t) ![0, 0] ![128, 256] _ (ix2 p i) (ix2 p i) fun a => ?_).trans (rd6 m c t p i)
  fin_cases a <;> exact (Nat.zero_add _).symm

/-- What the tokens give is theirs. -/
theorem G_at (y : Fin 512) (i : Fin 256) : Gb m c t (ix2 y i) = given (xA m c) (mdA m c) (wA m c) (gsA m c) (tok t y) i := by
  unfold Gb k0_pay54 given
  refine (pay11_at _ _ _ y i).trans (congrArg₂ (· * ·) ?_ (ld_gs m c t i))
  exact congrArg (fun z => norm256 z i) (funext fun j => congrArg gelu (proj_w m c t _ y (fun k => H_at m c t y k) 1408 256 _ j (by omega)))

/-- The gated mixing of a row of a chunk is its token's. -/
theorem chunk_eq (o : ℕ) (ho : o + 128 ≤ 512) (hm : o % 128 = 0) (p : Fin 128) (y : Fin 512) (hy : y.val = o + p.val) (i : Fin 256) :
    raw (Ub m c t) (Gb m c t) (View.ld (iblk m c 5 t) r0_10) (View.ld (iblk m c 6 t) r0_11) o ho p i
      = gate (xA m c) (mdA m c) (wA m c) (tok t y) i * mixing (xA m c) (mdA m c) (wA m c) (wsA m c) (bsA m c) (gsA m c) (tok t y) i := by
  have hp := p.isLt
  refine (raw_eq _ _ _ _ o ho p i).trans ?_
  have ep : (⟨(tok t y).val % 128, by omega⟩ : Fin 128) = p := Fin.ext (by show (t.val * 512 + y.val) % 128 = p.val; omega)
  have ey : (⟨o + p.val, by omega⟩ : Fin 512) = y := Fin.ext hy.symm
  unfold mixing
  refine congrArg₂ (· * ·) ?_ (congrArg₂ (· + ·) (Finset.sum_congr rfl fun q _ => congrArg₂ (· * ·) ?_ ?_) ?_)
  · exact (congrArg (fun z => Ub m c t (ix2 z i)) ey).trans (U_at m c t y i)
  · refine (G_at m c t _ i).trans (congrArg (fun z => given (xA m c) (mdA m c) (wA m c) (gsA m c) z i) (Fin.ext ?_))
    show t.val * 512 + (o + q.val) = (t.val * 512 + y.val) / 128 * 128 + q.val
    omega
  · exact (ld_ws m c t p ⟨i.val / 64, by omega⟩ q).trans (congrArg (fun z => wsA m c (ix3 _ z q)) ep.symm)
  · exact (ld_bs m c t p i).trans (congrArg (fun z => bsA m c (ix2 _ z)) ep.symm)

/-- A normalised row of a chunk is its token's. -/
theorem norm_eq (o : ℕ) (ho : o + 128 ≤ 512) (hm : o % 128 = 0) (p : Fin 128) (y : Fin 512) (hy : y.val = o + p.val) (i : Fin 256) :
    rms256 (raw (Ub m c t) (Gb m c t) (View.ld (iblk m c 5 t) r0_10) (View.ld (iblk m c 6 t) r0_11) o ho p) i * View.ld (iblk m c 10 t) r0_9 (ix2 0 i)
      = resB (xA m c) (mdA m c) (wA m c) (wsA m c) (bsA m c) (gsA m c) (goA m c) (tok t y) i := by
  unfold resB
  exact congrArg₂ (· * ·) (congrArg (fun z => rms256 z i) (funext fun i => chunk_eq m c t o ho hm p y hy i)) (ld_go m c t i)

/-- The second part of the tokens a grid point leaves. -/
theorem pt14 (y : Fin 512) (i : Fin 256) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y i) = resB (xA m c) (mdA m c) (wA m c) (wsA m c) (bsA m c) (gsA m c) (goA m c) (tok t y) i := by
  unfold out0_14
  canon_tiles x h
  · obtain ⟨p, b, rfl⟩ : ∃ (p : Fin 128) (b : Fin 256), x = ix2 p b := ⟨x 0, x 1, eq_ix2 x⟩
    have hb : b = i := Fin.ext h1.symm
    subst hb
    exact (chunk384_at _ _ _ _ _ p b).trans (norm_eq m c t 384 (by decide) (by decide) p y h0 b)
  · obtain ⟨p, b, rfl⟩ : ∃ (p : Fin 128) (b : Fin 256), x = ix2 p b := ⟨x 0, x 1, eq_ix2 x⟩
    have hb : b = i := Fin.ext h1.symm
    subst hb
    exact (chunk256_at _ _ _ _ _ p b).trans (norm_eq m c t 256 (by decide) (by decide) p y h0 b)
  · obtain ⟨p, b, rfl⟩ : ∃ (p : Fin 128) (b : Fin 256), x = ix2 p b := ⟨x 0, x 1, eq_ix2 x⟩
    have hb : b = i := Fin.ext h1.symm
    subst hb
    exact (chunk128_at _ _ _ _ _ p b).trans (norm_eq m c t 128 (by decide) (by decide) p y h0 b)
  · obtain ⟨p, b, rfl⟩ : ∃ (p : Fin 128) (b : Fin 256), x = ix2 p b := ⟨x 0, x 1, eq_ix2 x⟩
    have hb : b = i := Fin.ext h1.symm
    subst hb
    exact (chunk0_at _ _ _ _ _ p b).trans (norm_eq m c t 0 (by decide) (by decide) p y (by rw [Nat.zero_add]; exact h0) b)

end Cert.Kernel3Ideal.Inp
-- ==== Proof.Final3.lean ====
/- The seven output arrays of the input projection kernel after the run, at every token and lane. -/
module

public import proofs.«01_k».proof.Proof.Heads3
public import proofs.«01_k».proof.Proof.Mixed3

@[expose] public section

set_option maxRecDepth 16384

noncomputable section

open Idealize.ShloMosaic Idealize.ShloMosaic.TcCoe Idealize.SL.Sem
open Idealize.ShloMosaic.Pipeline (Dat)

namespace Cert.Kernel3Ideal.Inp

open Cert.Kernel3Ideal Cert.Kernel3Ideal.Gen Cert.Kernel3Ideal.Value

open Spec2 Spec3

variable (m : (ℓ : Loc nD τ sig) → Buf (Elt Ideal) ℓ) (c : Dev nD)

/-- The scaled queries of the neighbourhood attention. -/
def val11 (r : Fin 16896) (i : Fin 384) : EReal := pcol (xA m c) (mdA m c) (wA m c) r ⟨i.val, by omega⟩ * Ideal.ofBits FTy.f32 0x3E000000#32
/-- The output array of it after the run. -/
theorem final11 : (dats m 0 c).arrAt 11 cfg0.N = fun i => val11 m c (i 0) (i 1) := by
  refine (dats m 0 c).arrAt_eq_of_covers 11 _ (by decide +kernel) fun t _ y => ?_
  have h := (odx t).1
  blk_simp
  rw [after0_11]
  obtain ⟨a, b, rfl⟩ : ∃ (a : Fin 512) (b : Fin 384), y = ix2 a b := ⟨y 0, y 1, eq_ix2 y⟩
  refine (pt11 m c t a b).trans ?_
  refine congrArg₂ (val11 m c) (Fin.ext ?_) (Fin.ext ?_)
  · show t.val * 512 + a.val = _
    blk_simp [h]
  · show b.val = _
    blk_simp [h]

/-- Its keys. -/
def val12 (r : Fin 16896) (i : Fin 384) : EReal := pcol (xA m c) (mdA m c) (wA m c) r ⟨384 + i.val, by omega⟩
/-- The output array of it after the run. -/
theorem final12 : (dats m 0 c).arrAt 12 cfg0.N = fun i => val12 m c (i 0) (i 1) := by
  refine (dats m 0 c).arrAt_eq_of_covers 12 _ (by decide +kernel) fun t _ y => ?_
  have h := (odx t).2.1
  blk_simp
  rw [after0_12]
  obtain ⟨a, b, rfl⟩ : ∃ (a : Fin 512) (b : Fin 384), y = ix2 a b := ⟨y 0, y 1, eq_ix2 y⟩
  refine (pt12 m c t a b).trans ?_
  refine congrArg₂ (val12 m c) (Fin.ext ?_) (Fin.ext ?_)
  · show t.val * 512 + a.val = _
    blk_simp [h]
  · show b.val = _
    blk_simp [h]

/-- Its values. -/
def val13 (r : Fin 16896) (i : Fin 384) : EReal := pcol (xA m c) (mdA m c) (wA m c) r ⟨768 + i.val, by omega⟩
/-- The output array of it after the run. -/
theorem final13 : (dats m 0 c).arrAt 13 cfg0.N = fun i => val13 m c (i 0) (i 1) := by
  refine (dats m 0 c).arrAt_eq_of_covers 13 _ (by decide +kernel) fun t _ y => ?_
  have h := (odx t).2.2.1
  blk_simp
  rw [after0_13]
  obtain ⟨a, b, rfl⟩ : ∃ (a : Fin 512) (b : Fin 384), y = ix2 a b := ⟨y 0, y 1, eq_ix2 y⟩
  refine (pt13 m c t a b).trans ?_
  refine congrArg₂ (val13 m c) (Fin.ext ?_) (Fin.ext ?_)
  · show t.val * 512 + a.val = _
    blk_simp [h]
  · show b.val = _
    blk_simp [h]

/-- The second part of every token. -/
def val14 (r : Fin 16896) (i : Fin 256) : EReal := resB (xA m c) (mdA m c) (wA m c) (wsA m c) (bsA m c) (gsA m c) (goA m c) r i
/-- The output array of it after the run. -/
theorem final14 : (dats m 0 c).arrAt 14 cfg0.N = fun i => val14 m c (i 0) (i 1) := by
  refine (dats m 0 c).arrAt_eq_of_covers 14 _ (by decide +kernel) fun t _ y => ?_
  have h := (odx t).2.2.2.1
  blk_simp
  rw [after0_14]
  obtain ⟨a, b, rfl⟩ : ∃ (a : Fin 512) (b : Fin 256), y = ix2 a b := ⟨y 0, y 1, eq_ix2 y⟩
  refine (pt14 m c t a b).trans ?_
  refine congrArg₂ (val14 m c) (Fin.ext ?_) (Fin.ext ?_)
  · show t.val * 512 + a.val = _
    blk_simp [h]
  · show b.val = _
    blk_simp [h]

/-- The scaled queries of the grouped attention. -/
def val15 (r : Fin 16896) (i : Fin 384) : EReal := resQ (xA m c) (mdA m c) (wA m c) (cosA m c) (sinA m c) (gqA m c) r i
/-- The output array of it after the run. -/
theorem final15 : (dats m 0 c).arrAt 15 cfg0.N = fun i => val15 m c (i 0) (i 1) := by
  refine (dats m 0 c).arrAt_eq_of_covers 15 _ (by decide +kernel) fun t _ y => ?_
  have h := (odx t).2.2.2.2.1
  blk_simp
  rw [after0_15]
  obtain ⟨a, b, rfl⟩ : ∃ (a : Fin 512) (b : Fin 384), y = ix2 a b := ⟨y 0, y 1, eq_ix2 y⟩
  refine (pt15 m c t a b).trans ?_
  refine congrArg₂ (val15 m c) (Fin.ext ?_) (Fin.ext ?_)
  · show t.val * 512 + a.val = _
    blk_simp [h]
  · show b.val = _
    blk_simp [h]

/-- Its keys. -/
def val16 (r : Fin 16896) (i : Fin 128) : EReal := resK (xA m c) (mdA m c) (wA m c) (cosA m c) (sinA m c) (gkA m c) r i
/-- The output array of it after the run. -/
theorem final16 : (dats m 0 c).arrAt 16 cfg0.N = fun i => val16 m c (i 0) (i 1) := by
  refine (dats m 0 c).arrAt_eq_of_covers 16 _ (by decide +kernel) fun t _ y => ?_
  have h := (odx t).2.2.2.2.2.1
  blk_simp
  rw [after0_16]
  obtain ⟨a, b, rfl⟩ : ∃ (a : Fin 512) (b : Fin 128), y = ix2 a b := ⟨y 0, y 1, eq_ix2 y⟩
  refine (pt16 m c t a b).trans ?_
  refine congrArg₂ (val16 m c) (Fin.ext ?_) (Fin.ext ?_)
  · show t.val * 512 + a.val = _
    blk_simp [h]
  · show b.val = _
    blk_simp [h]

/-- Its values. -/
def val17 (r : Fin 16896) (i : Fin 128) : EReal := pcol (xA m c) (mdA m c) (wA m c) r ⟨2176 + i.val, by omega⟩
/-- The output array of it after the run. -/
theorem final17 : (dats m 0 c).arrAt 17 cfg0.N = fun i => val17 m c (i 0) (i 1) := by
  refine (dats m 0 c).arrAt_eq_of_covers 17 _ (by decide +kernel) fun t _ y => ?_
  have h := (odx t).2.2.2.2.2.2
  blk_simp
  rw [after0_17]
  obtain ⟨a, b, rfl⟩ : ∃ (a : Fin 512) (b : Fin 128), y = ix2 a b := ⟨y 0, y 1, eq_ix2 y⟩
  refine (pt17 m c t a b).trans ?_
  refine congrArg₂ (val17 m c) (Fin.ext ?_) (Fin.ext ?_)
  · show t.val * 512 + a.val = _
    blk_simp [h]
  · show b.val = _
    blk_simp [h]

end Cert.Kernel3Ideal.Inp
-- ==== Proof.Ref3.lean ====
/- The reference of the input projection, read at an index as the functions of `Spec3`. -/
module

public import proofs.«01_k».proof.Proof.Gen.Reference3Ideal.Run
public import proofs.«01_k».proof.Proof.Spec3
public import Idealize.ShloMosaic.Lib.Pointwise

@[expose] public section

set_option maxRecDepth 16384

noncomputable section

open Idealize.ShloMosaic Idealize.ShloMosaic.TcCoe Idealize.SL.Sem

namespace Cert.Reference3Ideal.Inp

open Cert.Reference3Ideal Cert.Reference3Ideal.Gen Cert.Reference3Ideal.Value Spec2 Spec3
open Idealize.ShloMosaic.StableHlo (launchContents)

/-- One modulation vector per token. -/
def modRows (w : FVec Ideal S3x1024 .f32) : FVec Ideal S16896x1024 .f32 :=
  concatenate S16896x1024 0 [⟨S16384x1024, (shapeCast _ (broadcastInDim S2x8192x1024 ![0, 1, 2] bcast_S2x1x1024_S2x8192x1024_0_1_2 (broadcastInDim S2x1x1024 ![0, 2] bcast_S2x1024_S2x1x1024_0_2 (extractStridedSlice S2x1024 ![0, 0] w slices_S3x1024_S2x1024_0_0))) shapeCasts_S2x8192x1024_S16384x1024)⟩, ⟨S512x1024, (broadcastInDim S512x1024 ![1] bcast_S1024_S512x1024_1 (shapeCast _ (extractStridedSlice S1x1024 ![2, 0] w slices_S3x1024_S1x1024_2_0) shapeCasts_S1x1024_S1024))⟩] concatenates_S16384x1024_S512x1024_S16896x1024_d0

/-- A latent token's vector is its batch's, a context token's the last. -/
theorem modRows_at (w : FVec Ideal S3x1024 .f32) (r : Fin 16896) (i : Fin 1024) : modRows w (ix2 r i) = w (ix2 (modRow r) i) := by
  pointwise [modRows]
  unfold modRow
  by_cases h : r.val < 16384
  · rw [dif_pos h]
    refine congrArg (fun z => w (ix2 z i)) (Fin.ext ?_)
    by_cases h' : r.val < 8192
    · rw [if_pos h']; exact Nat.div_eq_of_lt h'
    · rw [if_neg h', if_pos h]; show r.val / 8192 = 1; omega
  · rw [dif_neg h, if_neg (by omega), if_neg h]

/-- The row means. -/
def means (v : FVec Ideal S16896x1024 .f32) : FVec Ideal S16896x1 .f32 :=
  Host.divf (broadcastInDim S16896x1 ![0] bcast_S16896_S16896x1_0 (Host.reduceAdd v (constant S_ .f32 0x00000000#32) reducesTo_S16896x1024_S16896_d1 h_S_)) (broadcastInDim S16896x1 ![] bcast_S_S16896x1 (constant S_ .f32 0x44800000#32))

/-- A row mean. -/
theorem means_at (v : FVec Ideal S16896x1024 .f32) (r : Fin 16896) : means v (ix2 r 0) = mean (fun i => v (ix2 r i)) := by
  pointwise [means]
  rfl

/-- The rows less their means. -/
def centred (v : FVec Ideal S16896x1024 .f32) : FVec Ideal S16896x1024 .f32 :=
  subf v (broadcastInDim S16896x1024 ![0, 1] bcast_S16896x1_S16896x1024_0_1 (means v))

/-- An element less its row mean. -/
theorem centred_at (v : FVec Ideal S16896x1024 .f32) (r : Fin 16896) (i : Fin 1024) : centred v (ix2 r i) = v (ix2 r i) - mean (fun i => v (ix2 r i)) := by
  pointwise [centred]
  rw [means_at]

/-- The modulated normalised rows. -/
def modded (v sc sh : FVec Ideal S16896x1024 .f32) : FVec Ideal S16896x1024 .f32 :=
  addf (mulf (mulf (centred v) (broadcastInDim S16896x1024 ![0, 1] bcast_S16896x1_S16896x1024_0_1 (Host.rsqrt (addf (means (mulf (centred v) (centred v))) (broadcastInDim S16896x1 ![] bcast_S_S16896x1 (constant S_ .f32 0x358637BD#32)))))) (addf (broadcastInDim S16896x1024 ![] bcast_S_S16896x1024 (constant S_ .f32 0x3F800000#32)) sc)) sh

/-- A modulated element. -/
theorem modded_at (v sc sh : FVec Ideal S16896x1024 .f32) (r : Fin 16896) (i : Fin 1024) :
    modded v sc sh (ix2 r i) = modulated (fun i => v (ix2 r i)) (fun i => sc (ix2 r i)) (fun i => sh (ix2 r i)) i := by
  pointwise [modded]
  rw [means_at]
  have h : ∀ i, mulf (centred v) (centred v) (ix2 r i) = (v (ix2 r i) - mean (fun i => v (ix2 r i))) * (v (ix2 r i) - mean (fun i => v (ix2 r i))) := fun i =>
    congrArg₂ (· * ·) (centred_at v r i) (centred_at v r i)
  rw [centred_at]
  simp only [h]
  rfl

/-- A modulation vector of a token. -/
theorem slice_at (md : FVec Ideal S3x6144 .f32) (n : Fin 6) (w : FVec Ideal S3x1024 .f32) (hw : ∀ b i, w (ix2 b i) = md (ix2 b ⟨n.val * 1024 + i.val, by omega⟩)) (r : Fin 16896) :
    (fun i => modRows w (ix2 r i)) = modVec md n r := funext fun i => (modRows_at w r i).trans (hw _ _)

section whole
variable (x : FVec Ideal S16896x1024 .f32) (md : FVec Ideal S3x6144 .f32) (w : FVec Ideal S1024x2304 .f32) (cs sn : FVec Ideal S8192x2x16 .f32) (ws : FVec Ideal S4x128x128 .f32) (bs : FVec Ideal S4x128 .f32)
  (gs : FVec Ideal S256 .f32) (gq gk : FVec Ideal S64 .f32) (go : FVec Ideal S256 .f32)

/-- The projected rows. -/
def P : FVec Ideal S16896x2304 .f32 :=
  Host.dotGeneral dot_S16896x1024_S1024x2304_S16896x2304_1_0_0_1_n_n none
    (modded x (modRows (extractStridedSlice S3x1024 ![0, 1024] md slices_S3x6144_S3x1024_0_1024)) (modRows (extractStridedSlice S3x1024 ![0, 0] md slices_S3x6144_S3x1024_0_0))) w

/-- A column of a projected row. -/
theorem P_at (r : Fin 16896) (j : Fin 2304) : P x md w (ix2 r j) = pcol x md w r j := by
  pointwise [P]
  simp only [modded_at]
  rw [slice_at md 1 (extractStridedSlice S3x1024 ![0, 1024] md slices_S3x6144_S3x1024_0_1024) (fun b i => by pointwise) r, slice_at md 0 (extractStridedSlice S3x1024 ![0, 0] md slices_S3x6144_S3x1024_0_0) (fun b i => by pointwise) r]
  rfl

/-- The scaled queries of the neighbourhood attention. -/
theorem qa_at (r : Fin 16896) (i : Fin 384) :
    (truncf .bf16 (mulf (extractStridedSlice S16896x384 ![0, 0] (P x md w) slices_S16896x2304_S16896x384_0_0) (broadcastInDim S16896x384 ![] bcast_S_S16896x384 (constant S_ .f32 0x3E000000#32))) bitsLt_bf16_f32 : FVec Ideal S16896x384 .bf16) (ix2 r i)
      = pcol x md w r ⟨i.val, by omega⟩ * Ideal.ofBits FTy.f32 0x3E000000#32 := by
  pointwise
  rw [P_at]
/-- Its keys. -/
theorem ka_at (r : Fin 16896) (i : Fin 384) :
    (truncf .bf16 (extractStridedSlice S16896x384 ![0, 384] (P x md w) slices_S16896x2304_S16896x384_0_384) bitsLt_bf16_f32 : FVec Ideal S16896x384 .bf16) (ix2 r i)
      = pcol x md w r ⟨384 + i.val, by omega⟩ := by
  pointwise
  rw [P_at]
/-- Its values. -/
theorem va_at (r : Fin 16896) (i : Fin 384) :
    (truncf .bf16 (extractStridedSlice S16896x384 ![0, 768] (P x md w) slices_S16896x2304_S16896x384_0_768) bitsLt_bf16_f32 : FVec Ideal S16896x384 .bf16) (ix2 r i)
      = pcol x md w r ⟨768 + i.val, by omega⟩ := by
  pointwise
  rw [P_at]
/-- The values of the grouped attention. -/
theorem vc_at (r : Fin 16896) (i : Fin 128) :
    (truncf .bf16 (extractStridedSlice S16896x128 ![0, 2176] (P x md w) slices_S16896x2304_S16896x128_0_2176) bitsLt_bf16_f32 : FVec Ideal S16896x128 .bf16) (ix2 r i)
      = pcol x md w r ⟨2176 + i.val, by omega⟩ := by
  pointwise
  rw [P_at]

/-- The two halves of the gated branch, after GELU. -/
def Z : FVec Ideal S16896x512 .f32 :=
  let z := extractStridedSlice S16896x512 ![0, 1152] (P x md w) slices_S16896x2304_S16896x512_0_1152
  mulf z (mulf (broadcastInDim S16896x512 ![] bcast_S_S16896x512 (constant S_ .f32 0x3F000000#32)) (addf (broadcastInDim S16896x512 ![] bcast_S_S16896x512 (constant S_ .f32 0x3F800000#32)) (Host.tanh (mulf (broadcastInDim S16896x512 ![] bcast_S_S16896x512 (constant S_ .f32 0x3F4C422A#32)) (addf z (mulf (broadcastInDim S16896x512 ![] bcast_S_S16896x512 (constant S_ .f32 0x3D372713#32)) (mulf (mulf z z) z)))))))

/-- A lane of them. -/
theorem Z_at (r : Fin 16896) (i : Fin 512) : Z x md w (ix2 r i) = gelu (pcol x md w r ⟨1152 + i.val, by omega⟩) := by
  pointwise [Z]
  rw [P_at]
  rfl

/-- The row means over 256 lanes. -/
def means256 (v : FVec Ideal S16896x256 .f32) : FVec Ideal S16896x1 .f32 :=
  Host.divf (broadcastInDim S16896x1 ![0] bcast_S16896_S16896x1_0 (Host.reduceAdd v (constant S_ .f32 0x00000000#32) reducesTo_S16896x256_S16896_d1 h_S_)) (broadcastInDim S16896x1 ![] bcast_S_S16896x1 (constant S_ .f32 0x43800000#32))

/-- A row mean. -/
theorem means256_at (v : FVec Ideal S16896x256 .f32) (r : Fin 16896) : means256 v (ix2 r 0) = mean256 (fun i => v (ix2 r i)) := by
  pointwise [means256]
  rfl

/-- The rows less their means. -/
def centred256 (v : FVec Ideal S16896x256 .f32) : FVec Ideal S16896x256 .f32 :=
  subf v (broadcastInDim S16896x256 ![0, 1] bcast_S16896x1_S16896x256_0_1 (means256 v))

/-- An element less its row mean. -/
theorem centred256_at (v : FVec Ideal S16896x256 .f32) (r : Fin 16896) (i : Fin 256) : centred256 v (ix2 r i) = v (ix2 r i) - mean256 (fun i => v (ix2 r i)) := by
  pointwise [centred256]
  rw [means256_at]

/-- The normalised rows with their gain. -/
def normed256 (v : FVec Ideal S16896x256 .f32) : FVec Ideal S16896x256 .f32 :=
  mulf (mulf (centred256 v) (broadcastInDim S16896x256 ![0, 1] bcast_S16896x1_S16896x256_0_1 (Host.rsqrt (addf (means256 (mulf (centred256 v) (centred256 v))) (broadcastInDim S16896x1 ![] bcast_S_S16896x1 (constant S_ .f32 0x358637BD#32)))))) (broadcastInDim S16896x256 ![0, 1] bcast_S1x256_S16896x256_0_1 (broadcastInDim S1x256 ![1] bcast_S256_S1x256_1 gs))

/-- An element of them. -/
theorem normed256_at (v : FVec Ideal S16896x256 .f32) (r : Fin 16896) (i : Fin 256) : normed256 gs v (ix2 r i) = norm256 (fun i => v (ix2 r i)) i * vecOf gs i := by
  pointwise [normed256]
  rw [means256_at]
  have h : ∀ i, mulf (centred256 v) (centred256 v) (ix2 r i) = (v (ix2 r i) - mean256 (fun i => v (ix2 r i))) * (v (ix2 r i) - mean256 (fun i => v (ix2 r i))) := fun i =>
    congrArg₂ (· * ·) (centred256_at v r i) (centred256_at v r i)
  rw [centred256_at]
  simp only [h]
  rfl

/-- What every token gives to its chunk. -/
def Gv : FVec Ideal S16896x256 .f32 := normed256 gs (extractStridedSlice S16896x256 ![0, 256] (Z x md w) slices_S16896x512_S16896x256_0_256)

/-- A lane of it. -/
theorem Gv_at (r : Fin 16896) (i : Fin 256) : Gv x md w gs (ix2 r i) = given x md w gs r i := by
  unfold Gv given
  rw [normed256_at]
  refine congrArg (fun z => norm256 z i * _) (funext fun j => ?_)
  pointwise
  rw [Z_at]
  exact congrArg (fun z => gelu (pcol x md w r z)) (Fin.ext (by show 1152 + (256 + j.val) = 1408 + j.val; omega))

/-- The gated mixing of every token, from what is given. -/
def gatedM (z : FVec Ideal S16896x512 .f32) (v : FVec Ideal S16896x256 .f32) : FVec Ideal S16896x256 .f32 :=
  mulf (extractStridedSlice S16896x256 ![0, 0] z slices_S16896x512_S16896x256_0_0) (shapeCast _ (addf (transpose S132x128x4x64 [1, 3, 0, 2] (Host.dotGeneral dot_S132x128x4x64_S4x128x128_S4x132x64x128_1_2_03_1_2_0 none (shapeCast _ v shapeCasts_S16896x256_S132x128x4x64) ws) transposes_S4x132x64x128_S132x128x4x64_1_3_0_2) (broadcastInDim S132x128x4x64 ![0, 1, 2, 3] bcast_S1x128x4x1_S132x128x4x64_0_1_2_3 (broadcastInDim S1x128x4x1 ![1, 2] bcast_S128x4_S1x128x4x1_1_2 (transpose S128x4 [1, 0] bs transposes_S4x128_S128x4_1_0)))) shapeCasts_S132x128x4x64_S16896x256)

/-- A lane of it. -/
theorem gatedM_at (z : FVec Ideal S16896x512 .f32) (v : FVec Ideal S16896x256 .f32) (r : Fin 16896) (i : Fin 256) :
    gatedM ws bs z v (ix2 r i) = z (ix2 r ⟨i.val, by omega⟩) * ((∑ q : Fin 128, v (ix2 ⟨r.val / 128 * 128 + q.val, by omega⟩ i) * ws (ix3 ⟨i.val / 64, by omega⟩ ⟨r.val % 128, by omega⟩ q)) + bs (ix2 ⟨i.val / 64, by omega⟩ ⟨r.val % 128, by omega⟩)) := by
  pointwise [gatedM]

/-- The rows over their root mean square, with a gain. -/
def rmsed (v : FVec Ideal S16896x256 .f32) : FVec Ideal S16896x256 .bf16 :=
  truncf .bf16 (mulf (mulf v (broadcastInDim S16896x256 ![0, 1] bcast_S16896x1_S16896x256_0_1 (Host.rsqrt (addf (means256 (mulf v v)) (broadcastInDim S16896x1 ![] bcast_S_S16896x1 (constant S_ .f32 0x358637BD#32)))))) (broadcastInDim S16896x256 ![0, 1] bcast_S1x256_S16896x256_0_1 (broadcastInDim S1x256 ![1] bcast_S256_S1x256_1 go))) bitsLt_bf16_f32

/-- An element of them. -/
theorem rmsed_at (v : FVec Ideal S16896x256 .f32) (r : Fin 16896) (i : Fin 256) : rmsed go v (ix2 r i) = rms256 (fun i => v (ix2 r i)) i * vecOf go i := by
  pointwise [rmsed]
  rw [means256_at]
  rfl

/-- The second part of every token. -/
theorem ob_at (r : Fin 16896) (i : Fin 256) : rmsed go (gatedM ws bs (Z x md w) (Gv x md w gs)) (ix2 r i) = resB x md w ws bs gs go r i := by
  rw [rmsed_at]
  simp only [gatedM_at, Z_at, Gv_at]
  rfl

/-- The six query heads of every token, normalised. -/
def heads6 : FVec Ideal S16896x6x64 .f32 :=
  let a := shapeCast S16896x6x64 (extractStridedSlice S16896x384 ![0, 1664] (P x md w) slices_S16896x2304_S16896x384_0_1664) shapeCasts_S16896x384_S16896x6x64
  mulf (mulf a (broadcastInDim S16896x6x64 ![0, 1, 2] bcast_S16896x6x1_S16896x6x64_0_1_2 (Host.rsqrt (addf (Host.divf (broadcastInDim S16896x6x1 ![0, 1] bcast_S16896x6_S16896x6x1_0_1 (Host.reduceAdd (mulf a a) (constant S_ .f32 0x00000000#32) reducesTo_S16896x6x64_S16896x6_d2 h_S_)) (broadcastInDim S16896x6x1 ![] bcast_S_S16896x6x1 (constant S_ .f32 0x42800000#32))) (broadcastInDim S16896x6x1 ![] bcast_S_S16896x6x1 (constant S_ .f32 0x358637BD#32)))))) (broadcastInDim S16896x6x64 ![0, 1, 2] bcast_S1x1x64_S16896x6x64_0_1_2 (broadcastInDim S1x1x64 ![2] bcast_S64_S1x1x64_2 gq))

/-- A lane of a head. -/
theorem heads6_at (r : Fin 16896) (h : Fin 6) (j : Fin 64) : heads6 x md w gq (ix3 r h j) = rms64 (fun j => pcol x md w r ⟨1664 + (h.val * 64 + j.val), by omega⟩) (vecOf gq) j := by
  pointwise [heads6]
  simp only [P_at]
  rfl

/-- The heads turned, side by side and scaled. -/
def turned6 (a : FVec Ideal S16896x6x64 .f32) : FVec Ideal S16896x384 .bf16 :=
  let b : FVec Ideal S2x8192x6x2x2x16 .f32 := shapeCast _ (shapeCast S2x8192x6x64 (extractStridedSlice S16384x6x64 ![0, 0, 0] a slices_S16896x6x64_S16384x6x64_0_0_0) shapeCasts_S16384x6x64_S2x8192x6x64) shapeCasts_S2x8192x6x64_S2x8192x6x2x2x16
  let b1 : FVec Ideal S2x8192x6x2x16 .f32 := shapeCast _ (extractStridedSlice S2x8192x6x2x1x16 ![0, 0, 0, 0, 0, 0] b slices_S2x8192x6x2x2x16_S2x8192x6x2x1x16_0_0_0_0_0_0) shapeCasts_S2x8192x6x2x1x16_S2x8192x6x2x16
  let b2 : FVec Ideal S2x8192x6x2x16 .f32 := shapeCast _ (extractStridedSlice S2x8192x6x2x1x16 ![0, 0, 0, 0, 1, 0] b slices_S2x8192x6x2x2x16_S2x8192x6x2x1x16_0_0_0_0_1_0) shapeCasts_S2x8192x6x2x1x16_S2x8192x6x2x16
  let cc : FVec Ideal S2x8192x6x2x16 .f32 := broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 cs))
  let ss : FVec Ideal S2x8192x6x2x16 .f32 := broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 sn))
  truncf .bf16 (mulf (shapeCast S16896x384 (concatenate S16896x6x64 0 [⟨S16384x6x64, (shapeCast S16384x6x64 (shapeCast S2x8192x6x64 (concatenate S2x8192x6x2x2x16 4 [⟨S2x8192x6x2x1x16, (broadcastInDim S2x8192x6x2x1x16 ![0, 1, 2, 3, 5] bcast_S2x8192x6x2x16_S2x8192x6x2x1x16_0_1_2_3_5 (subf (mulf b1 cc) (mulf b2 ss)))⟩, ⟨S2x8192x6x2x1x16, (broadcastInDim S2x8192x6x2x1x16 ![0, 1, 2, 3, 5] bcast_S2x8192x6x2x16_S2x8192x6x2x1x16_0_1_2_3_5 (addf (mulf b2 cc) (mulf b1 ss)))⟩] concatenates_S2x8192x6x2x1x16_S2x8192x6x2x1x16_S2x8192x6x2x2x16_d4) shapeCasts_S2x8192x6x2x2x16_S2x8192x6x64) shapeCasts_S2x8192x6x64_S16384x6x64)⟩, ⟨S512x6x64, (extractStridedSlice S512x6x64 ![16384, 0, 0] a slices_S16896x6x64_S512x6x64_16384_0_0)⟩] concatenates_S16384x6x64_S512x6x64_S16896x6x64_d0) shapeCasts_S16896x6x64_S16896x384) (broadcastInDim S16896x384 ![] bcast_S_S16896x384 (constant S_ .f32 0x3E000000#32))) bitsLt_bf16_f32

/-- A lane of it. -/
theorem turned6_at (a : FVec Ideal S16896x6x64 .f32) (r : Fin 16896) (l : Fin 384) :
    turned6 cs sn a (ix2 r l) = turn (fun j => a (ix3 r ⟨l.val / 64, by omega⟩ j)) cs sn r ⟨l.val % 64, by omega⟩ * Ideal.ofBits FTy.f32 0x3E000000#32 := by
  pointwise [turned6]
  refine congrArg (· * _) ?_
  unfold turn
  by_cases h : r.val < 16384
  · refine (dif_pos h).trans (Eq.trans ?_ (if_pos h).symm)
    have hr : r.val / 8192 * 8192 + r.val % 8192 = r.val := Nat.div_add_mod' _ _
    by_cases h' : l.val % 64 / 16 % 2 < 1
    · refine (dif_pos h').trans ?_
      refine (?_ : _ = _).trans (if_pos (show l.val % 64 % 32 < 16 by omega)).symm
      refine congrArg₂ (· - ·) (congrArg (· * _) (congrArg₂ (fun x y => a (ix3 x _ y)) (Fin.ext hr) (Fin.ext ?_))) (congrArg (· * _) (congrArg₂ (fun x y => a (ix3 x _ y)) (Fin.ext hr) (Fin.ext ?_)))
      · show l.val % 64 / 32 * 32 + l.val % 64 % 16 = l.val % 64; omega
      · show l.val % 64 / 32 * 32 + 16 + l.val % 64 % 16 = (l.val % 64 + 16) % 64; omega
    · refine (dif_neg h').trans ?_
      refine (?_ : _ = _).trans (if_neg (show ¬ l.val % 64 % 32 < 16 by omega)).symm
      refine congrArg₂ (· + ·) (congrArg (· * _) (congrArg₂ (fun x y => a (ix3 x _ y)) (Fin.ext hr) (Fin.ext ?_))) (congrArg (· * _) (congrArg₂ (fun x y => a (ix3 x _ y)) (Fin.ext hr) (Fin.ext ?_)))
      · show l.val % 64 / 32 * 32 + 16 + l.val % 64 % 16 = l.val % 64; omega
      · show l.val % 64 / 32 * 32 + l.val % 64 % 16 = l.val % 64 - 16; omega
  · refine (dif_neg h).trans (Eq.trans ?_ (if_neg h).symm)
    have hr : 16384 + (r.val - 16384) = r.val := by omega
    exact congrArg₂ (fun x y => a (ix3 x _ y)) (Fin.ext hr) rfl

/-- The two key heads of every token, normalised. -/
def heads2 : FVec Ideal S16896x2x64 .f32 :=
  let a := shapeCast S16896x2x64 (extractStridedSlice S16896x128 ![0, 2048] (P x md w) slices_S16896x2304_S16896x128_0_2048) shapeCasts_S16896x128_S16896x2x64
  mulf (mulf a (broadcastInDim S16896x2x64 ![0, 1, 2] bcast_S16896x2x1_S16896x2x64_0_1_2 (Host.rsqrt (addf (Host.divf (broadcastInDim S16896x2x1 ![0, 1] bcast_S16896x2_S16896x2x1_0_1 (Host.reduceAdd (mulf a a) (constant S_ .f32 0x00000000#32) reducesTo_S16896x2x64_S16896x2_d2 h_S_)) (broadcastInDim S16896x2x1 ![] bcast_S_S16896x2x1 (constant S_ .f32 0x42800000#32))) (broadcastInDim S16896x2x1 ![] bcast_S_S16896x2x1 (constant S_ .f32 0x358637BD#32)))))) (broadcastInDim S16896x2x64 ![0, 1, 2] bcast_S1x1x64_S16896x2x64_0_1_2 (broadcastInDim S1x1x64 ![2] bcast_S64_S1x1x64_2 gk))

/-- A lane of a head. -/
theorem heads2_at (r : Fin 16896) (h : Fin 2) (j : Fin 64) : heads2 x md w gk (ix3 r h j) = rms64 (fun j => pcol x md w r ⟨2048 + (h.val * 64 + j.val), by omega⟩) (vecOf gk) j := by
  pointwise [heads2]
  simp only [P_at]
  rfl

/-- The heads turned, side by side. -/
def turned2 (a : FVec Ideal S16896x2x64 .f32) : FVec Ideal S16896x128 .bf16 :=
  let b : FVec Ideal S2x8192x2x2x2x16 .f32 := shapeCast _ (shapeCast S2x8192x2x64 (extractStridedSlice S16384x2x64 ![0, 0, 0] a slices_S16896x2x64_S16384x2x64_0_0_0) shapeCasts_S16384x2x64_S2x8192x2x64) shapeCasts_S2x8192x2x64_S2x8192x2x2x2x16
  let b1 : FVec Ideal S2x8192x2x2x16 .f32 := shapeCast _ (extractStridedSlice S2x8192x2x2x1x16 ![0, 0, 0, 0, 0, 0] b slices_S2x8192x2x2x2x16_S2x8192x2x2x1x16_0_0_0_0_0_0) shapeCasts_S2x8192x2x2x1x16_S2x8192x2x2x16
  let b2 : FVec Ideal S2x8192x2x2x16 .f32 := shapeCast _ (extractStridedSlice S2x8192x2x2x1x16 ![0, 0, 0, 0, 1, 0] b slices_S2x8192x2x2x2x16_S2x8192x2x2x1x16_0_0_0_0_1_0) shapeCasts_S2x8192x2x2x1x16_S2x8192x2x2x16
  let cc : FVec Ideal S2x8192x2x2x16 .f32 := broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 cs))
  let ss : FVec Ideal S2x8192x2x2x16 .f32 := broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (broadcastInDim S8192x1x2x16 ![0, 2, 3] bcast_S8192x2x16_S8192x1x2x16_0_2_3 sn))
  truncf .bf16 (shapeCast S16896x128 (concatenate S16896x2x64 0 [⟨S16384x2x64, (shapeCast S16384x2x64 (shapeCast S2x8192x2x64 (concatenate S2x8192x2x2x2x16 4 [⟨S2x8192x2x2x1x16, (broadcastInDim S2x8192x2x2x1x16 ![0, 1, 2, 3, 5] bcast_S2x8192x2x2x16_S2x8192x2x2x1x16_0_1_2_3_5 (subf (mulf b1 cc) (mulf b2 ss)))⟩, ⟨S2x8192x2x2x1x16, (broadcastInDim S2x8192x2x2x1x16 ![0, 1, 2, 3, 5] bcast_S2x8192x2x2x16_S2x8192x2x2x1x16_0_1_2_3_5 (addf (mulf b2 cc) (mulf b1 ss)))⟩] concatenates_S2x8192x2x2x1x16_S2x8192x2x2x1x16_S2x8192x2x2x2x16_d4) shapeCasts_S2x8192x2x2x2x16_S2x8192x2x64) shapeCasts_S2x8192x2x64_S16384x2x64)⟩, ⟨S512x2x64, (extractStridedSlice S512x2x64 ![16384, 0, 0] a slices_S16896x2x64_S512x2x64_16384_0_0)⟩] concatenates_S16384x2x64_S512x2x64_S16896x2x64_d0) shapeCasts_S16896x2x64_S16896x128) bitsLt_bf16_f32

/-- A lane of it. -/
theorem turned2_at (a : FVec Ideal S16896x2x64 .f32) (r : Fin 16896) (l : Fin 128) :
    turned2 cs sn a (ix2 r l) = turn (fun j => a (ix3 r ⟨l.val / 64, by omega⟩ j)) cs sn r ⟨l.val % 64, by omega⟩ := by
  pointwise [turned2]
  unfold turn
  by_cases h : r.val < 16384
  · refine (dif_pos h).trans (Eq.trans ?_ (if_pos h).symm)
    have hr : r.val / 8192 * 8192 + r.val % 8192 = r.val := Nat.div_add_mod' _ _
    by_cases h' : l.val % 64 / 16 % 2 < 1
    · refine (dif_pos h').trans ?_
      refine (?_ : _ = _).trans (if_pos (show l.val % 64 % 32 < 16 by omega)).symm
      refine congrArg₂ (· - ·) (congrArg (· * _) (congrArg₂ (fun x y => a (ix3 x _ y)) (Fin.ext hr) (Fin.ext ?_))) (congrArg (· * _) (congrArg₂ (fun x y => a (ix3 x _ y)) (Fin.ext hr) (Fin.ext ?_)))
      · show l.val % 64 / 32 * 32 + l.val % 64 % 16 = l.val % 64; omega
      · show l.val % 64 / 32 * 32 + 16 + l.val % 64 % 16 = (l.val % 64 + 16) % 64; omega
    · refine (dif_neg h').trans ?_
      refine (?_ : _ = _).trans (if_neg (show ¬ l.val % 64 % 32 < 16 by omega)).symm
      refine congrArg₂ (· + ·) (congrArg (· * _) (congrArg₂ (fun x y => a (ix3 x _ y)) (Fin.ext hr) (Fin.ext ?_))) (congrArg (· * _) (congrArg₂ (fun x y => a (ix3 x _ y)) (Fin.ext hr) (Fin.ext ?_)))
      · show l.val % 64 / 32 * 32 + 16 + l.val % 64 % 16 = l.val % 64; omega
      · show l.val % 64 / 32 * 32 + l.val % 64 % 16 = l.val % 64 - 16; omega
  · refine (dif_neg h).trans (Eq.trans ?_ (if_neg h).symm)
    have hr : 16384 + (r.val - 16384) = r.val := by omega
    exact congrArg₂ (fun x y => a (ix3 x _ y)) (Fin.ext hr) rfl

/-- The scaled queries of the grouped attention. -/
theorem qc_at (r : Fin 16896) (l : Fin 384) : turned6 cs sn (heads6 x md w gq) (ix2 r l) = resQ x md w cs sn gq r l := by
  rw [turned6_at]
  have h : (fun j => heads6 x md w gq (ix3 r ⟨l.val / 64, by omega⟩ j)) = rms64 (fun j => pcol x md w r ⟨1664 + l.val / 64 * 64 + j.val, by omega⟩) (vecOf gq) := funext fun j =>
    (heads6_at x md w gq r _ j).trans (congrArg (fun z => rms64 z (vecOf gq) j) (funext fun k => congrArg (pcol x md w r) (Fin.ext (by show 1664 + (l.val / 64 * 64 + k.val) = 1664 + l.val / 64 * 64 + k.val; omega))))
  rw [h]
  rfl
/-- Its keys. -/
theorem kc_at (r : Fin 16896) (l : Fin 128) : turned2 cs sn (heads2 x md w gk) (ix2 r l) = resK x md w cs sn gk r l := by
  rw [turned2_at]
  have h : (fun j => heads2 x md w gk (ix3 r ⟨l.val / 64, by omega⟩ j)) = rms64 (fun j => pcol x md w r ⟨2048 + l.val / 64 * 64 + j.val, by omega⟩) (vecOf gk) := funext fun j =>
    (heads2_at x md w gk r _ j).trans (congrArg (fun z => rms64 z (vecOf gk) j) (funext fun k => congrArg (pcol x md w r) (Fin.ext (by show 2048 + (l.val / 64 * 64 + k.val) = 2048 + l.val / 64 * 64 + k.val; omega))))
  rw [h]
  rfl
end whole

/-- The reference's first result at an index. -/
theorem res200_at (m : (ℓ : Loc nD τ sig) → Buf (Elt Ideal) ℓ) (c : Dev nD) (r : Fin 16896) (i : Fin 384) :
    (truncf .bf16 (mulf (extractStridedSlice S16896x384 ![0, 0] (res_main_v40 (launchContents m c)) slices_S16896x2304_S16896x384_0_0) (broadcastInDim S16896x384 ![] bcast_S_S16896x384 (constant S_ .f32 0x3E000000#32))) bitsLt_bf16_f32 : FVec Ideal S16896x384 .bf16) (ix2 r i)
      = pcol (m ((c.tc : Thread nD τ).loc main_arg0)) (m ((c.tc : Thread nD τ).loc main_arg1)) (m ((c.tc : Thread nD τ).loc main_arg2)) r ⟨i.val, by omega⟩ * Ideal.ofBits FTy.f32 0x3E000000#32 :=
  (congrFun (show (truncf .bf16 (mulf (extractStridedSlice S16896x384 ![0, 0] (res_main_v40 (launchContents m c)) slices_S16896x2304_S16896x384_0_0) (broadcastInDim S16896x384 ![] bcast_S_S16896x384 (constant S_ .f32 0x3E000000#32))) bitsLt_bf16_f32 : FVec Ideal S16896x384 .bf16) = truncf .bf16 (mulf (extractStridedSlice S16896x384 ![0, 0] (P (m ((c.tc : Thread nD τ).loc main_arg0)) (m ((c.tc : Thread nD τ).loc main_arg1)) (m ((c.tc : Thread nD τ).loc main_arg2))) slices_S16896x2304_S16896x384_0_0) (broadcastInDim S16896x384 ![] bcast_S_S16896x384 (constant S_ .f32 0x3E000000#32))) bitsLt_bf16_f32 from rfl) (ix2 r i)).trans (qa_at (m ((c.tc : Thread nD τ).loc main_arg0)) (m ((c.tc : Thread nD τ).loc main_arg1)) (m ((c.tc : Thread nD τ).loc main_arg2)) r i)

/-- The reference's second result at an index. -/
theorem res201_at (m : (ℓ : Loc nD τ sig) → Buf (Elt Ideal) ℓ) (c : Dev nD) (r : Fin 16896) (i : Fin 384) :
    (truncf .bf16 (extractStridedSlice S16896x384 ![0, 384] (res_main_v40 (launchContents m c)) slices_S16896x2304_S16896x384_0_384) bitsLt_bf16_f32 : FVec Ideal S16896x384 .bf16) (ix2 r i)
      = pcol (m ((c.tc : Thread nD τ).loc main_arg0)) (m ((c.tc : Thread nD τ).loc main_arg1)) (m ((c.tc : Thread nD τ).loc main_arg2)) r ⟨384 + i.val, by omega⟩ :=
  (congrFun (show (truncf .bf16 (extractStridedSlice S16896x384 ![0, 384] (res_main_v40 (launchContents m c)) slices_S16896x2304_S16896x384_0_384) bitsLt_bf16_f32 : FVec Ideal S16896x384 .bf16) = truncf .bf16 (extractStridedSlice S16896x384 ![0, 384] (P (m ((c.tc : Thread nD τ).loc main_arg0)) (m ((c.tc : Thread nD τ).loc main_arg1)) (m ((c.tc : Thread nD τ).loc main_arg2))) slices_S16896x2304_S16896x384_0_384) bitsLt_bf16_f32 from rfl) (ix2 r i)).trans (ka_at (m ((c.tc : Thread nD τ).loc main_arg0)) (m ((c.tc : Thread nD τ).loc main_arg1)) (m ((c.tc : Thread nD τ).loc main_arg2)) r i)

/-- The reference's third result at an index. -/
theorem res202_at (m : (ℓ : Loc nD τ sig) → Buf (Elt Ideal) ℓ) (c : Dev nD) (r : Fin 16896) (i : Fin 384) :
    (truncf .bf16 (extractStridedSlice S16896x384 ![0, 768] (res_main_v40 (launchContents m c)) slices_S16896x2304_S16896x384_0_768) bitsLt_bf16_f32 : FVec Ideal S16896x384 .bf16) (ix2 r i)
      = pcol (m ((c.tc : Thread nD τ).loc main_arg0)) (m ((c.tc : Thread nD τ).loc main_arg1)) (m ((c.tc : Thread nD τ).loc main_arg2)) r ⟨768 + i.val, by omega⟩ :=
  (congrFun (show (truncf .bf16 (extractStridedSlice S16896x384 ![0, 768] (res_main_v40 (launchContents m c)) slices_S16896x2304_S16896x384_0_768) bitsLt_bf16_f32 : FVec Ideal S16896x384 .bf16) = truncf .bf16 (extractStridedSlice S16896x384 ![0, 768] (P (m ((c.tc : Thread nD τ).loc main_arg0)) (m ((c.tc : Thread nD τ).loc main_arg1)) (m ((c.tc : Thread nD τ).loc main_arg2))) slices_S16896x2304_S16896x384_0_768) bitsLt_bf16_f32 from rfl) (ix2 r i)).trans (va_at (m ((c.tc : Thread nD τ).loc main_arg0)) (m ((c.tc : Thread nD τ).loc main_arg1)) (m ((c.tc : Thread nD τ).loc main_arg2)) r i)

/-- The reference's fourth result at an index. -/
theorem res203_at (m : (ℓ : Loc nD τ sig) → Buf (Elt Ideal) ℓ) (c : Dev nD) (r : Fin 16896) (i : Fin 256) :
    (truncf .bf16 (mulf (mulf (res_main_v92 (launchContents m c)) (broadcastInDim S16896x256 ![0, 1] bcast_S16896x1_S16896x256_0_1 (Host.rsqrt (addf (Host.divf (broadcastInDim S16896x1 ![0] bcast_S16896_S16896x1_0 (Host.reduceAdd (mulf (res_main_v92 (launchContents m c)) (res_main_v92 (launchContents m c))) (constant S_ .f32 0x00000000#32) reducesTo_S16896x256_S16896_d1 h_S_)) (broadcastInDim S16896x1 ![] bcast_S_S16896x1 (constant S_ .f32 0x43800000#32))) (broadcastInDim S16896x1 ![] bcast_S_S16896x1 (constant S_ .f32 0x358637BD#32)))))) (broadcastInDim S16896x256 ![0, 1] bcast_S1x256_S16896x256_0_1 (broadcastInDim S1x256 ![1] bcast_S256_S1x256_1 ((launchContents m c) (Proc.devRef .tc main_arg10))))) bitsLt_bf16_f32 : FVec Ideal S16896x256 .bf16) (ix2 r i)
      = resB (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg10)) r i :=
  (congrFun (show (truncf .bf16 (mulf (mulf (res_main_v92 (launchContents m c)) (broadcastInDim S16896x256 ![0, 1] bcast_S16896x1_S16896x256_0_1 (Host.rsqrt (addf (Host.divf (broadcastInDim S16896x1 ![0] bcast_S16896_S16896x1_0 (Host.reduceAdd (mulf (res_main_v92 (launchContents m c)) (res_main_v92 (launchContents m c))) (constant S_ .f32 0x00000000#32) reducesTo_S16896x256_S16896_d1 h_S_)) (broadcastInDim S16896x1 ![] bcast_S_S16896x1 (constant S_ .f32 0x43800000#32))) (broadcastInDim S16896x1 ![] bcast_S_S16896x1 (constant S_ .f32 0x358637BD#32)))))) (broadcastInDim S16896x256 ![0, 1] bcast_S1x256_S16896x256_0_1 (broadcastInDim S1x256 ![1] bcast_S256_S1x256_1 ((launchContents m c) (Proc.devRef .tc main_arg10))))) bitsLt_bf16_f32 : FVec Ideal S16896x256 .bf16) = rmsed (m ((c.tc : Thread nD τ).loc main_arg10)) (gatedM (m ((c.tc : Thread nD τ).loc main_arg5)) (m ((c.tc : Thread nD τ).loc main_arg6)) (Z (m ((c.tc : Thread nD τ).loc main_arg0)) (m ((c.tc : Thread nD τ).loc main_arg1)) (m ((c.tc : Thread nD τ).loc main_arg2))) (Gv (m ((c.tc : Thread nD τ).loc main_arg0)) (m ((c.tc : Thread nD τ).loc main_arg1)) (m ((c.tc : Thread nD τ).loc main_arg2)) (m ((c.tc : Thread nD τ).loc main_arg7)))) from rfl) (ix2 r i)).trans (ob_at (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg10)) r i)

/-- The reference's fifth result at an index. -/
theorem res204_at (m : (ℓ : Loc nD τ sig) → Buf (Elt Ideal) ℓ) (c : Dev nD) (r : Fin 16896) (i : Fin 384) :
    (truncf .bf16 (mulf (shapeCast _ (concatenate S16896x6x64 0 [⟨S16384x6x64, (shapeCast _ (shapeCast _ (concatenate S2x8192x6x2x2x16 4 [⟨S2x8192x6x2x1x16, (broadcastInDim S2x8192x6x2x1x16 ![0, 1, 2, 3, 5] bcast_S2x8192x6x2x16_S2x8192x6x2x1x16_0_1_2_3_5 (subf (mulf (res_main_v126 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v129 (launchContents m c))))) (mulf (res_main_v128 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v130 (launchContents m c)))))))⟩, ⟨S2x8192x6x2x1x16, (broadcastInDim S2x8192x6x2x1x16 ![0, 1, 2, 3, 5] bcast_S2x8192x6x2x16_S2x8192x6x2x1x16_0_1_2_3_5 (addf (mulf (res_main_v128 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v129 (launchContents m c))))) (mulf (res_main_v126 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v130 (launchContents m c)))))))⟩] concatenates_S2x8192x6x2x1x16_S2x8192x6x2x1x16_S2x8192x6x2x2x16_d4) shapeCasts_S2x8192x6x2x2x16_S2x8192x6x64) shapeCasts_S2x8192x6x64_S16384x6x64)⟩, ⟨S512x6x64, (extractStridedSlice S512x6x64 ![16384, 0, 0] (res_main_v121 (launchContents m c)) slices_S16896x6x64_S512x6x64_16384_0_0)⟩] concatenates_S16384x6x64_S512x6x64_S16896x6x64_d0) shapeCasts_S16896x6x64_S16896x384) (broadcastInDim S16896x384 ![] bcast_S_S16896x384 (constant S_ .f32 0x3E000000#32))) bitsLt_bf16_f32 : FVec Ideal S16896x384 .bf16) (ix2 r i)
      = resQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) r i :=
  (congrFun (show (truncf .bf16 (mulf (shapeCast _ (concatenate S16896x6x64 0 [⟨S16384x6x64, (shapeCast _ (shapeCast _ (concatenate S2x8192x6x2x2x16 4 [⟨S2x8192x6x2x1x16, (broadcastInDim S2x8192x6x2x1x16 ![0, 1, 2, 3, 5] bcast_S2x8192x6x2x16_S2x8192x6x2x1x16_0_1_2_3_5 (subf (mulf (res_main_v126 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v129 (launchContents m c))))) (mulf (res_main_v128 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v130 (launchContents m c)))))))⟩, ⟨S2x8192x6x2x1x16, (broadcastInDim S2x8192x6x2x1x16 ![0, 1, 2, 3, 5] bcast_S2x8192x6x2x16_S2x8192x6x2x1x16_0_1_2_3_5 (addf (mulf (res_main_v128 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v129 (launchContents m c))))) (mulf (res_main_v126 (launchContents m c)) (broadcastInDim S2x8192x6x2x16 ![0, 1, 2, 3, 4] bcast_S1x8192x1x2x16_S2x8192x6x2x16_0_1_2_3_4 (broadcastInDim S1x8192x1x2x16 ![1, 2, 3, 4] bcast_S8192x1x2x16_S1x8192x1x2x16_1_2_3_4 (res_main_v130 (launchContents m c)))))))⟩] concatenates_S2x8192x6x2x1x16_S2x8192x6x2x1x16_S2x8192x6x2x2x16_d4) shapeCasts_S2x8192x6x2x2x16_S2x8192x6x64) shapeCasts_S2x8192x6x64_S16384x6x64)⟩, ⟨S512x6x64, (extractStridedSlice S512x6x64 ![16384, 0, 0] (res_main_v121 (launchContents m c)) slices_S16896x6x64_S512x6x64_16384_0_0)⟩] concatenates_S16384x6x64_S512x6x64_S16896x6x64_d0) shapeCasts_S16896x6x64_S16896x384) (broadcastInDim S16896x384 ![] bcast_S_S16896x384 (constant S_ .f32 0x3E000000#32))) bitsLt_bf16_f32 : FVec Ideal S16896x384 .bf16) = turned6 (m ((c.tc : Thread nD τ).loc main_arg3)) (m ((c.tc : Thread nD τ).loc main_arg4)) (heads6 (m ((c.tc : Thread nD τ).loc main_arg0)) (m ((c.tc : Thread nD τ).loc main_arg1)) (m ((c.tc : Thread nD τ).loc main_arg2)) (m ((c.tc : Thread nD τ).loc main_arg8))) from rfl) (ix2 r i)).trans (qc_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) r i)

/-- The reference's sixth result at an index. -/
theorem res205_at (m : (ℓ : Loc nD τ sig) → Buf (Elt Ideal) ℓ) (c : Dev nD) (r : Fin 16896) (i : Fin 128) :
    (truncf .bf16 (shapeCast _ (concatenate S16896x2x64 0 [⟨S16384x2x64, (shapeCast _ (shapeCast _ (concatenate S2x8192x2x2x2x16 4 [⟨S2x8192x2x2x1x16, (broadcastInDim S2x8192x2x2x1x16 ![0, 1, 2, 3, 5] bcast_S2x8192x2x2x16_S2x8192x2x2x1x16_0_1_2_3_5 (subf (mulf (res_main_v173 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v176 (launchContents m c))))) (mulf (res_main_v175 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v177 (launchContents m c)))))))⟩, ⟨S2x8192x2x2x1x16, (broadcastInDim S2x8192x2x2x1x16 ![0, 1, 2, 3, 5] bcast_S2x8192x2x2x16_S2x8192x2x2x1x16_0_1_2_3_5 (addf (mulf (res_main_v175 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v176 (launchContents m c))))) (mulf (res_main_v173 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v177 (launchContents m c)))))))⟩] concatenates_S2x8192x2x2x1x16_S2x8192x2x2x1x16_S2x8192x2x2x2x16_d4) shapeCasts_S2x8192x2x2x2x16_S2x8192x2x64) shapeCasts_S2x8192x2x64_S16384x2x64)⟩, ⟨S512x2x64, (extractStridedSlice S512x2x64 ![16384, 0, 0] (res_main_v168 (launchContents m c)) slices_S16896x2x64_S512x2x64_16384_0_0)⟩] concatenates_S16384x2x64_S512x2x64_S16896x2x64_d0) shapeCasts_S16896x2x64_S16896x128) bitsLt_bf16_f32 : FVec Ideal S16896x128 .bf16) (ix2 r i)
      = resK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) r i :=
  (congrFun (show (truncf .bf16 (shapeCast _ (concatenate S16896x2x64 0 [⟨S16384x2x64, (shapeCast _ (shapeCast _ (concatenate S2x8192x2x2x2x16 4 [⟨S2x8192x2x2x1x16, (broadcastInDim S2x8192x2x2x1x16 ![0, 1, 2, 3, 5] bcast_S2x8192x2x2x16_S2x8192x2x2x1x16_0_1_2_3_5 (subf (mulf (res_main_v173 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v176 (launchContents m c))))) (mulf (res_main_v175 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v177 (launchContents m c)))))))⟩, ⟨S2x8192x2x2x1x16, (broadcastInDim S2x8192x2x2x1x16 ![0, 1, 2, 3, 5] bcast_S2x8192x2x2x16_S2x8192x2x2x1x16_0_1_2_3_5 (addf (mulf (res_main_v175 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v176 (launchContents m c))))) (mulf (res_main_v173 (launchContents m c)) (broadcastInDim S2x8192x2x2x16 ![0, 1, 2, 3, 4] bcast_S1x8192x1x2x16_S2x8192x2x2x16_0_1_2_3_4 (broadcastInDim S1x8192x1x2x16 ![1, 2, 3, 4] bcast_S8192x1x2x16_S1x8192x1x2x16_1_2_3_4 (res_main_v177 (launchContents m c)))))))⟩] concatenates_S2x8192x2x2x1x16_S2x8192x2x2x1x16_S2x8192x2x2x2x16_d4) shapeCasts_S2x8192x2x2x2x16_S2x8192x2x64) shapeCasts_S2x8192x2x64_S16384x2x64)⟩, ⟨S512x2x64, (extractStridedSlice S512x2x64 ![16384, 0, 0] (res_main_v168 (launchContents m c)) slices_S16896x2x64_S512x2x64_16384_0_0)⟩] concatenates_S16384x2x64_S512x2x64_S16896x2x64_d0) shapeCasts_S16896x2x64_S16896x128) bitsLt_bf16_f32 : FVec Ideal S16896x128 .bf16) = turned2 (m ((c.tc : Thread nD τ).loc main_arg3)) (m ((c.tc : Thread nD τ).loc main_arg4)) (heads2 (m ((c.tc : Thread nD τ).loc main_arg0)) (m ((c.tc : Thread nD τ).loc main_arg1)) (m ((c.tc : Thread nD τ).loc main_arg2)) (m ((c.tc : Thread nD τ).loc main_arg9))) from rfl) (ix2 r i)).trans (kc_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) r i)

/-- The reference's seventh result at an index. -/
theorem res206_at (m : (ℓ : Loc nD τ sig) → Buf (Elt Ideal) ℓ) (c : Dev nD) (r : Fin 16896) (i : Fin 128) :
    (truncf .bf16 (extractStridedSlice S16896x128 ![0, 2176] (res_main_v40 (launchContents m c)) slices_S16896x2304_S16896x128_0_2176) bitsLt_bf16_f32 : FVec Ideal S16896x128 .bf16) (ix2 r i)
      = pcol (m ((c.tc : Thread nD τ).loc main_arg0)) (m ((c.tc : Thread nD τ).loc main_arg1)) (m ((c.tc : Thread nD τ).loc main_arg2)) r ⟨2176 + i.val, by omega⟩ :=
  (congrFun (show (truncf .bf16 (extractStridedSlice S16896x128 ![0, 2176] (res_main_v40 (launchContents m c)) slices_S16896x2304_S16896x128_0_2176) bitsLt_bf16_f32 : FVec Ideal S16896x128 .bf16) = truncf .bf16 (extractStridedSlice S16896x128 ![0, 2176] (P (m ((c.tc : Thread nD τ).loc main_arg0)) (m ((c.tc : Thread nD τ).loc main_arg1)) (m ((c.tc : Thread nD τ).loc main_arg2))) slices_S16896x2304_S16896x128_0_2176) bitsLt_bf16_f32 from rfl) (ix2 r i)).trans (vc_at (m ((c.tc : Thread nD τ).loc main_arg0)) (m ((c.tc : Thread nD τ).loc main_arg1)) (m ((c.tc : Thread nD τ).loc main_arg2)) r i)

end Cert.Reference3Ideal.Inp
-- ==== Proof.lean ====
module

public import proofs.«01_k».proof.Defs
public import proofs.«01_k».proof.Proof.Gen.KernelIdeal.Value
public import proofs.«01_k».proof.Proof.Gen.ReferenceIdeal.Run
public import proofs.«01_k».proof.Proof.Final
public import proofs.«01_k».proof.Proof.RefEq
public import proofs.«01_k».proof.Proof.Pre
public import proofs.«01_k».proof.Proof.Final2
public import proofs.«01_k».proof.Proof.Ref2
public import proofs.«01_k».proof.Proof.Final3
public import proofs.«01_k».proof.Proof.Ref3
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Kernel2.Gen.facts Cert.Kernel2Ideal.Gen.facts Cert.Reference2Ideal.Gen.facts Cert.Kernel3.Gen.facts Cert.Kernel3Ideal.Gen.facts Cert.Reference3Ideal.Gen.facts Cert.Pre_finite.Gen.facts

/-- The reference runs, leaves its arguments as they were and every semaphore at zero. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's idealization names the inverse width. -/
theorem preserves : Cert.preserves_Kernel_KernelIdeal :=
  IdealRules.named_const.statement Cert.KernelIdeal.κ "inv_width" .f32 0x3B2AAAAB#32 ((384⁻¹ : ℝ) : EReal) rfl

/-- Kernel and reference end with equal results where the queries and keys are finite. -/
theorem algebraic : Cert.algebraic_KernelIdeal_ReferenceIdeal_pre_finite := by
  pair_intro
  · run_from Cert.KernelIdeal.Value.run_blocks m g
  · run_from Cert.ReferenceIdeal.Value.run m' g'
    obtain ⟨hq, hk⟩ := Cert.Pre_finite.Gen.real _ _ _ _ (hpre c)
    obtain ⟨h0, h1, h2, h3⟩ := hagree c
    refine (Cert.ReferenceIdeal.Att.res_eq m' c).trans (Eq.trans ?_ (Cert.KernelIdeal.Att.final m c hq hk).symm)
    rw [h0, h1, h2, h3]
    funext i
    obtain ⟨r, x, rfl⟩ : ∃ (r : Fin 16896) (x : Fin 384), i = ix2 r x := ⟨i 0, i 1, eq_ix2 i⟩
    exact Cert.ReferenceIdeal.Att.result_at _ _ _ _ hq hk r x

/-- The reference of the output projection and the feed-forward part runs, leaves its arguments as they were and every
    semaphore at zero. -/
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Kernel and reference of the output projection and the feed-forward part end with equal results. -/
theorem algebraic2 : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7, h8, h9, h10, h11⟩ := hagree c
    rw [← h10, ← h11]
    refine (Cert.Reference2Ideal.Post.res_eq m' c).trans (Eq.trans ?_ (Cert.Kernel2Ideal.Post.final m c).symm)
    rw [h0, h1, h2, h3, h4, h5, h6, h7, h8, h9, h10, h11]
    funext i
    obtain ⟨r, x, rfl⟩ : ∃ (r : Fin 16896) (x : Fin 1024), i = ix2 r x := ⟨i 0, i 1, eq_ix2 i⟩
    exact Cert.Reference2Ideal.Post.whole_at _ _ _ _ _ _ _ _ _ _ _ _ r x

/-- The reference of the input projection runs, leaves its arguments as they were and every semaphore at zero. -/
theorem frame_ri3 : Cert.quiescent_Reference3Ideal := fun m ρ _ =>
  (θ_run Cert.Reference3Ideal.defs _ _).mono (fun r h => ⟨fun c => (h c).2.2.2.2.2.2.2, Idealize.ShloMosaic.sem_eq_zero_of_no_sems (by decide) r.2⟩)
    (Cert.Reference3Ideal.Value.run (F := Ideal) m ρ)

set_option maxHeartbeats 4000000 in
/-- Kernel and reference of the input projection end with equal results, all seven of them. -/
theorem algebraic3 : Cert.algebraic_Kernel3Ideal_Reference3Ideal := by
  pair_intro
  · run_from Cert.Kernel3Ideal.Value.run_blocks m g
  · run_from Cert.Reference3Ideal.Value.run m' g'
    · obtain ⟨h0, h1, h2, h3, h4, h5, h6, h7, h8, h9, h10⟩ := hagree c
      refine Eq.trans ?_ (Cert.Kernel3Ideal.Inp.final11 m c).symm
      funext i
      obtain ⟨r, x, rfl⟩ : ∃ (r : Fin 16896) (x : Fin 384), i = ix2 r x := ⟨i 0, i 1, eq_ix2 i⟩
      refine (Cert.Reference3Ideal.Inp.res200_at m' c r x).trans ?_
      rw [h0, h1, h2]
      rfl
    · obtain ⟨h0, h1, h2, h3, h4, h5, h6, h7, h8, h9, h10⟩ := hagree c
      refine Eq.trans ?_ (Cert.Kernel3Ideal.Inp.final12 m c).symm
      funext i
      obtain ⟨r, x, rfl⟩ : ∃ (r : Fin 16896) (x : Fin 384), i = ix2 r x := ⟨i 0, i 1, eq_ix2 i⟩
      refine (Cert.Reference3Ideal.Inp.res201_at m' c r x).trans ?_
      rw [h0, h1, h2]
      rfl
    · obtain ⟨h0, h1, h2, h3, h4, h5, h6, h7, h8, h9, h10⟩ := hagree c
      refine Eq.trans ?_ (Cert.Kernel3Ideal.Inp.final13 m c).symm
      funext i
      obtain ⟨r, x, rfl⟩ : ∃ (r : Fin 16896) (x : Fin 384), i = ix2 r x := ⟨i 0, i 1, eq_ix2 i⟩
      refine (Cert.Reference3Ideal.Inp.res202_at m' c r x).trans ?_
      rw [h0, h1, h2]
      rfl
    · obtain ⟨h0, h1, h2, h3, h4, h5, h6, h7, h8, h9, h10⟩ := hagree c
      rw [← h10]
      refine Eq.trans ?_ (Cert.Kernel3Ideal.Inp.final14 m c).symm
      funext i
      obtain ⟨r, x, rfl⟩ : ∃ (r : Fin 16896) (x : Fin 256), i = ix2 r x := ⟨i 0, i 1, eq_ix2 i⟩
      refine (Cert.Reference3Ideal.Inp.res203_at m' c r x).trans ?_
      rw [h0, h1, h2, h5, h6, h7, h10]
      rfl
    · obtain ⟨h0, h1, h2, h3, h4, h5, h6, h7, h8, h9, h10⟩ := hagree c
      refine Eq.trans ?_ (Cert.Kernel3Ideal.Inp.final15 m c).symm
      funext i
      obtain ⟨r, x, rfl⟩ : ∃ (r : Fin 16896) (x : Fin 384), i = ix2 r x := ⟨i 0, i 1, eq_ix2 i⟩
      refine (Cert.Reference3Ideal.Inp.res204_at m' c r x).trans ?_
      rw [h0, h1, h2, h3, h4, h8]
      rfl
    · obtain ⟨h0, h1, h2, h3, h4, h5, h6, h7, h8, h9, h10⟩ := hagree c
      refine Eq.trans ?_ (Cert.Kernel3Ideal.Inp.final16 m c).symm
      funext i
      obtain ⟨r, x, rfl⟩ : ∃ (r : Fin 16896) (x : Fin 128), i = ix2 r x := ⟨i 0, i 1, eq_ix2 i⟩
      refine (Cert.Reference3Ideal.Inp.res205_at m' c r x).trans ?_
      rw [h0, h1, h2, h3, h4, h9]
      rfl
    · obtain ⟨h0, h1, h2, h3, h4, h5, h6, h7, h8, h9, h10⟩ := hagree c
      refine Eq.trans ?_ (Cert.Kernel3Ideal.Inp.final17 m c).symm
      funext i
      obtain ⟨r, x, rfl⟩ : ∃ (r : Fin 16896) (x : Fin 128), i = ix2 r x := ⟨i 0, i 1, eq_ix2 i⟩
      refine (Cert.Reference3Ideal.Inp.res206_at m' c r x).trans ?_
      rw [h0, h1, h2]
      rfl

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    preserves, algebraic, trivial, algebraic2, trivial, algebraic3⟩

end Cert.Proof

end
